-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 1024, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v63) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 1024, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_v134) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S4x1024x1024x3 : Shape := ⟨4, ![4, 1024, 1024, 3]⟩
abbrev S4x1024x64 : Shape := ⟨3, ![4, 1024, 64]⟩
abbrev S4x1024 : Shape := ⟨2, ![4, 1024]⟩
abbrev S3x32 : Shape := ⟨2, ![3, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1024x64 : Shape := ⟨2, ![1024, 64]⟩
abbrev S64 : Shape := ⟨1, ![64]⟩
abbrev S_ : Shape := ⟨0, ![]⟩
abbrev S4x1024x1024 : Shape := ⟨3, ![4, 1024, 1024]⟩
abbrev S4x1x1024 : Shape := ⟨3, ![4, 1, 1024]⟩
abbrev S1 : Shape := ⟨1, ![1]⟩
abbrev S2 : Shape := ⟨1, ![2]⟩
abbrev S1x1x1 : Shape := ⟨3, ![1, 1, 1]⟩
abbrev S4x1024x32 : Shape := ⟨3, ![4, 1024, 32]⟩
abbrev S4x1024x1 : Shape := ⟨3, ![4, 1024, 1]⟩

class Facts : Prop where
  reducesTo_S4x1024x1024x3_S4x1024x1024_d3 : S4x1024x1024x3.ReducesTo [3] S4x1024x1024
  h_S_ : 0 < S_.numel
  bcast_S_S4x1024x1024 : S_.BroadcastsInDim S4x1024x1024 (![] : Fin 0 → Fin S4x1024x1024.rank)
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  reducesTo_S4x1024x1024_S4x1024_d2 : S4x1024x1024.ReducesTo [2] S4x1024
  bcast_S_S1 : S_.BroadcastsInDim S1 (![] : Fin 0 → Fin S1.rank)
  concatenates_S1_S1_S2_d0 : Shape.Concatenates [S1, S1] S2 0
  bcast_S_S1x1x1 : S_.BroadcastsInDim S1x1x1 (![] : Fin 0 → Fin S1x1x1.rank)
  slices_S2_S1_0 : S2.Slices ![0] S1
  shapeCasts_S1_S_ : S1.ShapeCasts S_
  slices_S2_S1_1 : S2.Slices ![1] S1
  natLt_32_64 : 32 < 64
  bcast_S1x1x1_S4x1024x1024_0_1_2 : S1x1x1.BroadcastsInDim S4x1024x1024 (![0, 1, 2] : Fin 3 → Fin S4x1024x1024.rank)
  sliceFits_S4x1024x1024_S4x1024x32 : S4x1024x1024.Slices (fun _ => 0) S4x1024x32
  slices_S4x1024x32_S4x1024x1_0_0_31 : S4x1024x32.Slices ![0, 0, 31] S4x1024x1
  bcast_S4x1024x1_S4x1024x1024_0_1_2 : S4x1024x1.BroadcastsInDim S4x1024x1024 (![0, 1, 2] : Fin 3 → Fin S4x1024x1024.rank)
  shapeCasts_S4x1024x1_S4x1024 : S4x1024x1.ShapeCasts S4x1024
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x64_0_1_2 : S4x1024x1.BroadcastsInDim S4x1024x64 (![0, 1, 2] : Fin 3 → Fin S4x1024x64.rank)

variable [Facts]

def fn_threefry2x32_part9 {F : FTy → Type} [FloatOps F] (arg0 : IVec S_ 32) (v163 : IVec S4x1024x1024 32) (v169 : IVec S4x1024x1024 32) (v170 : IVec S4x1024x1024 32) : IVec S4x1024x1024 32 × IVec S4x1024x1024 32 :=
  let v171 : IVec S4x1024x1024 32 := addi v163 v170
  let v172 : IVec S4x1024x1024 32 := broadcastInDim S4x1024x1024 ![] bcast_S_S4x1024x1024 arg0
  let v173 : IVec S4x1024x1024 32 := addi v169 v172
  let c_44 : IVec S_ 32 := constantI S_ 32 5#32
  let v174 : IVec S4x1024x1024 32 := broadcastInDim S4x1024x1024 ![] bcast_S_S4x1024x1024 c_44
  let v175 : IVec S4x1024x1024 32 := addi v173 v174
  (v171, v175)

def fn_threefry2x32_part8 {F : FTy → Type} [FloatOps F] (arg0 : IVec S_ 32) (v1 : IVec S_ 32) (v148 : IVec S4x1024x1024 32) (v149 : IVec S4x1024x1024 32) (v151 : IVec S4x1024x1024 32) : IVec S4x1024x1024 32 × IVec S4x1024x1024 32 :=
  let c_39 : IVec S_ 32 := constantI S_ 32 17#32
  let v152 : IVec S4x1024x1024 32 := broadcastInDim S4x1024x1024 ![] bcast_S_S4x1024x1024 c_39
  let v153 : IVec S4x1024x1024 32 := Host.shrui v148 v152
  let v154 : IVec S4x1024x1024 32 := ori v151 v153
  let v155 : IVec S4x1024x1024 32 := xori v149 v154
  let v156 : IVec S4x1024x1024 32 := addi v149 v155
  let c_40 : IVec S_ 32 := constantI S_ 32 26#32
  let v157 : IVec S4x1024x1024 32 := broadcastInDim S4x1024x1024 ![] bcast_S_S4x1024x1024 c_40
  let v158 : IVec S4x1024x1024 32 := Host.shli v155 v157
  let c_41 : IVec S_ 32 := constantI S_ 32 6#32
  let v159 : IVec S4x1024x1024 32 := broadcastInDim S4x1024x1024 ![] bcast_S_S4x1024x1024 c_41
  let v160 : IVec S4x1024x1024 32 := Host.shrui v155 v159
  let v161 : IVec S4x1024x1024 32 := ori v158 v160
  let v162 : IVec S4x1024x1024 32 := xori v156 v161
  let v163 : IVec S4x1024x1024 32 := addi v156 v162
  let c_42 : IVec S_ 32 := constantI S_ 32 6#32
  let v164 : IVec S4x1024x1024 32 := broadcastInDim S4x1024x1024 ![] bcast_S_S4x1024x1024 c_42
  let v165 : IVec S4x1024x1024 32 := Host.shli v162 v164
  let c_43 : IVec S_ 32 := constantI S_ 32 26#32
  let v166 : IVec S4x1024x1024 32 := broadcastInDim S4x1024x1024 ![] bcast_S_S4x1024x1024 c_43
  let v167 : IVec S4x1024x1024 32 := Host.shrui v162 v166
  let v168 : IVec S4x1024x1024 32 := ori v165 v167
  let v169 : IVec S4x1024x1024 32 := xori v163 v168
  let v170 : IVec S4x1024x1024 32 := broadcastInDim S4x1024x1024 ![] bcast_S_S4x1024x1024 v1
  fn_threefry2x32_part9 (F := F) arg0 v163 v169 v170

def fn_threefry2x32_part7 {F : FTy → Type} [FloatOps F] (arg0 : IVec S_ 32) (arg1 : IVec S_ 32) (v1 : IVec S_ 32) (v128 : IVec S4x1024x1024 32) (v129 : IVec S4x1024x1024 32) (v131 : IVec S4x1024x1024 32) (c_34 : IVec S_ 32) : IVec S4x1024x1024 32 × IVec S4x1024x1024 32 :=
  let v132 : IVec S4x1024x1024 32 := broadcastInDim S4x1024x1024 ![] bcast_S_S4x1024x1024 c_34
  let v133 : IVec S4x1024x1024 32 := Host.shrui v128 v132
  let v134 : IVec S4x1024x1024 32 := ori v131 v133
  let v135 : IVec S4x1024x1024 32 := xori v129 v134
  let v136 : IVec S4x1024x1024 32 := broadcastInDim S4x1024x1024 ![] bcast_S_S4x1024x1024 arg1
  let v137 : IVec S4x1024x1024 32 := addi v129 v136
  let v138 : IVec S4x1024x1024 32 := broadcastInDim S4x1024x1024 ![] bcast_S_S4x1024x1024 v1
  let v139 : IVec S4x1024x1024 32 := addi v135 v138
  let c_35 : IVec S_ 32 := constantI S_ 32 4#32
  let v140 : IVec S4x1024x1024 32 := broadcastInDim S4x1024x1024 ![] bcast_S_S4x1024x1024 c_35
  let v141 : IVec S4x1024x1024 32 := addi v139 v140
  let v142 : IVec S4x1024x1024 32 := addi v137 v141
  let c_36 : IVec S_ 32 := constantI S_ 32 13#32
  let v143 : IVec S4x1024x1024 32 := broadcastInDim S4x1024x1024 ![] bcast_S_S4x1024x1024 c_36
  let v144 : IVec S4x1024x1024 32 := Host.shli v141 v143
  let c_37 : IVec S_ 32 := constantI S_ 32 19#32
  let v145 : IVec S4x1024x1024 32 := broadcastInDim S4x1024x1024 ![] bcast_S_S4x1024x1024 c_37
  let v146 : IVec S4x1024x1024 32 := Host.shrui v141 v145
  let v147 : IVec S4x1024x1024 32 := ori v144 v146
  let v148 : IVec S4x1024x1024 32 := xori v142 v147
  let v149 : IVec S4x1024x1024 32 := addi v142 v148
  let c_38 : IVec S_ 32 := constantI S_ 32 15#32
  let v150 : IVec S4x1024x1024 32 := broadcastInDim S4x1024x1024 ![] bcast_S_S4x1024x1024 c_38
  let v151 : IVec S4x1024x1024 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4x1024x1024 32) (v113 : IVec S4x1024x1024 32) : IVec S4x1024x1024 32 × IVec S4x1024x1024 32 :=
  let v114 : IVec S4x1024x1024 32 := xori v108 v113
  let v115 : IVec S4x1024x1024 32 := addi v108 v114
  let c_29 : IVec S_ 32 := constantI S_ 32 29#32
  let v116 : IVec S4x1024x1024 32 := broadcastInDim S4x1024x1024 ![] bcast_S_S4x1024x1024 c_29
  let v117 : IVec S4x1024x1024 32 := Host.shli v114 v116
  let c_30 : IVec S_ 32 := constantI S_ 32 3#32
  let v118 : IVec S4x1024x1024 32 := broadcastInDim S4x1024x1024 ![] bcast_S_S4x1024x1024 c_30
  let v119 : IVec S4x1024x1024 32 := Host.shrui v114 v118
  let v120 : IVec S4x1024x1024 32 := ori v117 v119
  let v121 : IVec S4x1024x1024 32 := xori v115 v120
  let v122 : IVec S4x1024x1024 32 := addi v115 v121
  let c_31 : IVec S_ 32 := constantI S_ 32 16#32
  let v123 : IVec S4x1024x1024 32 := broadcastInDim S4x1024x1024 ![] bcast_S_S4x1024x1024 c_31
  let v124 : IVec S4x1024x1024 32 := Host.shli v121 v123
  let c_32 : IVec S_ 32 := constantI S_ 32 16#32
  let v125 : IVec S4x1024x1024 32 := broadcastInDim S4x1024x1024 ![] bcast_S_S4x1024x1024 c_32
  let v126 : IVec S4x1024x1024 32 := Host.shrui v121 v125
  let v127 : IVec S4x1024x1024 32 := ori v124 v126
  let v128 : IVec S4x1024x1024 32 := xori v122 v127
  let v129 : IVec S4x1024x1024 32 := addi v122 v128
  let c_33 : IVec S_ 32 := constantI S_ 32 24#32
  let v130 : IVec S4x1024x1024 32 := broadcastInDim S4x1024x1024 ![] bcast_S_S4x1024x1024 c_33
  let v131 : IVec S4x1024x1024 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4x1024x1024 32) (v94 : IVec S4x1024x1024 32) : IVec S4x1024x1024 32 × IVec S4x1024x1024 32 :=
  let v95 : IVec S4x1024x1024 32 := addi v88 v94
  let c_24 : IVec S_ 32 := constantI S_ 32 6#32
  let v96 : IVec S4x1024x1024 32 := broadcastInDim S4x1024x1024 ![] bcast_S_S4x1024x1024 c_24
  let v97 : IVec S4x1024x1024 32 := Host.shli v94 v96
  let c_25 : IVec S_ 32 := constantI S_ 32 26#32
  let v98 : IVec S4x1024x1024 32 := broadcastInDim S4x1024x1024 ![] bcast_S_S4x1024x1024 c_25
  let v99 : IVec S4x1024x1024 32 := Host.shrui v94 v98
  let v100 : IVec S4x1024x1024 32 := ori v97 v99
  let v101 : IVec S4x1024x1024 32 := xori v95 v100
  let v102 : IVec S4x1024x1024 32 := broadcastInDim S4x1024x1024 ![] bcast_S_S4x1024x1024 arg0
  let v103 : IVec S4x1024x1024 32 := addi v95 v102
  let v104 : IVec S4x1024x1024 32 := broadcastInDim S4x1024x1024 ![] bcast_S_S4x1024x1024 arg1
  let v105 : IVec S4x1024x1024 32 := addi v101 v104
  let c_26 : IVec S_ 32 := constantI S_ 32 3#32
  let v106 : IVec S4x1024x1024 32 := broadcastInDim S4x1024x1024 ![] bcast_S_S4x1024x1024 c_26
  let v107 : IVec S4x1024x1024 32 := addi v105 v106
  let v108 : IVec S4x1024x1024 32 := addi v103 v107
  let c_27 : IVec S_ 32 := constantI S_ 32 17#32
  let v109 : IVec S4x1024x1024 32 := broadcastInDim S4x1024x1024 ![] bcast_S_S4x1024x1024 c_27
  let v110 : IVec S4x1024x1024 32 := Host.shli v107 v109
  let c_28 : IVec S_ 32 := constantI S_ 32 15#32
  let v111 : IVec S4x1024x1024 32 := broadcastInDim S4x1024x1024 ![] bcast_S_S4x1024x1024 c_28
  let v112 : IVec S4x1024x1024 32 := Host.shrui v107 v111
  let v113 : IVec S4x1024x1024 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4x1024x1024 32) (v74 : IVec S4x1024x1024 32) (v75 : IVec S4x1024x1024 32) : IVec S4x1024x1024 32 × IVec S4x1024x1024 32 :=
  let v76 : IVec S4x1024x1024 32 := Host.shli v73 v75
  let c_19 : IVec S_ 32 := constantI S_ 32 19#32
  let v77 : IVec S4x1024x1024 32 := broadcastInDim S4x1024x1024 ![] bcast_S_S4x1024x1024 c_19
  let v78 : IVec S4x1024x1024 32 := Host.shrui v73 v77
  let v79 : IVec S4x1024x1024 32 := ori v76 v78
  let v80 : IVec S4x1024x1024 32 := xori v74 v79
  let v81 : IVec S4x1024x1024 32 := addi v74 v80
  let c_20 : IVec S_ 32 := constantI S_ 32 15#32
  let v82 : IVec S4x1024x1024 32 := broadcastInDim S4x1024x1024 ![] bcast_S_S4x1024x1024 c_20
  let v83 : IVec S4x1024x1024 32 := Host.shli v80 v82
  let c_21 : IVec S_ 32 := constantI S_ 32 17#32
  let v84 : IVec S4x1024x1024 32 := broadcastInDim S4x1024x1024 ![] bcast_S_S4x1024x1024 c_21
  let v85 : IVec S4x1024x1024 32 := Host.shrui v80 v84
  let v86 : IVec S4x1024x1024 32 := ori v83 v85
  let v87 : IVec S4x1024x1024 32 := xori v81 v86
  let v88 : IVec S4x1024x1024 32 := addi v81 v87
  let c_22 : IVec S_ 32 := constantI S_ 32 26#32
  let v89 : IVec S4x1024x1024 32 := broadcastInDim S4x1024x1024 ![] bcast_S_S4x1024x1024 c_22
  let v90 : IVec S4x1024x1024 32 := Host.shli v87 v89
  let c_23 : IVec S_ 32 := constantI S_ 32 6#32
  let v91 : IVec S4x1024x1024 32 := broadcastInDim S4x1024x1024 ![] bcast_S_S4x1024x1024 c_23
  let v92 : IVec S4x1024x1024 32 := Host.shrui v87 v91
  let v93 : IVec S4x1024x1024 32 := ori v90 v92
  let v94 : IVec S4x1024x1024 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4x1024x1024 32) (v54 : IVec S4x1024x1024 32) (v56 : IVec S4x1024x1024 32) : IVec S4x1024x1024 32 × IVec S4x1024x1024 32 :=
  let c_14 : IVec S_ 32 := constantI S_ 32 16#32
  let v57 : IVec S4x1024x1024 32 := broadcastInDim S4x1024x1024 ![] bcast_S_S4x1024x1024 c_14
  let v58 : IVec S4x1024x1024 32 := Host.shrui v53 v57
  let v59 : IVec S4x1024x1024 32 := ori v56 v58
  let v60 : IVec S4x1024x1024 32 := xori v54 v59
  let v61 : IVec S4x1024x1024 32 := addi v54 v60
  let c_15 : IVec S_ 32 := constantI S_ 32 24#32
  let v62 : IVec S4x1024x1024 32 := broadcastInDim S4x1024x1024 ![] bcast_S_S4x1024x1024 c_15
  let v63 : IVec S4x1024x1024 32 := Host.shli v60 v62
  let c_16 : IVec S_ 32 := constantI S_ 32 8#32
  let v64 : IVec S4x1024x1024 32 := broadcastInDim S4x1024x1024 ![] bcast_S_S4x1024x1024 c_16
  let v65 : IVec S4x1024x1024 32 := Host.shrui v60 v64
  let v66 : IVec S4x1024x1024 32 := ori v63 v65
  let v67 : IVec S4x1024x1024 32 := xori v61 v66
  let v68 : IVec S4x1024x1024 32 := broadcastInDim S4x1024x1024 ![] bcast_S_S4x1024x1024 v1
  let v69 : IVec S4x1024x1024 32 := addi v61 v68
  let v70 : IVec S4x1024x1024 32 := broadcastInDim S4x1024x1024 ![] bcast_S_S4x1024x1024 arg0
  let v71 : IVec S4x1024x1024 32 := addi v67 v70
  let c_17 : IVec S_ 32 := constantI S_ 32 2#32
  let v72 : IVec S4x1024x1024 32 := broadcastInDim S4x1024x1024 ![] bcast_S_S4x1024x1024 c_17
  let v73 : IVec S4x1024x1024 32 := addi v71 v72
  let v74 : IVec S4x1024x1024 32 := addi v69 v73
  let c_18 : IVec S_ 32 := constantI S_ 32 13#32
  let v75 : IVec S4x1024x1024 32 := broadcastInDim S4x1024x1024 ![] bcast_S_S4x1024x1024 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4x1024x1024 32) (v37 : IVec S4x1024x1024 32) (c_8 : IVec S_ 32) : IVec S4x1024x1024 32 × IVec S4x1024x1024 32 :=
  let v38 : IVec S4x1024x1024 32 := broadcastInDim S4x1024x1024 ![] bcast_S_S4x1024x1024 c_8
  let v39 : IVec S4x1024x1024 32 := addi v37 v38
  let v40 : IVec S4x1024x1024 32 := addi v35 v39
  let c_9 : IVec S_ 32 := constantI S_ 32 17#32
  let v41 : IVec S4x1024x1024 32 := broadcastInDim S4x1024x1024 ![] bcast_S_S4x1024x1024 c_9
  let v42 : IVec S4x1024x1024 32 := Host.shli v39 v41
  let c_10 : IVec S_ 32 := constantI S_ 32 15#32
  let v43 : IVec S4x1024x1024 32 := broadcastInDim S4x1024x1024 ![] bcast_S_S4x1024x1024 c_10
  let v44 : IVec S4x1024x1024 32 := Host.shrui v39 v43
  let v45 : IVec S4x1024x1024 32 := ori v42 v44
  let v46 : IVec S4x1024x1024 32 := xori v40 v45
  let v47 : IVec S4x1024x1024 32 := addi v40 v46
  let c_11 : IVec S_ 32 := constantI S_ 32 29#32
  let v48 : IVec S4x1024x1024 32 := broadcastInDim S4x1024x1024 ![] bcast_S_S4x1024x1024 c_11
  let v49 : IVec S4x1024x1024 32 := Host.shli v46 v48
  let c_12 : IVec S_ 32 := constantI S_ 32 3#32
  let v50 : IVec S4x1024x1024 32 := broadcastInDim S4x1024x1024 ![] bcast_S_S4x1024x1024 c_12
  let v51 : IVec S4x1024x1024 32 := Host.shrui v46 v50
  let v52 : IVec S4x1024x1024 32 := ori v49 v51
  let v53 : IVec S4x1024x1024 32 := xori v47 v52
  let v54 : IVec S4x1024x1024 32 := addi v47 v53
  let c_13 : IVec S_ 32 := constantI S_ 32 16#32
  let v55 : IVec S4x1024x1024 32 := broadcastInDim S4x1024x1024 ![] bcast_S_S4x1024x1024 c_13
  let v56 : IVec S4x1024x1024 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4x1024x1024 32) (v18 : IVec S4x1024x1024 32) : IVec S4x1024x1024 32 × IVec S4x1024x1024 32 :=
  let v19 : IVec S4x1024x1024 32 := xori v13 v18
  let v20 : IVec S4x1024x1024 32 := addi v13 v19
  let c_4 : IVec S_ 32 := constantI S_ 32 26#32
  let v21 : IVec S4x1024x1024 32 := broadcastInDim S4x1024x1024 ![] bcast_S_S4x1024x1024 c_4
  let v22 : IVec S4x1024x1024 32 := Host.shli v19 v21
  let c_5 : IVec S_ 32 := constantI S_ 32 6#32
  let v23 : IVec S4x1024x1024 32 := broadcastInDim S4x1024x1024 ![] bcast_S_S4x1024x1024 c_5
  let v24 : IVec S4x1024x1024 32 := Host.shrui v19 v23
  let v25 : IVec S4x1024x1024 32 := ori v22 v24
  let v26 : IVec S4x1024x1024 32 := xori v20 v25
  let v27 : IVec S4x1024x1024 32 := addi v20 v26
  let c_6 : IVec S_ 32 := constantI S_ 32 6#32
  let v28 : IVec S4x1024x1024 32 := broadcastInDim S4x1024x1024 ![] bcast_S_S4x1024x1024 c_6
  let v29 : IVec S4x1024x1024 32 := Host.shli v26 v28
  let c_7 : IVec S_ 32 := constantI S_ 32 26#32
  let v30 : IVec S4x1024x1024 32 := broadcastInDim S4x1024x1024 ![] bcast_S_S4x1024x1024 c_7
  let v31 : IVec S4x1024x1024 32 := Host.shrui v26 v30
  let v32 : IVec S4x1024x1024 32 := ori v29 v31
  let v33 : IVec S4x1024x1024 32 := xori v27 v32
  let v34 : IVec S4x1024x1024 32 := broadcastInDim S4x1024x1024 ![] bcast_S_S4x1024x1024 arg1
  let v35 : IVec S4x1024x1024 32 := addi v27 v34
  let v36 : IVec S4x1024x1024 32 := broadcastInDim S4x1024x1024 ![] bcast_S_S4x1024x1024 v1
  let v37 : IVec S4x1024x1024 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4x1024x1024 32) (arg3 : IVec S4x1024x1024 32) : IVec S4x1024x1024 32 × IVec S4x1024x1024 32 :=
  let v0 : IVec S_ 32 := xori arg0 arg1
  let c : IVec S_ 32 := constantI S_ 32 466688986#32
  let v1 : IVec S_ 32 := xori v0 c
  let v2 : IVec S4x1024x1024 32 := broadcastInDim S4x1024x1024 ![] bcast_S_S4x1024x1024 arg0
  let v3 : IVec S4x1024x1024 32 := addi arg2 v2
  let v4 : IVec S4x1024x1024 32 := broadcastInDim S4x1024x1024 ![] bcast_S_S4x1024x1024 arg1
  let v5 : IVec S4x1024x1024 32 := addi arg3 v4
  let v6 : IVec S4x1024x1024 32 := addi v3 v5
  let c_0 : IVec S_ 32 := constantI S_ 32 13#32
  let v7 : IVec S4x1024x1024 32 := broadcastInDim S4x1024x1024 ![] bcast_S_S4x1024x1024 c_0
  let v8 : IVec S4x1024x1024 32 := Host.shli v5 v7
  let c_1 : IVec S_ 32 := constantI S_ 32 19#32
  let v9 : IVec S4x1024x1024 32 := broadcastInDim S4x1024x1024 ![] bcast_S_S4x1024x1024 c_1
  let v10 : IVec S4x1024x1024 32 := Host.shrui v5 v9
  let v11 : IVec S4x1024x1024 32 := ori v8 v10
  let v12 : IVec S4x1024x1024 32 := xori v6 v11
  let v13 : IVec S4x1024x1024 32 := addi v6 v12
  let c_2 : IVec S_ 32 := constantI S_ 32 15#32
  let v14 : IVec S4x1024x1024 32 := broadcastInDim S4x1024x1024 ![] bcast_S_S4x1024x1024 c_2
  let v15 : IVec S4x1024x1024 32 := Host.shli v12 v14
  let c_3 : IVec S_ 32 := constantI S_ 32 17#32
  let v16 : IVec S4x1024x1024 32 := broadcastInDim S4x1024x1024 ![] bcast_S_S4x1024x1024 c_3
  let v17 : IVec S4x1024x1024 32 := Host.shrui v12 v16
  let v18 : IVec S4x1024x1024 32 := ori v15 v17
  fn_threefry2x32_part1 (F := F) arg0 arg1 v1 v13 v18

def fn_uniform_part1 {F : FTy → Type} [FloatOps F] (v2 : FVec F S1x1x1 .f32) (v3 : FVec F S1x1x1 .f32) (v5 : IVec S_ 32) (v7 : IVec S_ 32) (v18 : IVec S4x1024x1024 64) (v19 : IVec S4x1024x1024 64) : FVec F S4x1024x1024 .f32 :=
  let v20 : IVec S4x1024x1024 64 := Host.shrui v18 v19
  let v21 : IVec S4x1024x1024 32 := (trunci 32 · natLt_32_64) v18
  let v22 : IVec S4x1024x1024 32 := (trunci 32 · natLt_32_64) v20
  let v23_0 : IVec S4x1024x1024 32 := (fn_threefry2x32 (F := F) v5 v7 v22 v21).1
  let v23_1 : IVec S4x1024x1024 32 := (fn_threefry2x32 (F := F) v5 v7 v22 v21).2
  let v24 : IVec S4x1024x1024 32 := xori v23_0 v23_1
  let c_3 : IVec S_ 32 := constantI S_ 32 9#32
  let v25 : IVec S4x1024x1024 32 := broadcastInDim S4x1024x1024 ![] bcast_S_S4x1024x1024 c_3
  let v26 : IVec S4x1024x1024 32 := Host.shrui v24 v25
  let c_4 : IVec S_ 32 := constantI S_ 32 1065353216#32
  let v27 : IVec S4x1024x1024 32 := broadcastInDim S4x1024x1024 ![] bcast_S_S4x1024x1024 c_4
  let v28 : IVec S4x1024x1024 32 := ori v26 v27
  let v29 : FVec F S4x1024x1024 .f32 := bitcastToFloat .f32 v28
  let cst : FVec F S_ .f32 := constant S_ .f32 0x3F800000#32
  let v30 : FVec F S4x1024x1024 .f32 := broadcastInDim S4x1024x1024 ![] bcast_S_S4x1024x1024 cst
  let v31 : FVec F S4x1024x1024 .f32 := subf v29 v30
  let v32 : FVec F S1x1x1 .f32 := subf v3 v2
  let v33 : FVec F S4x1024x1024 .f32 := broadcastInDim S4x1024x1024 ![0, 1, 2] bcast_S1x1x1_S4x1024x1024_0_1_2 v32
  let v34 : FVec F S4x1024x1024 .f32 := mulf v31 v33
  let v35 : FVec F S4x1024x1024 .f32 := broadcastInDim S4x1024x1024 ![0, 1, 2] bcast_S1x1x1_S4x1024x1024_0_1_2 v2
  let v36 : FVec F S4x1024x1024 .f32 := addf v34 v35
  let v37 : FVec F S4x1024x1024 .f32 := broadcastInDim S4x1024x1024 ![0, 1, 2] bcast_S1x1x1_S4x1024x1024_0_1_2 v2
  let v38 : FVec F S4x1024x1024 .f32 := maximumf v37 v36
  v38

def fn_uniform {F : FTy → Type} [FloatOps F] (arg0 : IVec S2 32) (arg1 : FVec F S_ .f32) (arg2 : FVec F S_ .f32) : FVec F S4x1024x1024 .f32 :=
  let v0 : FVec F S_ .f32 := id arg1
  let v1 : FVec F S_ .f32 := id arg2
  let v2 : FVec F S1x1x1 .f32 := broadcastInDim S1x1x1 ![] bcast_S_S1x1x1 v0
  let v3 : FVec F S1x1x1 .f32 := broadcastInDim S1x1x1 ![] bcast_S_S1x1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S4x1024x1024 64 := iotaInDim S4x1024x1024 64 0
  let v9 : IVec S4x1024x1024 64 := iotaInDim S4x1024x1024 64 1
  let v10 : IVec S4x1024x1024 64 := iotaInDim S4x1024x1024 64 2
  let c : IVec S_ 64 := constantI S_ 64 1048576#64
  let v11 : IVec S4x1024x1024 64 := broadcastInDim S4x1024x1024 ![] bcast_S_S4x1024x1024 c
  let v12 : IVec S4x1024x1024 64 := muli v11 v8
  let c_0 : IVec S_ 64 := constantI S_ 64 1024#64
  let v13 : IVec S4x1024x1024 64 := broadcastInDim S4x1024x1024 ![] bcast_S_S4x1024x1024 c_0
  let v14 : IVec S4x1024x1024 64 := muli v13 v9
  let c_1 : IVec S_ 64 := constantI S_ 64 1#64
  let v15 : IVec S4x1024x1024 64 := broadcastInDim S4x1024x1024 ![] bcast_S_S4x1024x1024 c_1
  let v16 : IVec S4x1024x1024 64 := muli v15 v10
  let v17 : IVec S4x1024x1024 64 := addi v12 v14
  let v18 : IVec S4x1024x1024 64 := addi v17 v16
  let c_2 : IVec S_ 64 := constantI S_ 64 32#64
  let v19 : IVec S4x1024x1024 64 := broadcastInDim S4x1024x1024 ![] bcast_S_S4x1024x1024 c_2
  fn_uniform_part1 (F := F) v2 v3 v5 v7 v18 v19

def fn_part2 {F : FTy → Type} [FloatOps F] (main_v12 : IVec S4x1024 1) (main_v33 : IVec S4x1024 1) : IVec S4x1024x64 1 :=
  let main_v34 : IVec S4x1024 1 := andi main_v12 main_v33
  let main_v35 : IVec S4x1024x1 1 := broadcastInDim S4x1024x1 ![0, 1] bcast_S4x1024_S4x1024x1_0_1 main_v34
  let main_v36 : IVec S4x1024x64 1 := broadcastInDim S4x1024x64 ![0, 1, 2] bcast_S4x1024x1_S4x1024x64_0_1_2 main_v35
  main_v36

def fn_part1 {F : FTy → Type} [FloatOps F] (main_v6 : IVec S4x1024x1024 1) (main_v12 : IVec S4x1024 1) (main_v15 : IVec S1 32) (main_v16 : IVec S_ 32) : IVec S4x1024x64 1 :=
  let main_v17 : IVec S_ 32 := id main_v16
  let main_v18 : IVec S1 32 := broadcastInDim S1 ![] bcast_S_S1 main_v17
  let main_v19 : IVec S2 32 := (fun a b => concatenate S2 0 [⟨S1, a⟩, ⟨S1, b⟩] concatenates_S1_S1_S2_d0) main_v15 main_v18
  let main_cst_5 : FVec F S_ .f32 := constant S_ .f32 0x00000000#32
  let main_cst_6 : FVec F S_ .f32 := constant S_ .f32 0x3F800000#32
  let main_v20 : FVec F S4x1024x1024 .f32 := fn_uniform (F := F) main_v19 main_cst_5 main_cst_6
  let main_v21 : FVec F S4x1024x1024 .f32 := uitofp .f32 main_v6
  let main_v22 : FVec F S4x1024x1024 .f32 := addf main_v21 main_v20
  let main_values : FVec F S4x1024x32 .f32 := (fun x => (Host.topK S4x1024x32 2 (FloatOps.cmpfTotal .gt) x sliceFits_S4x1024x1024_S4x1024x32).1) main_v22
  let main_indices : IVec S4x1024x32 32 := (fun x => (Host.topK S4x1024x32 2 (FloatOps.cmpfTotal .gt) x sliceFits_S4x1024x1024_S4x1024x32).2) main_v22
  let main_v23 : FVec F S4x1024x1 .f32 := (extractStridedSlice S4x1024x1 ![0, 0, 31] · slices_S4x1024x32_S4x1024x1_0_0_31) main_values
  let main_v24 : FVec F S4x1024x1024 .f32 := broadcastInDim S4x1024x1024 ![0, 1, 2] bcast_S4x1024x1_S4x1024x1024_0_1_2 main_v23
  let main_v25 : IVec S4x1024x1024 1 := cmpf .oge main_v22 main_v24
  let main_v26 : FVec F S4x1024x1024 .f32 := uitofp .f32 main_v25
  let main_cst_7 : FVec F S_ .f32 := constant S_ .f32 0x00000000#32
  let main_v27 : FVec F S4x1024 .f32 := (fun x v => Host.reduceAdd x v reducesTo_S4x1024x1024_S4x1024_d2 h_S_) main_v26 main_cst_7
  let main_v28 : FVec F S4x1024 .f32 := shapeCast S4x1024 main_v23 shapeCasts_S4x1024x1_S4x1024
  let main_cst_8 : FVec F S_ .f32 := constant S_ .f32 0x3F800000#32
  let main_v29 : FVec F S4x1024 .f32 := broadcastInDim S4x1024 ![] bcast_S_S4x1024 main_cst_8
  let main_v30 : IVec S4x1024 1 := cmpf .ole main_v28 main_v29
  let main_cst_9 : FVec F S_ .f32 := constant S_ .f32 0x42000000#32
  let main_v31 : FVec F S4x1024 .f32 := broadcastInDim S4x1024 ![] bcast_S_S4x1024 main_cst_9
  let main_v32 : IVec S4x1024 1 := cmpf .ole main_v27 main_v31
  let main_v33 : IVec S4x1024 1 := ori main_v30 main_v32
  fn_part2 (F := F) main_v12 main_v33

def fn {F : FTy → Type} [FloatOps F] (main_arg0 : FVec F S4x1024x1024x3 .f32) (main_arg1 : FVec F S4x1024x64 .f32) (main_arg2 : IVec S4x1024 1) (main_arg3 : FVec F S3x32 .f32) (main_arg4 : FVec F S32 .f32) (main_arg5 : FVec F S32x32 .f32) (main_arg6 : FVec F S32 .f32) (main_arg7 : FVec F S32x16 .f32) (main_arg8 : FVec F S16 .f32) (main_arg9 : FVec F S1024x64 .f32) (main_arg10 : FVec F S64 .f32) : IVec S4x1024x64 1 :=
  let main_v0 : FVec F S4x1024x1024x3 .f32 := mulf main_arg0 main_arg0
  let main_cst : FVec F S_ .f32 := constant S_ .f32 0x00000000#32
  let main_v1 : FVec F S4x1024x1024 .f32 := (fun x v => Host.reduceAdd x v reducesTo_S4x1024x1024x3_S4x1024x1024_d3 h_S_) main_v0 main_cst
  let main_cst_0 : FVec F S_ .f32 := constant S_ .f32 0x2B8CBCCC#32
  let main_v2 : FVec F S4x1024x1024 .f32 := broadcastInDim S4x1024x1024 ![] bcast_S_S4x1024x1024 main_cst_0
  let main_v3 : FVec F S4x1024x1024 .f32 := addf main_v1 main_v2
  let main_v4 : FVec F S4x1024x1024 .f32 := Host.sqrt main_v3
  let main_cst_1 : FVec F S_ .f32 := constant S_ .f32 0x40000000#32
  let main_v5 : FVec F S4x1024x1024 .f32 := broadcastInDim S4x1024x1024 ![] bcast_S_S4x1024x1024 main_cst_1
  let main_v6 : IVec S4x1024x1024 1 := cmpf .olt main_v4 main_v5
  let main_v7 : IVec S4x1x1024 1 := broadcastInDim S4x1x1024 ![0, 2] bcast_S4x1024_S4x1x1024_0_2 main_arg2
  let main_v8 : IVec S4x1024x1024 1 := noti main_v6
  let main_v9 : IVec S4x1024x1024 1 := broadcastInDim S4x1024x1024 ![0, 1, 2] bcast_S4x1x1024_S4x1024x1024_0_1_2 main_v7
  let main_v10 : IVec S4x1024x1024 1 := ori main_v9 main_v8
  let main_c : IVec S_ 1 := constantI S_ 1 1#1
  let main_v11 : IVec S4x1024 1 := (fun x v => Host.reduce IntOp.andi x v reducesTo_S4x1024x1024_S4x1024_d2 h_S_) main_v10 main_c
  let main_v12 : IVec S4x1024 1 := andi main_arg2 main_v11
  let main_c_2 : IVec S_ 32 := constantI S_ 32 42#32
  let main_c_3 : IVec S_ 32 := constantI S_ 32 32#32
  let main_v13 : IVec S_ 32 := Host.shrui main_c_2 main_c_3
  let main_v14 : IVec S_ 32 := id main_v13
  let main_v15 : IVec S1 32 := broadcastInDim S1 ![] bcast_S_S1 main_v14
  let main_c_4 : IVec S_ 32 := constantI S_ 32 4294967295#32
  let main_v16 : IVec S_ 32 := andi main_c_2 main_c_4
  fn_part1 (F := F) main_v6 main_v12 main_v15 main_v16
-- ==== Kernel.lean ====
abbrev S4x1024x1024x3 : Shape := ⟨4, ![4, 1024, 1024, 3]⟩
abbrev S4x1024x64 : Shape := ⟨3, ![4, 1024, 64]⟩
abbrev S4x1024 : Shape := ⟨2, ![4, 1024]⟩
abbrev S3x32 : Shape := ⟨2, ![3, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1024x64 : Shape := ⟨2, ![1024, 64]⟩
abbrev S64 : Shape := ⟨1, ![64]⟩
abbrev S_ : Shape := ⟨0, ![]⟩
abbrev S1 : Shape := ⟨1, ![1]⟩
abbrev S2 : Shape := ⟨1, ![2]⟩
abbrev S1x1x1 : Shape := ⟨3, ![1, 1, 1]⟩
abbrev S4x1024x1024 : Shape := ⟨3, ![4, 1024, 1024]⟩
abbrev S3x4x1024x1024 : Shape := ⟨4, ![3, 4, 1024, 1024]⟩
abbrev S1x4x1024x1024 : Shape := ⟨4, ![1, 4, 1024, 1024]⟩
abbrev S4x128x8x1024 : Shape := ⟨4, ![4, 128, 8, 1024]⟩
abbrev S8x8 : Shape := ⟨2, ![8, 8]⟩
abbrev S32x3 : Shape := ⟨2, ![32, 3]⟩
abbrev S1x32x3x1 : Shape := ⟨4, ![1, 32, 3, 1]⟩
abbrev S8x1x1x8 : Shape := ⟨4, ![8, 1, 1, 8]⟩
abbrev S8x32x3x8 : Shape := ⟨4, ![8, 32, 3, 8]⟩
abbrev S256x24 : Shape := ⟨2, ![256, 24]⟩
abbrev S1x32x1x32 : Shape := ⟨4, ![1, 32, 1, 32]⟩
abbrev S8x1x8x1 : Shape := ⟨4, ![8, 1, 8, 1]⟩
abbrev S8x32x8x32 : Shape := ⟨4, ![8, 32, 8, 32]⟩
abbrev S256x256 : Shape := ⟨2, ![256, 256]⟩
abbrev S16x32 : Shape := ⟨2, ![16, 32]⟩
abbrev S16x1x1x32 : Shape := ⟨4, ![16, 1, 1, 32]⟩
abbrev S1x8x8x1 : Shape := ⟨4, ![1, 8, 8, 1]⟩
abbrev S16x8x8x32 : Shape := ⟨4, ![16, 8, 8, 32]⟩
abbrev S128x256 : Shape := ⟨2, ![128, 256]⟩
abbrev S1x8x1x8 : Shape := ⟨4, ![1, 8, 1, 8]⟩
abbrev S16x8x1x8 : Shape := ⟨4, ![16, 8, 1, 8]⟩
abbrev S128x8 : Shape := ⟨2, ![128, 8]⟩
abbrev S1x32 : Shape := ⟨2, ![1, 32]⟩
abbrev S8x32 : Shape := ⟨2, ![8, 32]⟩
abbrev S256 : Shape := ⟨1, ![256]⟩
abbrev S256x1 : Shape := ⟨2, ![256, 1]⟩
abbrev S16x8 : Shape := ⟨2, ![16, 8]⟩
abbrev S128 : Shape := ⟨1, ![128]⟩
abbrev S128x1 : Shape := ⟨2, ![128, 1]⟩
abbrev S64x16x64 : Shape := ⟨3, ![64, 16, 64]⟩
abbrev S16x64x64 : Shape := ⟨3, ![16, 64, 64]⟩
abbrev S1x64 : Shape := ⟨2, ![1, 64]⟩
abbrev S1x16x8x1024 : Shape := ⟨4, ![1, 16, 8, 1024]⟩
abbrev S1x1024x64 : Shape := ⟨3, ![1, 1024, 64]⟩
abbrev S1x128x64 : Shape := ⟨3, ![1, 128, 64]⟩
abbrev S2048x64 : Shape := ⟨2, ![2048, 64]⟩
abbrev S16x8x1024 : Shape := ⟨3, ![16, 8, 1024]⟩
abbrev S16x8x1 : Shape := ⟨3, ![16, 8, 1]⟩
abbrev S1x1x8x1024 : Shape := ⟨4, ![1, 1, 8, 1024]⟩
abbrev S8x1024 : Shape := ⟨2, ![8, 1024]⟩
abbrev S24x1024 : Shape := ⟨2, ![24, 1024]⟩
abbrev S256x1024 : Shape := ⟨2, ![256, 1024]⟩
abbrev S128x1024 : Shape := ⟨2, ![128, 1024]⟩
abbrev S1x8x1024 : Shape := ⟨3, ![1, 8, 1024]⟩
abbrev S128x64 : Shape := ⟨2, ![128, 64]⟩
abbrev S8x64 : Shape := ⟨2, ![8, 64]⟩
abbrev S1x64x64 : Shape := ⟨3, ![1, 64, 64]⟩
abbrev S64x64 : Shape := ⟨2, ![64, 64]⟩

abbrev nBuf : Space → Nat
  | .hbm => 347
  | .vmem => 23
  | .smem => 0
  | _ => 0

abbrev hbmTy0_0 (i : Nat) : BufTy := match i % 128 with
  | 0 => ⟨S4x1024x1024x3, .f32⟩
  | 1 => ⟨S4x1024x64, .f32⟩
  | 2 => ⟨S4x1024, .i1⟩
  | 3 => ⟨S3x32, .f32⟩
  | 4 => ⟨S32, .f32⟩
  | 5 => ⟨S32x32, .f32⟩
  | 6 => ⟨S32, .f32⟩
  | 7 => ⟨S32x16, .f32⟩
  | 8 => ⟨S16, .f32⟩
  | 9 => ⟨S1024x64, .f32⟩
  | 10 => ⟨S64, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S_, .f32⟩
  | 25 => ⟨S1x1x1, .f32⟩
  | 26 => ⟨S1x1x1, .f32⟩
  | 27 => ⟨S1, .i32⟩
  | 28 => ⟨S_, .i32⟩
  | 29 => ⟨S1, .i32⟩
  | 30 => ⟨S_, .i32⟩
  | 31 => ⟨S4x1024x1024, .i64⟩
  | 32 => ⟨S4x1024x1024, .i64⟩
  | 33 => ⟨S4x1024x1024, .i64⟩
  | 34 => ⟨S_, .i64⟩
  | 35 => ⟨S4x1024x1024, .i64⟩
  | 36 => ⟨S4x1024x1024, .i64⟩
  | 37 => ⟨S_, .i64⟩
  | 38 => ⟨S4x1024x1024, .i64⟩
  | 39 => ⟨S4x1024x1024, .i64⟩
  | 40 => ⟨S_, .i64⟩
  | 41 => ⟨S4x1024x1024, .i64⟩
  | 42 => ⟨S4x1024x1024, .i64⟩
  | 43 => ⟨S4x1024x1024, .i64⟩
  | 44 => ⟨S4x1024x1024, .i64⟩
  | 45 => ⟨S_, .i64⟩
  | 46 => ⟨S4x1024x1024, .i64⟩
  | 47 => ⟨S4x1024x1024, .i64⟩
  | 48 => ⟨S4x1024x1024, .i32⟩
  | 49 => ⟨S4x1024x1024, .i32⟩
  | 50 => ⟨S_, .i32⟩
  | 51 => ⟨S_, .i32⟩
  | 52 => ⟨S_, .i32⟩
  | 53 => ⟨S4x1024x1024, .i32⟩
  | 54 => ⟨S4x1024x1024, .i32⟩
  | 55 => ⟨S4x1024x1024, .i32⟩
  | 56 => ⟨S4x1024x1024, .i32⟩
  | 57 => ⟨S4x1024x1024, .i32⟩
  | 58 => ⟨S_, .i32⟩
  | 59 => ⟨S4x1024x1024, .i32⟩
  | 60 => ⟨S4x1024x1024, .i32⟩
  | 61 => ⟨S_, .i32⟩
  | 62 => ⟨S4x1024x1024, .i32⟩
  | 63 => ⟨S4x1024x1024, .i32⟩
  | 64 => ⟨S4x1024x1024, .i32⟩
  | 65 => ⟨S4x1024x1024, .i32⟩
  | 66 => ⟨S4x1024x1024, .i32⟩
  | 67 => ⟨S_, .i32⟩
  | 68 => ⟨S4x1024x1024, .i32⟩
  | 69 => ⟨S4x1024x1024, .i32⟩
  | 70 => ⟨S_, .i32⟩
  | 71 => ⟨S4x1024x1024, .i32⟩
  | 72 => ⟨S4x1024x1024, .i32⟩
  | 73 => ⟨S4x1024x1024, .i32⟩
  | 74 => ⟨S4x1024x1024, .i32⟩
  | 75 => ⟨S4x1024x1024, .i32⟩
  | 76 => ⟨S_, .i32⟩
  | 77 => ⟨S4x1024x1024, .i32⟩
  | 78 => ⟨S4x1024x1024, .i32⟩
  | 79 => ⟨S_, .i32⟩
  | 80 => ⟨S4x1024x1024, .i32⟩
  | 81 => ⟨S4x1024x1024, .i32⟩
  | 82 => ⟨S4x1024x1024, .i32⟩
  | 83 => ⟨S4x1024x1024, .i32⟩
  | 84 => ⟨S4x1024x1024, .i32⟩
  | 85 => ⟨S_, .i32⟩
  | 86 => ⟨S4x1024x1024, .i32⟩
  | 87 => ⟨S4x1024x1024, .i32⟩
  | 88 => ⟨S_, .i32⟩
  | 89 => ⟨S4x1024x1024, .i32⟩
  | 90 => ⟨S4x1024x1024, .i32⟩
  | 91 => ⟨S4x1024x1024, .i32⟩
  | 92 => ⟨S4x1024x1024, .i32⟩
  | 93 => ⟨S4x1024x1024, .i32⟩
  | 94 => ⟨S4x1024x1024, .i32⟩
  | 95 => ⟨S4x1024x1024, .i32⟩
  | 96 => ⟨S4x1024x1024, .i32⟩
  | 97 => ⟨S_, .i32⟩
  | 98 => ⟨S4x1024x1024, .i32⟩
  | 99 => ⟨S4x1024x1024, .i32⟩
  | 100 => ⟨S4x1024x1024, .i32⟩
  | 101 => ⟨S_, .i32⟩
  | 102 => ⟨S4x1024x1024, .i32⟩
  | 103 => ⟨S4x1024x1024, .i32⟩
  | 104 => ⟨S_, .i32⟩
  | 105 => ⟨S4x1024x1024, .i32⟩
  | 106 => ⟨S4x1024x1024, .i32⟩
  | 107 => ⟨S4x1024x1024, .i32⟩
  | 108 => ⟨S4x1024x1024, .i32⟩
  | 109 => ⟨S4x1024x1024, .i32⟩
  | 110 => ⟨S_, .i32⟩
  | 111 => ⟨S4x1024x1024, .i32⟩
  | 112 => ⟨S4x1024x1024, .i32⟩
  | 113 => ⟨S_, .i32⟩
  | 114 => ⟨S4x1024x1024, .i32⟩
  | 115 => ⟨S4x1024x1024, .i32⟩
  | 116 => ⟨S4x1024x1024, .i32⟩
  | 117 => ⟨S4x1024x1024, .i32⟩
  | 118 => ⟨S4x1024x1024, .i32⟩
  | 119 => ⟨S_, .i32⟩
  | 120 => ⟨S4x1024x1024, .i32⟩
  | 121 => ⟨S4x1024x1024, .i32⟩
  | 122 => ⟨S_, .i32⟩
  | 123 => ⟨S4x1024x1024, .i32⟩
  | 124 => ⟨S4x1024x1024, .i32⟩
  | 125 => ⟨S4x1024x1024, .i32⟩
  | 126 => ⟨S4x1024x1024, .i32⟩
  | 127 => ⟨S4x1024x1024, .i32⟩
  | _ => ⟨S4x1024x1024x3, .f32⟩

abbrev hbmTy0_1 (i : Nat) : BufTy := match i % 128 with
  | 0 => ⟨S_, .i32⟩
  | 1 => ⟨S4x1024x1024, .i32⟩
  | 2 => ⟨S4x1024x1024, .i32⟩
  | 3 => ⟨S_, .i32⟩
  | 4 => ⟨S4x1024x1024, .i32⟩
  | 5 => ⟨S4x1024x1024, .i32⟩
  | 6 => ⟨S4x1024x1024, .i32⟩
  | 7 => ⟨S4x1024x1024, .i32⟩
  | 8 => ⟨S4x1024x1024, .i32⟩
  | 9 => ⟨S4x1024x1024, .i32⟩
  | 10 => ⟨S4x1024x1024, .i32⟩
  | 11 => ⟨S4x1024x1024, .i32⟩
  | 12 => ⟨S_, .i32⟩
  | 13 => ⟨S4x1024x1024, .i32⟩
  | 14 => ⟨S4x1024x1024, .i32⟩
  | 15 => ⟨S4x1024x1024, .i32⟩
  | 16 => ⟨S_, .i32⟩
  | 17 => ⟨S4x1024x1024, .i32⟩
  | 18 => ⟨S4x1024x1024, .i32⟩
  | 19 => ⟨S_, .i32⟩
  | 20 => ⟨S4x1024x1024, .i32⟩
  | 21 => ⟨S4x1024x1024, .i32⟩
  | 22 => ⟨S4x1024x1024, .i32⟩
  | 23 => ⟨S4x1024x1024, .i32⟩
  | 24 => ⟨S4x1024x1024, .i32⟩
  | 25 => ⟨S_, .i32⟩
  | 26 => ⟨S4x1024x1024, .i32⟩
  | 27 => ⟨S4x1024x1024, .i32⟩
  | 28 => ⟨S_, .i32⟩
  | 29 => ⟨S4x1024x1024, .i32⟩
  | 30 => ⟨S4x1024x1024, .i32⟩
  | 31 => ⟨S4x1024x1024, .i32⟩
  | 32 => ⟨S4x1024x1024, .i32⟩
  | 33 => ⟨S4x1024x1024, .i32⟩
  | 34 => ⟨S_, .i32⟩
  | 35 => ⟨S4x1024x1024, .i32⟩
  | 36 => ⟨S4x1024x1024, .i32⟩
  | 37 => ⟨S_, .i32⟩
  | 38 => ⟨S4x1024x1024, .i32⟩
  | 39 => ⟨S4x1024x1024, .i32⟩
  | 40 => ⟨S4x1024x1024, .i32⟩
  | 41 => ⟨S4x1024x1024, .i32⟩
  | 42 => ⟨S4x1024x1024, .i32⟩
  | 43 => ⟨S_, .i32⟩
  | 44 => ⟨S4x1024x1024, .i32⟩
  | 45 => ⟨S4x1024x1024, .i32⟩
  | 46 => ⟨S_, .i32⟩
  | 47 => ⟨S4x1024x1024, .i32⟩
  | 48 => ⟨S4x1024x1024, .i32⟩
  | 49 => ⟨S4x1024x1024, .i32⟩
  | 50 => ⟨S4x1024x1024, .i32⟩
  | 51 => ⟨S4x1024x1024, .i32⟩
  | 52 => ⟨S4x1024x1024, .i32⟩
  | 53 => ⟨S4x1024x1024, .i32⟩
  | 54 => ⟨S4x1024x1024, .i32⟩
  | 55 => ⟨S_, .i32⟩
  | 56 => ⟨S4x1024x1024, .i32⟩
  | 57 => ⟨S4x1024x1024, .i32⟩
  | 58 => ⟨S4x1024x1024, .i32⟩
  | 59 => ⟨S_, .i32⟩
  | 60 => ⟨S4x1024x1024, .i32⟩
  | 61 => ⟨S4x1024x1024, .i32⟩
  | 62 => ⟨S_, .i32⟩
  | 63 => ⟨S4x1024x1024, .i32⟩
  | 64 => ⟨S4x1024x1024, .i32⟩
  | 65 => ⟨S4x1024x1024, .i32⟩
  | 66 => ⟨S4x1024x1024, .i32⟩
  | 67 => ⟨S4x1024x1024, .i32⟩
  | 68 => ⟨S_, .i32⟩
  | 69 => ⟨S4x1024x1024, .i32⟩
  | 70 => ⟨S4x1024x1024, .i32⟩
  | 71 => ⟨S_, .i32⟩
  | 72 => ⟨S4x1024x1024, .i32⟩
  | 73 => ⟨S4x1024x1024, .i32⟩
  | 74 => ⟨S4x1024x1024, .i32⟩
  | 75 => ⟨S4x1024x1024, .i32⟩
  | 76 => ⟨S4x1024x1024, .i32⟩
  | 77 => ⟨S_, .i32⟩
  | 78 => ⟨S4x1024x1024, .i32⟩
  | 79 => ⟨S4x1024x1024, .i32⟩
  | 80 => ⟨S_, .i32⟩
  | 81 => ⟨S4x1024x1024, .i32⟩
  | 82 => ⟨S4x1024x1024, .i32⟩
  | 83 => ⟨S4x1024x1024, .i32⟩
  | 84 => ⟨S4x1024x1024, .i32⟩
  | 85 => ⟨S4x1024x1024, .i32⟩
  | 86 => ⟨S_, .i32⟩
  | 87 => ⟨S4x1024x1024, .i32⟩
  | 88 => ⟨S4x1024x1024, .i32⟩
  | 89 => ⟨S_, .i32⟩
  | 90 => ⟨S4x1024x1024, .i32⟩
  | 91 => ⟨S4x1024x1024, .i32⟩
  | 92 => ⟨S4x1024x1024, .i32⟩
  | 93 => ⟨S4x1024x1024, .i32⟩
  | 94 => ⟨S4x1024x1024, .i32⟩
  | 95 => ⟨S4x1024x1024, .i32⟩
  | 96 => ⟨S4x1024x1024, .i32⟩
  | 97 => ⟨S4x1024x1024, .i32⟩
  | 98 => ⟨S_, .i32⟩
  | 99 => ⟨S4x1024x1024, .i32⟩
  | 100 => ⟨S4x1024x1024, .i32⟩
  | 101 => ⟨S4x1024x1024, .i32⟩
  | 102 => ⟨S_, .i32⟩
  | 103 => ⟨S4x1024x1024, .i32⟩
  | 104 => ⟨S4x1024x1024, .i32⟩
  | 105 => ⟨S_, .i32⟩
  | 106 => ⟨S4x1024x1024, .i32⟩
  | 107 => ⟨S4x1024x1024, .i32⟩
  | 108 => ⟨S4x1024x1024, .i32⟩
  | 109 => ⟨S4x1024x1024, .i32⟩
  | 110 => ⟨S4x1024x1024, .i32⟩
  | 111 => ⟨S_, .i32⟩
  | 112 => ⟨S4x1024x1024, .i32⟩
  | 113 => ⟨S4x1024x1024, .i32⟩
  | 114 => ⟨S_, .i32⟩
  | 115 => ⟨S4x1024x1024, .i32⟩
  | 116 => ⟨S4x1024x1024, .i32⟩
  | 117 => ⟨S4x1024x1024, .i32⟩
  | 118 => ⟨S4x1024x1024, .i32⟩
  | 119 => ⟨S4x1024x1024, .i32⟩
  | 120 => ⟨S_, .i32⟩
  | 121 => ⟨S4x1024x1024, .i32⟩
  | 122 => ⟨S4x1024x1024, .i32⟩
  | 123 => ⟨S_, .i32⟩
  | 124 => ⟨S4x1024x1024, .i32⟩
  | 125 => ⟨S4x1024x1024, .i32⟩
  | 126 => ⟨S4x1024x1024, .i32⟩
  | 127 => ⟨S4x1024x1024, .i32⟩
  | _ => ⟨S4x1024x1024x3, .f32⟩

abbrev hbmTy0_2 (i : Nat) : BufTy := match i % 128 with
  | 0 => ⟨S4x1024x1024, .i32⟩
  | 1 => ⟨S_, .i32⟩
  | 2 => ⟨S4x1024x1024, .i32⟩
  | 3 => ⟨S4x1024x1024, .i32⟩
  | 4 => ⟨S_, .i32⟩
  | 5 => ⟨S4x1024x1024, .i32⟩
  | 6 => ⟨S4x1024x1024, .i32⟩
  | 7 => ⟨S4x1024x1024, .i32⟩
  | 8 => ⟨S4x1024x1024, .i32⟩
  | 9 => ⟨S4x1024x1024, .i32⟩
  | 10 => ⟨S4x1024x1024, .i32⟩
  | 11 => ⟨S4x1024x1024, .i32⟩
  | 12 => ⟨S4x1024x1024, .i32⟩
  | 13 => ⟨S_, .i32⟩
  | 14 => ⟨S4x1024x1024, .i32⟩
  | 15 => ⟨S4x1024x1024, .i32⟩
  | 16 => ⟨S4x1024x1024, .i32⟩
  | 17 => ⟨S_, .i32⟩
  | 18 => ⟨S4x1024x1024, .i32⟩
  | 19 => ⟨S4x1024x1024, .i32⟩
  | 20 => ⟨S_, .i32⟩
  | 21 => ⟨S4x1024x1024, .i32⟩
  | 22 => ⟨S4x1024x1024, .i32⟩
  | 23 => ⟨S4x1024x1024, .f32⟩
  | 24 => ⟨S_, .f32⟩
  | 25 => ⟨S4x1024x1024, .f32⟩
  | 26 => ⟨S4x1024x1024, .f32⟩
  | 27 => ⟨S1x1x1, .f32⟩
  | 28 => ⟨S4x1024x1024, .f32⟩
  | 29 => ⟨S4x1024x1024, .f32⟩
  | 30 => ⟨S4x1024x1024, .f32⟩
  | 31 => ⟨S4x1024x1024, .f32⟩
  | 32 => ⟨S4x1024x1024, .f32⟩
  | 33 => ⟨S4x1024x1024, .f32⟩
  | 34 => ⟨S3x4x1024x1024, .f32⟩
  | 35 => ⟨S1x4x1024x1024, .f32⟩
  | 36 => ⟨S4x1024x1024, .f32⟩
  | 37 => ⟨S4x128x8x1024, .f32⟩
  | 38 => ⟨S1x4x1024x1024, .f32⟩
  | 39 => ⟨S4x1024x1024, .f32⟩
  | 40 => ⟨S4x128x8x1024, .f32⟩
  | 41 => ⟨S1x4x1024x1024, .f32⟩
  | 42 => ⟨S4x1024x1024, .f32⟩
  | 43 => ⟨S4x128x8x1024, .f32⟩
  | 44 => ⟨S4x128x8x1024, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .f32⟩
  | 52 => ⟨S32x3, .f32⟩
  | 53 => ⟨S1x32x3x1, .f32⟩
  | 54 => ⟨S8x1x1x8, .f32⟩
  | 55 => ⟨S8x32x3x8, .f32⟩
  | 56 => ⟨S8x32x3x8, .f32⟩
  | 57 => ⟨S8x32x3x8, .f32⟩
  | 58 => ⟨S256x24, .f32⟩
  | 59 => ⟨S32x32, .f32⟩
  | 60 => ⟨S1x32x1x32, .f32⟩
  | 61 => ⟨S8x1x8x1, .f32⟩
  | 62 => ⟨S8x32x8x32, .f32⟩
  | 63 => ⟨S8x32x8x32, .f32⟩
  | 64 => ⟨S8x32x8x32, .f32⟩
  | 65 => ⟨S256x256, .f32⟩
  | 66 => ⟨S16x32, .f32⟩
  | 67 => ⟨S16x1x1x32, .f32⟩
  | 68 => ⟨S1x8x8x1, .f32⟩
  | 69 => ⟨S16x8x8x32, .f32⟩
  | 70 => ⟨S16x8x8x32, .f32⟩
  | 71 => ⟨S16x8x8x32, .f32⟩
  | 72 => ⟨S128x256, .f32⟩
  | 73 => ⟨S1x8x1x8, .f32⟩
  | 74 => ⟨S16x8x1x8, .f32⟩
  | 75 => ⟨S128x8, .f32⟩
  | 76 => ⟨S1x32, .f32⟩
  | 77 => ⟨S8x32, .f32⟩
  | 78 => ⟨S256, .f32⟩
  | 79 => ⟨S256x1, .f32⟩
  | 80 => ⟨S1x32, .f32⟩
  | 81 => ⟨S8x32, .f32⟩
  | 82 => ⟨S256, .f32⟩
  | 83 => ⟨S256x1, .f32⟩
  | 84 => ⟨S16x8, .f32⟩
  | 85 => ⟨S128, .f32⟩
  | 86 => ⟨S128x1, .f32⟩
  | 87 => ⟨S64x16x64, .f32⟩
  | 88 => ⟨S16x64x64, .f32⟩
  | 89 => ⟨S1x64, .f32⟩
  | 90 => ⟨S4x1024x64, .f32⟩
  | _ => ⟨S4x1024x1024x3, .f32⟩

abbrev hbmTy (i : Nat) : BufTy := match i / 128 with
  | 0 => hbmTy0_0 i
  | 1 => hbmTy0_1 i
  | 2 => hbmTy0_2 i
  | _ => ⟨S4x1024x1024x3, .f32⟩

abbrev bufTy : (tb : Table) → Fin (tcTables nBuf tb) → BufTy
  | .hbm, ⟨i, _⟩ => hbmTy i
  | .local _ .vmem, ⟨0, _⟩ => ⟨S1x16x8x1024, .f32⟩
  | .local _ .vmem, ⟨1, _⟩ => ⟨S1x16x8x1024, .f32⟩
  | .local _ .vmem, ⟨2, _⟩ => ⟨S1x16x8x1024, .f32⟩
  | .local _ .vmem, ⟨3, _⟩ => ⟨S1x16x8x1024, .f32⟩
  | .local _ .vmem, ⟨4, _⟩ => ⟨S1x16x8x1024, .f32⟩
  | .local _ .vmem, ⟨5, _⟩ => ⟨S1x16x8x1024, .f32⟩
  | .local _ .vmem, ⟨6, _⟩ => ⟨S1x16x8x1024, .f32⟩
  | .local _ .vmem, ⟨7, _⟩ => ⟨S1x16x8x1024, .f32⟩
  | .local _ .vmem, ⟨8, _⟩ => ⟨S1x1024x64, .f32⟩
  | .local _ .vmem, ⟨9, _⟩ => ⟨S1x1024x64, .f32⟩
  | .local _ .vmem, ⟨10, _⟩ => ⟨S256x24, .f32⟩
  | .local _ .vmem, ⟨11, _⟩ => ⟨S256x256, .f32⟩
  | .local _ .vmem, ⟨12, _⟩ => ⟨S128x256, .f32⟩
  | .local _ .vmem, ⟨13, _⟩ => ⟨S128x8, .f32⟩
  | .local _ .vmem, ⟨14, _⟩ => ⟨S256x1, .f32⟩
  | .local _ .vmem, ⟨15, _⟩ => ⟨S256x1, .f32⟩
  | .local _ .vmem, ⟨16, _⟩ => ⟨S128x1, .f32⟩
  | .local _ .vmem, ⟨17, _⟩ => ⟨S16x64x64, .f32⟩
  | .local _ .vmem, ⟨18, _⟩ => ⟨S1x64, .f32⟩
  | .local _ .vmem, ⟨19, _⟩ => ⟨S1x128x64, .f32⟩
  | .local _ .vmem, ⟨20, _⟩ => ⟨S1x128x64, .f32⟩
  | .local _ .vmem, ⟨21, _⟩ => ⟨S2048x64, .f32⟩
  | .local _ .vmem, ⟨22, _⟩ => ⟨S16x8x1024, .f32⟩
  | _, _ => ⟨S4x1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_c : Ref sig .tc := ⟨.hbm, 34, rfl⟩
abbrev main_call0_v11 : Ref sig .tc := ⟨.hbm, 35, rfl⟩
abbrev main_call0_v12 : Ref sig .tc := ⟨.hbm, 36, rfl⟩
abbrev main_call0_c_0 : Ref sig .tc := ⟨.hbm, 37, rfl⟩
abbrev main_call0_v13 : Ref sig .tc := ⟨.hbm, 38, rfl⟩
abbrev main_call0_v14 : Ref sig .tc := ⟨.hbm, 39, rfl⟩
abbrev main_call0_c_1 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_c_2 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_call0_v0 : Ref sig .tc := ⟨.hbm, 50, rfl⟩
abbrev main_call0_call0_c : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_c_0 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_c_1 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_call0_v12 : Ref sig .tc := ⟨.hbm, 65, rfl⟩
abbrev main_call0_call0_v13 : Ref sig .tc := ⟨.hbm, 66, rfl⟩
abbrev main_call0_call0_c_2 : Ref sig .tc := ⟨.hbm, 67, rfl⟩
abbrev main_call0_call0_v14 : Ref sig .tc := ⟨.hbm, 68, rfl⟩
abbrev main_call0_call0_v15 : Ref sig .tc := ⟨.hbm, 69, rfl⟩
abbrev main_call0_call0_c_3 : Ref sig .tc := ⟨.hbm, 70, rfl⟩
abbrev main_call0_call0_v16 : Ref sig .tc := ⟨.hbm, 71, rfl⟩
abbrev main_call0_call0_v17 : Ref sig .tc := ⟨.hbm, 72, rfl⟩
abbrev main_call0_call0_v18 : Ref sig .tc := ⟨.hbm, 73, rfl⟩
abbrev main_call0_call0_v19 : Ref sig .tc := ⟨.hbm, 74, rfl⟩
abbrev main_call0_call0_v20 : Ref sig .tc := ⟨.hbm, 75, rfl⟩
abbrev main_call0_call0_c_4 : Ref sig .tc := ⟨.hbm, 76, rfl⟩
abbrev main_call0_call0_v21 : Ref sig .tc := ⟨.hbm, 77, rfl⟩
abbrev main_call0_call0_v22 : Ref sig .tc := ⟨.hbm, 78, rfl⟩
abbrev main_call0_call0_c_5 : Ref sig .tc := ⟨.hbm, 79, rfl⟩
abbrev main_call0_call0_v23 : Ref sig .tc := ⟨.hbm, 80, rfl⟩
abbrev main_call0_call0_v24 : Ref sig .tc := ⟨.hbm, 81, rfl⟩
abbrev main_call0_call0_v25 : Ref sig .tc := ⟨.hbm, 82, rfl⟩
abbrev main_call0_call0_v26 : Ref sig .tc := ⟨.hbm, 83, rfl⟩
abbrev main_call0_call0_v27 : Ref sig .tc := ⟨.hbm, 84, rfl⟩
abbrev main_call0_call0_c_6 : Ref sig .tc := ⟨.hbm, 85, rfl⟩
abbrev main_call0_call0_v28 : Ref sig .tc := ⟨.hbm, 86, rfl⟩
abbrev main_call0_call0_v29 : Ref sig .tc := ⟨.hbm, 87, rfl⟩
abbrev main_call0_call0_c_7 : Ref sig .tc := ⟨.hbm, 88, rfl⟩
abbrev main_call0_call0_v30 : Ref sig .tc := ⟨.hbm, 89, rfl⟩
abbrev main_call0_call0_v31 : Ref sig .tc := ⟨.hbm, 90, rfl⟩
abbrev main_call0_call0_v32 : Ref sig .tc := ⟨.hbm, 91, rfl⟩
abbrev main_call0_call0_v33 : Ref sig .tc := ⟨.hbm, 92, rfl⟩
abbrev main_call0_call0_v34 : Ref sig .tc := ⟨.hbm, 93, rfl⟩
abbrev main_call0_call0_v35 : Ref sig .tc := ⟨.hbm, 94, rfl⟩
abbrev main_call0_call0_v36 : Ref sig .tc := ⟨.hbm, 95, rfl⟩
abbrev main_call0_call0_v37 : Ref sig .tc := ⟨.hbm, 96, rfl⟩
abbrev main_call0_call0_c_8 : Ref sig .tc := ⟨.hbm, 97, rfl⟩
abbrev main_call0_call0_v38 : Ref sig .tc := ⟨.hbm, 98, rfl⟩
abbrev main_call0_call0_v39 : Ref sig .tc := ⟨.hbm, 99, rfl⟩
abbrev main_call0_call0_v40 : Ref sig .tc := ⟨.hbm, 100, rfl⟩
abbrev main_call0_call0_c_9 : Ref sig .tc := ⟨.hbm, 101, rfl⟩
abbrev main_call0_call0_v41 : Ref sig .tc := ⟨.hbm, 102, rfl⟩
abbrev main_call0_call0_v42 : Ref sig .tc := ⟨.hbm, 103, rfl⟩
abbrev main_call0_call0_c_10 : Ref sig .tc := ⟨.hbm, 104, rfl⟩
abbrev main_call0_call0_v43 : Ref sig .tc := ⟨.hbm, 105, rfl⟩
abbrev main_call0_call0_v44 : Ref sig .tc := ⟨.hbm, 106, rfl⟩
abbrev main_call0_call0_v45 : Ref sig .tc := ⟨.hbm, 107, rfl⟩
abbrev main_call0_call0_v46 : Ref sig .tc := ⟨.hbm, 108, rfl⟩
abbrev main_call0_call0_v47 : Ref sig .tc := ⟨.hbm, 109, rfl⟩
abbrev main_call0_call0_c_11 : Ref sig .tc := ⟨.hbm, 110, rfl⟩
abbrev main_call0_call0_v48 : Ref sig .tc := ⟨.hbm, 111, rfl⟩
abbrev main_call0_call0_v49 : Ref sig .tc := ⟨.hbm, 112, rfl⟩
abbrev main_call0_call0_c_12 : Ref sig .tc := ⟨.hbm, 113, rfl⟩
abbrev main_call0_call0_v50 : Ref sig .tc := ⟨.hbm, 114, rfl⟩
abbrev main_call0_call0_v51 : Ref sig .tc := ⟨.hbm, 115, rfl⟩
abbrev main_call0_call0_v52 : Ref sig .tc := ⟨.hbm, 116, rfl⟩
abbrev main_call0_call0_v53 : Ref sig .tc := ⟨.hbm, 117, rfl⟩
abbrev main_call0_call0_v54 : Ref sig .tc := ⟨.hbm, 118, rfl⟩
abbrev main_call0_call0_c_13 : Ref sig .tc := ⟨.hbm, 119, rfl⟩
abbrev main_call0_call0_v55 : Ref sig .tc := ⟨.hbm, 120, rfl⟩
abbrev main_call0_call0_v56 : Ref sig .tc := ⟨.hbm, 121, rfl⟩
abbrev main_call0_call0_c_14 : Ref sig .tc := ⟨.hbm, 122, rfl⟩
abbrev main_call0_call0_v57 : Ref sig .tc := ⟨.hbm, 123, rfl⟩
abbrev main_call0_call0_v58 : Ref sig .tc := ⟨.hbm, 124, rfl⟩
abbrev main_call0_call0_v59 : Ref sig .tc := ⟨.hbm, 125, rfl⟩
abbrev main_call0_call0_v60 : Ref sig .tc := ⟨.hbm, 126, rfl⟩
abbrev main_call0_call0_v61 : Ref sig .tc := ⟨.hbm, 127, rfl⟩
abbrev main_call0_call0_c_15 : Ref sig .tc := ⟨.hbm, 128, rfl⟩
abbrev main_call0_call0_v62 : Ref sig .tc := ⟨.hbm, 129, rfl⟩
abbrev main_call0_call0_v63 : Ref sig .tc := ⟨.hbm, 130, rfl⟩
abbrev main_call0_call0_c_16 : Ref sig .tc := ⟨.hbm, 131, rfl⟩
abbrev main_call0_call0_v64 : Ref sig .tc := ⟨.hbm, 132, rfl⟩
abbrev main_call0_call0_v65 : Ref sig .tc := ⟨.hbm, 133, rfl⟩
abbrev main_call0_call0_v66 : Ref sig .tc := ⟨.hbm, 134, rfl⟩
abbrev main_call0_call0_v67 : Ref sig .tc := ⟨.hbm, 135, rfl⟩
abbrev main_call0_call0_v68 : Ref sig .tc := ⟨.hbm, 136, rfl⟩
abbrev main_call0_call0_v69 : Ref sig .tc := ⟨.hbm, 137, rfl⟩
abbrev main_call0_call0_v70 : Ref sig .tc := ⟨.hbm, 138, rfl⟩
abbrev main_call0_call0_v71 : Ref sig .tc := ⟨.hbm, 139, rfl⟩
abbrev main_call0_call0_c_17 : Ref sig .tc := ⟨.hbm, 140, rfl⟩
abbrev main_call0_call0_v72 : Ref sig .tc := ⟨.hbm, 141, rfl⟩
abbrev main_call0_call0_v73 : Ref sig .tc := ⟨.hbm, 142, rfl⟩
abbrev main_call0_call0_v74 : Ref sig .tc := ⟨.hbm, 143, rfl⟩
abbrev main_call0_call0_c_18 : Ref sig .tc := ⟨.hbm, 144, rfl⟩
abbrev main_call0_call0_v75 : Ref sig .tc := ⟨.hbm, 145, rfl⟩
abbrev main_call0_call0_v76 : Ref sig .tc := ⟨.hbm, 146, rfl⟩
abbrev main_call0_call0_c_19 : Ref sig .tc := ⟨.hbm, 147, rfl⟩
abbrev main_call0_call0_v77 : Ref sig .tc := ⟨.hbm, 148, rfl⟩
abbrev main_call0_call0_v78 : Ref sig .tc := ⟨.hbm, 149, rfl⟩
abbrev main_call0_call0_v79 : Ref sig .tc := ⟨.hbm, 150, rfl⟩
abbrev main_call0_call0_v80 : Ref sig .tc := ⟨.hbm, 151, rfl⟩
abbrev main_call0_call0_v81 : Ref sig .tc := ⟨.hbm, 152, rfl⟩
abbrev main_call0_call0_c_20 : Ref sig .tc := ⟨.hbm, 153, rfl⟩
abbrev main_call0_call0_v82 : Ref sig .tc := ⟨.hbm, 154, rfl⟩
abbrev main_call0_call0_v83 : Ref sig .tc := ⟨.hbm, 155, rfl⟩
abbrev main_call0_call0_c_21 : Ref sig .tc := ⟨.hbm, 156, rfl⟩
abbrev main_call0_call0_v84 : Ref sig .tc := ⟨.hbm, 157, rfl⟩
abbrev main_call0_call0_v85 : Ref sig .tc := ⟨.hbm, 158, rfl⟩
abbrev main_call0_call0_v86 : Ref sig .tc := ⟨.hbm, 159, rfl⟩
abbrev main_call0_call0_v87 : Ref sig .tc := ⟨.hbm, 160, rfl⟩
abbrev main_call0_call0_v88 : Ref sig .tc := ⟨.hbm, 161, rfl⟩
abbrev main_call0_call0_c_22 : Ref sig .tc := ⟨.hbm, 162, rfl⟩
abbrev main_call0_call0_v89 : Ref sig .tc := ⟨.hbm, 163, rfl⟩
abbrev main_call0_call0_v90 : Ref sig .tc := ⟨.hbm, 164, rfl⟩
abbrev main_call0_call0_c_23 : Ref sig .tc := ⟨.hbm, 165, rfl⟩
abbrev main_call0_call0_v91 : Ref sig .tc := ⟨.hbm, 166, rfl⟩
abbrev main_call0_call0_v92 : Ref sig .tc := ⟨.hbm, 167, rfl⟩
abbrev main_call0_call0_v93 : Ref sig .tc := ⟨.hbm, 168, rfl⟩
abbrev main_call0_call0_v94 : Ref sig .tc := ⟨.hbm, 169, rfl⟩
abbrev main_call0_call0_v95 : Ref sig .tc := ⟨.hbm, 170, rfl⟩
abbrev main_call0_call0_c_24 : Ref sig .tc := ⟨.hbm, 171, rfl⟩
abbrev main_call0_call0_v96 : Ref sig .tc := ⟨.hbm, 172, rfl⟩
abbrev main_call0_call0_v97 : Ref sig .tc := ⟨.hbm, 173, rfl⟩
abbrev main_call0_call0_c_25 : Ref sig .tc := ⟨.hbm, 174, rfl⟩
abbrev main_call0_call0_v98 : Ref sig .tc := ⟨.hbm, 175, rfl⟩
abbrev main_call0_call0_v99 : Ref sig .tc := ⟨.hbm, 176, rfl⟩
abbrev main_call0_call0_v100 : Ref sig .tc := ⟨.hbm, 177, rfl⟩
abbrev main_call0_call0_v101 : Ref sig .tc := ⟨.hbm, 178, rfl⟩
abbrev main_call0_call0_v102 : Ref sig .tc := ⟨.hbm, 179, rfl⟩
abbrev main_call0_call0_v103 : Ref sig .tc := ⟨.hbm, 180, rfl⟩
abbrev main_call0_call0_v104 : Ref sig .tc := ⟨.hbm, 181, rfl⟩
abbrev main_call0_call0_v105 : Ref sig .tc := ⟨.hbm, 182, rfl⟩
abbrev main_call0_call0_c_26 : Ref sig .tc := ⟨.hbm, 183, rfl⟩
abbrev main_call0_call0_v106 : Ref sig .tc := ⟨.hbm, 184, rfl⟩
abbrev main_call0_call0_v107 : Ref sig .tc := ⟨.hbm, 185, rfl⟩
abbrev main_call0_call0_v108 : Ref sig .tc := ⟨.hbm, 186, rfl⟩
abbrev main_call0_call0_c_27 : Ref sig .tc := ⟨.hbm, 187, rfl⟩
abbrev main_call0_call0_v109 : Ref sig .tc := ⟨.hbm, 188, rfl⟩
abbrev main_call0_call0_v110 : Ref sig .tc := ⟨.hbm, 189, rfl⟩
abbrev main_call0_call0_c_28 : Ref sig .tc := ⟨.hbm, 190, rfl⟩
abbrev main_call0_call0_v111 : Ref sig .tc := ⟨.hbm, 191, rfl⟩
abbrev main_call0_call0_v112 : Ref sig .tc := ⟨.hbm, 192, rfl⟩
abbrev main_call0_call0_v113 : Ref sig .tc := ⟨.hbm, 193, rfl⟩
abbrev main_call0_call0_v114 : Ref sig .tc := ⟨.hbm, 194, rfl⟩
abbrev main_call0_call0_v115 : Ref sig .tc := ⟨.hbm, 195, rfl⟩
abbrev main_call0_call0_c_29 : Ref sig .tc := ⟨.hbm, 196, rfl⟩
abbrev main_call0_call0_v116 : Ref sig .tc := ⟨.hbm, 197, rfl⟩
abbrev main_call0_call0_v117 : Ref sig .tc := ⟨.hbm, 198, rfl⟩
abbrev main_call0_call0_c_30 : Ref sig .tc := ⟨.hbm, 199, rfl⟩
abbrev main_call0_call0_v118 : Ref sig .tc := ⟨.hbm, 200, rfl⟩
abbrev main_call0_call0_v119 : Ref sig .tc := ⟨.hbm, 201, rfl⟩
abbrev main_call0_call0_v120 : Ref sig .tc := ⟨.hbm, 202, rfl⟩
abbrev main_call0_call0_v121 : Ref sig .tc := ⟨.hbm, 203, rfl⟩
abbrev main_call0_call0_v122 : Ref sig .tc := ⟨.hbm, 204, rfl⟩
abbrev main_call0_call0_c_31 : Ref sig .tc := ⟨.hbm, 205, rfl⟩
abbrev main_call0_call0_v123 : Ref sig .tc := ⟨.hbm, 206, rfl⟩
abbrev main_call0_call0_v124 : Ref sig .tc := ⟨.hbm, 207, rfl⟩
abbrev main_call0_call0_c_32 : Ref sig .tc := ⟨.hbm, 208, rfl⟩
abbrev main_call0_call0_v125 : Ref sig .tc := ⟨.hbm, 209, rfl⟩
abbrev main_call0_call0_v126 : Ref sig .tc := ⟨.hbm, 210, rfl⟩
abbrev main_call0_call0_v127 : Ref sig .tc := ⟨.hbm, 211, rfl⟩
abbrev main_call0_call0_v128 : Ref sig .tc := ⟨.hbm, 212, rfl⟩
abbrev main_call0_call0_v129 : Ref sig .tc := ⟨.hbm, 213, rfl⟩
abbrev main_call0_call0_c_33 : Ref sig .tc := ⟨.hbm, 214, rfl⟩
abbrev main_call0_call0_v130 : Ref sig .tc := ⟨.hbm, 215, rfl⟩
abbrev main_call0_call0_v131 : Ref sig .tc := ⟨.hbm, 216, rfl⟩
abbrev main_call0_call0_c_34 : Ref sig .tc := ⟨.hbm, 217, rfl⟩
abbrev main_call0_call0_v132 : Ref sig .tc := ⟨.hbm, 218, rfl⟩
abbrev main_call0_call0_v133 : Ref sig .tc := ⟨.hbm, 219, rfl⟩
abbrev main_call0_call0_v134 : Ref sig .tc := ⟨.hbm, 220, rfl⟩
abbrev main_call0_call0_v135 : Ref sig .tc := ⟨.hbm, 221, rfl⟩
abbrev main_call0_call0_v136 : Ref sig .tc := ⟨.hbm, 222, rfl⟩
abbrev main_call0_call0_v137 : Ref sig .tc := ⟨.hbm, 223, rfl⟩
abbrev main_call0_call0_v138 : Ref sig .tc := ⟨.hbm, 224, rfl⟩
abbrev main_call0_call0_v139 : Ref sig .tc := ⟨.hbm, 225, rfl⟩
abbrev main_call0_call0_c_35 : Ref sig .tc := ⟨.hbm, 226, rfl⟩
abbrev main_call0_call0_v140 : Ref sig .tc := ⟨.hbm, 227, rfl⟩
abbrev main_call0_call0_v141 : Ref sig .tc := ⟨.hbm, 228, rfl⟩
abbrev main_call0_call0_v142 : Ref sig .tc := ⟨.hbm, 229, rfl⟩
abbrev main_call0_call0_c_36 : Ref sig .tc := ⟨.hbm, 230, rfl⟩
abbrev main_call0_call0_v143 : Ref sig .tc := ⟨.hbm, 231, rfl⟩
abbrev main_call0_call0_v144 : Ref sig .tc := ⟨.hbm, 232, rfl⟩
abbrev main_call0_call0_c_37 : Ref sig .tc := ⟨.hbm, 233, rfl⟩
abbrev main_call0_call0_v145 : Ref sig .tc := ⟨.hbm, 234, rfl⟩
abbrev main_call0_call0_v146 : Ref sig .tc := ⟨.hbm, 235, rfl⟩
abbrev main_call0_call0_v147 : Ref sig .tc := ⟨.hbm, 236, rfl⟩
abbrev main_call0_call0_v148 : Ref sig .tc := ⟨.hbm, 237, rfl⟩
abbrev main_call0_call0_v149 : Ref sig .tc := ⟨.hbm, 238, rfl⟩
abbrev main_call0_call0_c_38 : Ref sig .tc := ⟨.hbm, 239, rfl⟩
abbrev main_call0_call0_v150 : Ref sig .tc := ⟨.hbm, 240, rfl⟩
abbrev main_call0_call0_v151 : Ref sig .tc := ⟨.hbm, 241, rfl⟩
abbrev main_call0_call0_c_39 : Ref sig .tc := ⟨.hbm, 242, rfl⟩
abbrev main_call0_call0_v152 : Ref sig .tc := ⟨.hbm, 243, rfl⟩
abbrev main_call0_call0_v153 : Ref sig .tc := ⟨.hbm, 244, rfl⟩
abbrev main_call0_call0_v154 : Ref sig .tc := ⟨.hbm, 245, rfl⟩
abbrev main_call0_call0_v155 : Ref sig .tc := ⟨.hbm, 246, rfl⟩
abbrev main_call0_call0_v156 : Ref sig .tc := ⟨.hbm, 247, rfl⟩
abbrev main_call0_call0_c_40 : Ref sig .tc := ⟨.hbm, 248, rfl⟩
abbrev main_call0_call0_v157 : Ref sig .tc := ⟨.hbm, 249, rfl⟩
abbrev main_call0_call0_v158 : Ref sig .tc := ⟨.hbm, 250, rfl⟩
abbrev main_call0_call0_c_41 : Ref sig .tc := ⟨.hbm, 251, rfl⟩
abbrev main_call0_call0_v159 : Ref sig .tc := ⟨.hbm, 252, rfl⟩
abbrev main_call0_call0_v160 : Ref sig .tc := ⟨.hbm, 253, rfl⟩
abbrev main_call0_call0_v161 : Ref sig .tc := ⟨.hbm, 254, rfl⟩
abbrev main_call0_call0_v162 : Ref sig .tc := ⟨.hbm, 255, rfl⟩
abbrev main_call0_call0_v163 : Ref sig .tc := ⟨.hbm, 256, rfl⟩
abbrev main_call0_call0_c_42 : Ref sig .tc := ⟨.hbm, 257, rfl⟩
abbrev main_call0_call0_v164 : Ref sig .tc := ⟨.hbm, 258, rfl⟩
abbrev main_call0_call0_v165 : Ref sig .tc := ⟨.hbm, 259, rfl⟩
abbrev main_call0_call0_c_43 : Ref sig .tc := ⟨.hbm, 260, rfl⟩
abbrev main_call0_call0_v166 : Ref sig .tc := ⟨.hbm, 261, rfl⟩
abbrev main_call0_call0_v167 : Ref sig .tc := ⟨.hbm, 262, rfl⟩
abbrev main_call0_call0_v168 : Ref sig .tc := ⟨.hbm, 263, rfl⟩
abbrev main_call0_call0_v169 : Ref sig .tc := ⟨.hbm, 264, rfl⟩
abbrev main_call0_call0_v170 : Ref sig .tc := ⟨.hbm, 265, rfl⟩
abbrev main_call0_v23_0 : Ref sig .tc := ⟨.hbm, 266, rfl⟩
abbrev main_call0_call0_v172 : Ref sig .tc := ⟨.hbm, 267, rfl⟩
abbrev main_call0_call0_v173 : Ref sig .tc := ⟨.hbm, 268, rfl⟩
abbrev main_call0_call0_c_44 : Ref sig .tc := ⟨.hbm, 269, rfl⟩
abbrev main_call0_call0_v174 : Ref sig .tc := ⟨.hbm, 270, rfl⟩
abbrev main_call0_v23_1 : Ref sig .tc := ⟨.hbm, 271, rfl⟩
abbrev main_call0_v24 : Ref sig .tc := ⟨.hbm, 272, rfl⟩
abbrev main_call0_c_3 : Ref sig .tc := ⟨.hbm, 273, rfl⟩
abbrev main_call0_v25 : Ref sig .tc := ⟨.hbm, 274, rfl⟩
abbrev main_call0_v26 : Ref sig .tc := ⟨.hbm, 275, rfl⟩
abbrev main_call0_c_4 : Ref sig .tc := ⟨.hbm, 276, rfl⟩
abbrev main_call0_v27 : Ref sig .tc := ⟨.hbm, 277, rfl⟩
abbrev main_call0_v28 : Ref sig .tc := ⟨.hbm, 278, rfl⟩
abbrev main_call0_v29 : Ref sig .tc := ⟨.hbm, 279, rfl⟩
abbrev main_call0_cst : Ref sig .tc := ⟨.hbm, 280, rfl⟩
abbrev main_call0_v30 : Ref sig .tc := ⟨.hbm, 281, rfl⟩
abbrev main_call0_v31 : Ref sig .tc := ⟨.hbm, 282, rfl⟩
abbrev main_call0_v32 : Ref sig .tc := ⟨.hbm, 283, rfl⟩
abbrev main_call0_v33 : Ref sig .tc := ⟨.hbm, 284, rfl⟩
abbrev main_call0_v34 : Ref sig .tc := ⟨.hbm, 285, rfl⟩
abbrev main_call0_v35 : Ref sig .tc := ⟨.hbm, 286, rfl⟩
abbrev main_call0_v36 : Ref sig .tc := ⟨.hbm, 287, rfl⟩
abbrev main_call0_v37 : Ref sig .tc := ⟨.hbm, 288, rfl⟩
abbrev main_v7 : Ref sig .tc := ⟨.hbm, 289, rfl⟩
abbrev main_v8 : Ref sig .tc := ⟨.hbm, 290, rfl⟩
abbrev main_v9 : Ref sig .tc := ⟨.hbm, 291, rfl⟩
abbrev main_v10 : Ref sig .tc := ⟨.hbm, 292, rfl⟩
abbrev main_v11 : Ref sig .tc := ⟨.hbm, 293, rfl⟩
abbrev main_v12 : Ref sig .tc := ⟨.hbm, 294, rfl⟩
abbrev main_v13 : Ref sig .tc := ⟨.hbm, 295, rfl⟩
abbrev main_v14 : Ref sig .tc := ⟨.hbm, 296, rfl⟩
abbrev main_v15 : Ref sig .tc := ⟨.hbm, 297, rfl⟩
abbrev main_v16 : Ref sig .tc := ⟨.hbm, 298, rfl⟩
abbrev main_v17 : Ref sig .tc := ⟨.hbm, 299, rfl⟩
abbrev main_v18 : Ref sig .tc := ⟨.hbm, 300, rfl⟩
abbrev main_v19 : Ref sig .tc := ⟨.hbm, 301, rfl⟩
abbrev main_v20 : Ref sig .tc := ⟨.hbm, 302, rfl⟩
abbrev main_c_3 : Ref sig .tc := ⟨.hbm, 303, rfl⟩
abbrev main_v21 : Ref sig .tc := ⟨.hbm, 304, rfl⟩
abbrev main_v22 : Ref sig .tc := ⟨.hbm, 305, rfl⟩
abbrev main_v23 : Ref sig .tc := ⟨.hbm, 306, rfl⟩
abbrev main_v24 : Ref sig .tc := ⟨.hbm, 307, rfl⟩
abbrev main_v25 : Ref sig .tc := ⟨.hbm, 308, rfl⟩
abbrev main_v26 : Ref sig .tc := ⟨.hbm, 309, rfl⟩
abbrev main_v27 : Ref sig .tc := ⟨.hbm, 310, rfl⟩
abbrev main_v28 : Ref sig .tc := ⟨.hbm, 311, rfl⟩
abbrev main_v29 : Ref sig .tc := ⟨.hbm, 312, rfl⟩
abbrev main_v30 : Ref sig .tc := ⟨.hbm, 313, rfl⟩
abbrev main_v31 : Ref sig .tc := ⟨.hbm, 314, rfl⟩
abbrev main_v32 : Ref sig .tc := ⟨.hbm, 315, rfl⟩
abbrev main_v33 : Ref sig .tc := ⟨.hbm, 316, rfl⟩
abbrev main_v34 : Ref sig .tc := ⟨.hbm, 317, rfl⟩
abbrev main_v35 : Ref sig .tc := ⟨.hbm, 318, rfl⟩
abbrev main_v36 : Ref sig .tc := ⟨.hbm, 319, rfl⟩
abbrev main_v37 : Ref sig .tc := ⟨.hbm, 320, rfl⟩
abbrev main_v38 : Ref sig .tc := ⟨.hbm, 321, rfl⟩
abbrev main_v39 : Ref sig .tc := ⟨.hbm, 322, rfl⟩
abbrev main_v40 : Ref sig .tc := ⟨.hbm, 323, rfl⟩
abbrev main_v41 : Ref sig .tc := ⟨.hbm, 324, rfl⟩
abbrev main_v42 : Ref sig .tc := ⟨.hbm, 325, rfl⟩
abbrev main_v43 : Ref sig .tc := ⟨.hbm, 326, rfl⟩
abbrev main_v44 : Ref sig .tc := ⟨.hbm, 327, rfl⟩
abbrev main_v45 : Ref sig .tc := ⟨.hbm, 328, rfl⟩
abbrev main_v46 : Ref sig .tc := ⟨.hbm, 329, rfl⟩
abbrev main_v47 : Ref sig .tc := ⟨.hbm, 330, rfl⟩
abbrev main_v48 : Ref sig .tc := ⟨.hbm, 331, rfl⟩
abbrev main_v49 : Ref sig .tc := ⟨.hbm, 332, rfl⟩
abbrev main_v50 : Ref sig .tc := ⟨.hbm, 333, rfl⟩
abbrev main_v51 : Ref sig .tc := ⟨.hbm, 334, rfl⟩
abbrev main_v52 : Ref sig .tc := ⟨.hbm, 335, rfl⟩
abbrev main_v53 : Ref sig .tc := ⟨.hbm, 336, rfl⟩
abbrev main_v54 : Ref sig .tc := ⟨.hbm, 337, rfl⟩
abbrev main_v55 : Ref sig .tc := ⟨.hbm, 338, rfl⟩
abbrev main_v56 : Ref sig .tc := ⟨.hbm, 339, rfl⟩
abbrev main_v57 : Ref sig .tc := ⟨.hbm, 340, rfl⟩
abbrev main_v58 : Ref sig .tc := ⟨.hbm, 341, rfl⟩
abbrev main_v59 : Ref sig .tc := ⟨.hbm, 342, rfl⟩
abbrev main_v60 : Ref sig .tc := ⟨.hbm, 343, rfl⟩
abbrev main_v61 : Ref sig .tc := ⟨.hbm, 344, rfl⟩
abbrev main_v62 : Ref sig .tc := ⟨.hbm, 345, rfl⟩
abbrev main_v63 : Ref sig .tc := ⟨.hbm, 346, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c26_i32 : BitVec 32 := 26#32
  let v32 : BitVec 32 := Scalar.addi c0_i32 c26_i32
  let c1_i32 : BitVec 32 := 1#32
  ⟨c0_i32, v32, c1_i32⟩
@[reducible] def k0_t2_loop : Scf.Loop 32 :=
  let c0_i32_43 : BitVec 32 := 0#32
  let c16_i32 : BitVec 32 := 16#32
  let v60 : BitVec 32 := Scalar.addi c0_i32_43 c16_i32
  let c1_i32_44 : BitVec 32 := 1#32
  ⟨c0_i32_43, v60, c1_i32_44⟩
def k0_off1 (k0_t2 : Fin k0_t2_loop.trips) : Fin 4 → Nat :=
  let c0_118 : Index := 0#32
  let c0_i32_43 : BitVec 32 := 0#32
  let c1_i32_44 : BitVec 32 := 1#32
  let arg19 : BitVec 32 := Scf.iv c0_i32_43 c1_i32_44 k0_t2
  let v149 : Index := Scalar.indexCast arg19
  let c0_119 : Index := 0#32
  let c0_120 : Index := 0#32
  ![0, v149.toNat, 0, 0]
def k0_off2 (k0_t2 : Fin k0_t2_loop.trips) : Fin 3 → Nat :=
  let c0_i32_43 : BitVec 32 := 0#32
  let c1_i32_44 : BitVec 32 := 1#32
  let arg19 : BitVec 32 := Scf.iv c0_i32_43 c1_i32_44 k0_t2
  let v192 : Index := Scalar.indexCast arg19
  let c0_139 : Index := 0#32
  let c0_140 : Index := 0#32
  ![v192.toNat, 0, 0]
def k0_mult1 (k0_t2 : Fin k0_t2_loop.trips) : BitVec 32 :=
  let c0_i32_43 : BitVec 32 := 0#32
  let c1_i32_44 : BitVec 32 := 1#32
  let arg19 : BitVec 32 := Scf.iv c0_i32_43 c1_i32_44 k0_t2
  let c8_i32 : BitVec 32 := 8#32
  let v198 : BitVec 32 := Scalar.muli arg19 c8_i32
  v198
def k0_off3 (k0_t2 : Fin k0_t2_loop.trips) (c0_i32_143 : BitVec 32) : Fin 2 → Nat :=
  let c0_i32_43 : BitVec 32 := 0#32
  let c1_i32_44 : BitVec 32 := 1#32
  let arg19 : BitVec 32 := Scf.iv c0_i32_43 c1_i32_44 k0_t2
  let c8_i32 : BitVec 32 := 8#32
  let v198 : BitVec 32 := Scalar.muli arg19 c8_i32
  let v199 : BitVec 32 := v198
  let v201 : BitVec 32 := Scalar.addi c0_i32_143 v199
  let v202 : Index := Scalar.indexCast v201
  let c0_144 : Index := 0#32
  ![v202.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x1024x1024x3 : Shape := ⟨4, ![4, 1024, 1024, 3]⟩
abbrev S4x1024x64 : Shape := ⟨3, ![4, 1024, 64]⟩
abbrev S4x1024 : Shape := ⟨2, ![4, 1024]⟩
abbrev S3x32 : Shape := ⟨2, ![3, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1024x64 : Shape := ⟨2, ![1024, 64]⟩
abbrev S64 : Shape := ⟨1, ![64]⟩
abbrev S_ : Shape := ⟨0, ![]⟩
abbrev S4x1024x1024 : Shape := ⟨3, ![4, 1024, 1024]⟩
abbrev S4x1x1024 : Shape := ⟨3, ![4, 1, 1024]⟩
abbrev S4x1024x1 : Shape := ⟨3, ![4, 1024, 1]⟩
abbrev S1 : Shape := ⟨1, ![1]⟩
abbrev S2 : Shape := ⟨1, ![2]⟩
abbrev S1x1x1 : Shape := ⟨3, ![1, 1, 1]⟩
abbrev S4x1024x32 : Shape := ⟨3, ![4, 1024, 32]⟩
abbrev S4 : Shape := ⟨1, ![4]⟩
abbrev S4x1x1 : Shape := ⟨3, ![4, 1, 1]⟩
abbrev S1024 : Shape := ⟨1, ![1024]⟩
abbrev S1x1024x1 : Shape := ⟨3, ![1, 1024, 1]⟩
abbrev S4x1024x32x1 : Shape := ⟨4, ![4, 1024, 32, 1]⟩
abbrev S4x1024x32x3 : Shape := ⟨4, ![4, 1024, 32, 3]⟩
abbrev S4x1024x32x2 : Shape := ⟨4, ![4, 1024, 32, 2]⟩
abbrev S4x1024x32x64 : Shape := ⟨4, ![4, 1024, 32, 64]⟩
abbrev S4x1024x32x32 : Shape := ⟨4, ![4, 1024, 32, 32]⟩
abbrev S1x1x1x32 : Shape := ⟨4, ![1, 1, 1, 32]⟩
abbrev S4x1024x32x16 : Shape := ⟨4, ![4, 1024, 32, 16]⟩
abbrev S1x1x1x16 : Shape := ⟨4, ![1, 1, 1, 16]⟩
abbrev S4x1024x64x16 : Shape := ⟨4, ![4, 1024, 64, 16]⟩
abbrev S1x1x64 : Shape := ⟨3, ![1, 1, 64]⟩

abbrev nBuf : Space → Nat
  | .hbm => 452
  | .vmem => 0
  | .smem => 0
  | _ => 0

abbrev hbmTy0_0 (i : Nat) : BufTy := match i % 128 with
  | 0 => ⟨S4x1024x1024x3, .f32⟩
  | 1 => ⟨S4x1024x64, .f32⟩
  | 2 => ⟨S4x1024, .i1⟩
  | 3 => ⟨S3x32, .f32⟩
  | 4 => ⟨S32, .f32⟩
  | 5 => ⟨S32x32, .f32⟩
  | 6 => ⟨S32, .f32⟩
  | 7 => ⟨S32x16, .f32⟩
  | 8 => ⟨S16, .f32⟩
  | 9 => ⟨S1024x64, .f32⟩
  | 10 => ⟨S64, .f32⟩
  | 11 => ⟨S4x1024x1024x3, .f32⟩
  | 12 => ⟨S_, .f32⟩
  | 13 => ⟨S4x1024x1024, .f32⟩
  | 14 => ⟨S_, .f32⟩
  | 15 => ⟨S4x1024x1024, .f32⟩
  | 16 => ⟨S4x1024x1024, .f32⟩
  | 17 => ⟨S4x1024x1024, .f32⟩
  | 18 => ⟨S4x1x1024, .i1⟩
  | 19 => ⟨S_, .f32⟩
  | 20 => ⟨S4x1024x1024, .f32⟩
  | 21 => ⟨S_, .f32⟩
  | 22 => ⟨S4x1024x1024, .f32⟩
  | 23 => ⟨S4x1024x1024, .f32⟩
  | 24 => ⟨S4x1024x1024, .i1⟩
  | 25 => ⟨S4x1024x1024, .f32⟩
  | 26 => ⟨S_, .f32⟩
  | 27 => ⟨S4x1024x1024, .f32⟩
  | 28 => ⟨S4x1024x1024, .i1⟩
  | 29 => ⟨S4x1x1024, .i1⟩
  | 30 => ⟨S4x1024x1024, .i1⟩
  | 31 => ⟨S4x1024x1024, .i1⟩
  | 32 => ⟨S4x1024x1, .i1⟩
  | 33 => ⟨S4x1024x1024, .i1⟩
  | 34 => ⟨S4x1024x1024, .i1⟩
  | 35 => ⟨S_, .i32⟩
  | 36 => ⟨S_, .i32⟩
  | 37 => ⟨S_, .i32⟩
  | 38 => ⟨S_, .i32⟩
  | 39 => ⟨S1, .i32⟩
  | 40 => ⟨S_, .i32⟩
  | 41 => ⟨S_, .i32⟩
  | 42 => ⟨S_, .i32⟩
  | 43 => ⟨S1, .i32⟩
  | 44 => ⟨S2, .i32⟩
  | 45 => ⟨S_, .f32⟩
  | 46 => ⟨S_, .f32⟩
  | 47 => ⟨S_, .f32⟩
  | 48 => ⟨S_, .f32⟩
  | 49 => ⟨S1x1x1, .f32⟩
  | 50 => ⟨S1x1x1, .f32⟩
  | 51 => ⟨S1, .i32⟩
  | 52 => ⟨S_, .i32⟩
  | 53 => ⟨S1, .i32⟩
  | 54 => ⟨S_, .i32⟩
  | 55 => ⟨S4x1024x1024, .i64⟩
  | 56 => ⟨S4x1024x1024, .i64⟩
  | 57 => ⟨S4x1024x1024, .i64⟩
  | 58 => ⟨S_, .i64⟩
  | 59 => ⟨S4x1024x1024, .i64⟩
  | 60 => ⟨S4x1024x1024, .i64⟩
  | 61 => ⟨S_, .i64⟩
  | 62 => ⟨S4x1024x1024, .i64⟩
  | 63 => ⟨S4x1024x1024, .i64⟩
  | 64 => ⟨S_, .i64⟩
  | 65 => ⟨S4x1024x1024, .i64⟩
  | 66 => ⟨S4x1024x1024, .i64⟩
  | 67 => ⟨S4x1024x1024, .i64⟩
  | 68 => ⟨S4x1024x1024, .i64⟩
  | 69 => ⟨S_, .i64⟩
  | 70 => ⟨S4x1024x1024, .i64⟩
  | 71 => ⟨S4x1024x1024, .i64⟩
  | 72 => ⟨S4x1024x1024, .i32⟩
  | 73 => ⟨S4x1024x1024, .i32⟩
  | 74 => ⟨S_, .i32⟩
  | 75 => ⟨S_, .i32⟩
  | 76 => ⟨S_, .i32⟩
  | 77 => ⟨S4x1024x1024, .i32⟩
  | 78 => ⟨S4x1024x1024, .i32⟩
  | 79 => ⟨S4x1024x1024, .i32⟩
  | 80 => ⟨S4x1024x1024, .i32⟩
  | 81 => ⟨S4x1024x1024, .i32⟩
  | 82 => ⟨S_, .i32⟩
  | 83 => ⟨S4x1024x1024, .i32⟩
  | 84 => ⟨S4x1024x1024, .i32⟩
  | 85 => ⟨S_, .i32⟩
  | 86 => ⟨S4x1024x1024, .i32⟩
  | 87 => ⟨S4x1024x1024, .i32⟩
  | 88 => ⟨S4x1024x1024, .i32⟩
  | 89 => ⟨S4x1024x1024, .i32⟩
  | 90 => ⟨S4x1024x1024, .i32⟩
  | 91 => ⟨S_, .i32⟩
  | 92 => ⟨S4x1024x1024, .i32⟩
  | 93 => ⟨S4x1024x1024, .i32⟩
  | 94 => ⟨S_, .i32⟩
  | 95 => ⟨S4x1024x1024, .i32⟩
  | 96 => ⟨S4x1024x1024, .i32⟩
  | 97 => ⟨S4x1024x1024, .i32⟩
  | 98 => ⟨S4x1024x1024, .i32⟩
  | 99 => ⟨S4x1024x1024, .i32⟩
  | 100 => ⟨S_, .i32⟩
  | 101 => ⟨S4x1024x1024, .i32⟩
  | 102 => ⟨S4x1024x1024, .i32⟩
  | 103 => ⟨S_, .i32⟩
  | 104 => ⟨S4x1024x1024, .i32⟩
  | 105 => ⟨S4x1024x1024, .i32⟩
  | 106 => ⟨S4x1024x1024, .i32⟩
  | 107 => ⟨S4x1024x1024, .i32⟩
  | 108 => ⟨S4x1024x1024, .i32⟩
  | 109 => ⟨S_, .i32⟩
  | 110 => ⟨S4x1024x1024, .i32⟩
  | 111 => ⟨S4x1024x1024, .i32⟩
  | 112 => ⟨S_, .i32⟩
  | 113 => ⟨S4x1024x1024, .i32⟩
  | 114 => ⟨S4x1024x1024, .i32⟩
  | 115 => ⟨S4x1024x1024, .i32⟩
  | 116 => ⟨S4x1024x1024, .i32⟩
  | 117 => ⟨S4x1024x1024, .i32⟩
  | 118 => ⟨S4x1024x1024, .i32⟩
  | 119 => ⟨S4x1024x1024, .i32⟩
  | 120 => ⟨S4x1024x1024, .i32⟩
  | 121 => ⟨S_, .i32⟩
  | 122 => ⟨S4x1024x1024, .i32⟩
  | 123 => ⟨S4x1024x1024, .i32⟩
  | 124 => ⟨S4x1024x1024, .i32⟩
  | 125 => ⟨S_, .i32⟩
  | 126 => ⟨S4x1024x1024, .i32⟩
  | 127 => ⟨S4x1024x1024, .i32⟩
  | _ => ⟨S4x1024x1024x3, .f32⟩

abbrev hbmTy0_1 (i : Nat) : BufTy := match i % 128 with
  | 0 => ⟨S_, .i32⟩
  | 1 => ⟨S4x1024x1024, .i32⟩
  | 2 => ⟨S4x1024x1024, .i32⟩
  | 3 => ⟨S4x1024x1024, .i32⟩
  | 4 => ⟨S4x1024x1024, .i32⟩
  | 5 => ⟨S4x1024x1024, .i32⟩
  | 6 => ⟨S_, .i32⟩
  | 7 => ⟨S4x1024x1024, .i32⟩
  | 8 => ⟨S4x1024x1024, .i32⟩
  | 9 => ⟨S_, .i32⟩
  | 10 => ⟨S4x1024x1024, .i32⟩
  | 11 => ⟨S4x1024x1024, .i32⟩
  | 12 => ⟨S4x1024x1024, .i32⟩
  | 13 => ⟨S4x1024x1024, .i32⟩
  | 14 => ⟨S4x1024x1024, .i32⟩
  | 15 => ⟨S_, .i32⟩
  | 16 => ⟨S4x1024x1024, .i32⟩
  | 17 => ⟨S4x1024x1024, .i32⟩
  | 18 => ⟨S_, .i32⟩
  | 19 => ⟨S4x1024x1024, .i32⟩
  | 20 => ⟨S4x1024x1024, .i32⟩
  | 21 => ⟨S4x1024x1024, .i32⟩
  | 22 => ⟨S4x1024x1024, .i32⟩
  | 23 => ⟨S4x1024x1024, .i32⟩
  | 24 => ⟨S_, .i32⟩
  | 25 => ⟨S4x1024x1024, .i32⟩
  | 26 => ⟨S4x1024x1024, .i32⟩
  | 27 => ⟨S_, .i32⟩
  | 28 => ⟨S4x1024x1024, .i32⟩
  | 29 => ⟨S4x1024x1024, .i32⟩
  | 30 => ⟨S4x1024x1024, .i32⟩
  | 31 => ⟨S4x1024x1024, .i32⟩
  | 32 => ⟨S4x1024x1024, .i32⟩
  | 33 => ⟨S4x1024x1024, .i32⟩
  | 34 => ⟨S4x1024x1024, .i32⟩
  | 35 => ⟨S4x1024x1024, .i32⟩
  | 36 => ⟨S_, .i32⟩
  | 37 => ⟨S4x1024x1024, .i32⟩
  | 38 => ⟨S4x1024x1024, .i32⟩
  | 39 => ⟨S4x1024x1024, .i32⟩
  | 40 => ⟨S_, .i32⟩
  | 41 => ⟨S4x1024x1024, .i32⟩
  | 42 => ⟨S4x1024x1024, .i32⟩
  | 43 => ⟨S_, .i32⟩
  | 44 => ⟨S4x1024x1024, .i32⟩
  | 45 => ⟨S4x1024x1024, .i32⟩
  | 46 => ⟨S4x1024x1024, .i32⟩
  | 47 => ⟨S4x1024x1024, .i32⟩
  | 48 => ⟨S4x1024x1024, .i32⟩
  | 49 => ⟨S_, .i32⟩
  | 50 => ⟨S4x1024x1024, .i32⟩
  | 51 => ⟨S4x1024x1024, .i32⟩
  | 52 => ⟨S_, .i32⟩
  | 53 => ⟨S4x1024x1024, .i32⟩
  | 54 => ⟨S4x1024x1024, .i32⟩
  | 55 => ⟨S4x1024x1024, .i32⟩
  | 56 => ⟨S4x1024x1024, .i32⟩
  | 57 => ⟨S4x1024x1024, .i32⟩
  | 58 => ⟨S_, .i32⟩
  | 59 => ⟨S4x1024x1024, .i32⟩
  | 60 => ⟨S4x1024x1024, .i32⟩
  | 61 => ⟨S_, .i32⟩
  | 62 => ⟨S4x1024x1024, .i32⟩
  | 63 => ⟨S4x1024x1024, .i32⟩
  | 64 => ⟨S4x1024x1024, .i32⟩
  | 65 => ⟨S4x1024x1024, .i32⟩
  | 66 => ⟨S4x1024x1024, .i32⟩
  | 67 => ⟨S_, .i32⟩
  | 68 => ⟨S4x1024x1024, .i32⟩
  | 69 => ⟨S4x1024x1024, .i32⟩
  | 70 => ⟨S_, .i32⟩
  | 71 => ⟨S4x1024x1024, .i32⟩
  | 72 => ⟨S4x1024x1024, .i32⟩
  | 73 => ⟨S4x1024x1024, .i32⟩
  | 74 => ⟨S4x1024x1024, .i32⟩
  | 75 => ⟨S4x1024x1024, .i32⟩
  | 76 => ⟨S4x1024x1024, .i32⟩
  | 77 => ⟨S4x1024x1024, .i32⟩
  | 78 => ⟨S4x1024x1024, .i32⟩
  | 79 => ⟨S_, .i32⟩
  | 80 => ⟨S4x1024x1024, .i32⟩
  | 81 => ⟨S4x1024x1024, .i32⟩
  | 82 => ⟨S4x1024x1024, .i32⟩
  | 83 => ⟨S_, .i32⟩
  | 84 => ⟨S4x1024x1024, .i32⟩
  | 85 => ⟨S4x1024x1024, .i32⟩
  | 86 => ⟨S_, .i32⟩
  | 87 => ⟨S4x1024x1024, .i32⟩
  | 88 => ⟨S4x1024x1024, .i32⟩
  | 89 => ⟨S4x1024x1024, .i32⟩
  | 90 => ⟨S4x1024x1024, .i32⟩
  | 91 => ⟨S4x1024x1024, .i32⟩
  | 92 => ⟨S_, .i32⟩
  | 93 => ⟨S4x1024x1024, .i32⟩
  | 94 => ⟨S4x1024x1024, .i32⟩
  | 95 => ⟨S_, .i32⟩
  | 96 => ⟨S4x1024x1024, .i32⟩
  | 97 => ⟨S4x1024x1024, .i32⟩
  | 98 => ⟨S4x1024x1024, .i32⟩
  | 99 => ⟨S4x1024x1024, .i32⟩
  | 100 => ⟨S4x1024x1024, .i32⟩
  | 101 => ⟨S_, .i32⟩
  | 102 => ⟨S4x1024x1024, .i32⟩
  | 103 => ⟨S4x1024x1024, .i32⟩
  | 104 => ⟨S_, .i32⟩
  | 105 => ⟨S4x1024x1024, .i32⟩
  | 106 => ⟨S4x1024x1024, .i32⟩
  | 107 => ⟨S4x1024x1024, .i32⟩
  | 108 => ⟨S4x1024x1024, .i32⟩
  | 109 => ⟨S4x1024x1024, .i32⟩
  | 110 => ⟨S_, .i32⟩
  | 111 => ⟨S4x1024x1024, .i32⟩
  | 112 => ⟨S4x1024x1024, .i32⟩
  | 113 => ⟨S_, .i32⟩
  | 114 => ⟨S4x1024x1024, .i32⟩
  | 115 => ⟨S4x1024x1024, .i32⟩
  | 116 => ⟨S4x1024x1024, .i32⟩
  | 117 => ⟨S4x1024x1024, .i32⟩
  | 118 => ⟨S4x1024x1024, .i32⟩
  | 119 => ⟨S4x1024x1024, .i32⟩
  | 120 => ⟨S4x1024x1024, .i32⟩
  | 121 => ⟨S4x1024x1024, .i32⟩
  | 122 => ⟨S_, .i32⟩
  | 123 => ⟨S4x1024x1024, .i32⟩
  | 124 => ⟨S4x1024x1024, .i32⟩
  | 125 => ⟨S4x1024x1024, .i32⟩
  | 126 => ⟨S_, .i32⟩
  | 127 => ⟨S4x1024x1024, .i32⟩
  | _ => ⟨S4x1024x1024x3, .f32⟩

abbrev hbmTy0_2 (i : Nat) : BufTy := match i % 128 with
  | 0 => ⟨S4x1024x1024, .i32⟩
  | 1 => ⟨S_, .i32⟩
  | 2 => ⟨S4x1024x1024, .i32⟩
  | 3 => ⟨S4x1024x1024, .i32⟩
  | 4 => ⟨S4x1024x1024, .i32⟩
  | 5 => ⟨S4x1024x1024, .i32⟩
  | 6 => ⟨S4x1024x1024, .i32⟩
  | 7 => ⟨S_, .i32⟩
  | 8 => ⟨S4x1024x1024, .i32⟩
  | 9 => ⟨S4x1024x1024, .i32⟩
  | 10 => ⟨S_, .i32⟩
  | 11 => ⟨S4x1024x1024, .i32⟩
  | 12 => ⟨S4x1024x1024, .i32⟩
  | 13 => ⟨S4x1024x1024, .i32⟩
  | 14 => ⟨S4x1024x1024, .i32⟩
  | 15 => ⟨S4x1024x1024, .i32⟩
  | 16 => ⟨S_, .i32⟩
  | 17 => ⟨S4x1024x1024, .i32⟩
  | 18 => ⟨S4x1024x1024, .i32⟩
  | 19 => ⟨S_, .i32⟩
  | 20 => ⟨S4x1024x1024, .i32⟩
  | 21 => ⟨S4x1024x1024, .i32⟩
  | 22 => ⟨S4x1024x1024, .i32⟩
  | 23 => ⟨S4x1024x1024, .i32⟩
  | 24 => ⟨S4x1024x1024, .i32⟩
  | 25 => ⟨S_, .i32⟩
  | 26 => ⟨S4x1024x1024, .i32⟩
  | 27 => ⟨S4x1024x1024, .i32⟩
  | 28 => ⟨S_, .i32⟩
  | 29 => ⟨S4x1024x1024, .i32⟩
  | 30 => ⟨S4x1024x1024, .i32⟩
  | 31 => ⟨S4x1024x1024, .i32⟩
  | 32 => ⟨S4x1024x1024, .i32⟩
  | 33 => ⟨S4x1024x1024, .i32⟩
  | 34 => ⟨S4x1024x1024, .i32⟩
  | 35 => ⟨S4x1024x1024, .i32⟩
  | 36 => ⟨S4x1024x1024, .i32⟩
  | 37 => ⟨S_, .i32⟩
  | 38 => ⟨S4x1024x1024, .i32⟩
  | 39 => ⟨S4x1024x1024, .i32⟩
  | 40 => ⟨S4x1024x1024, .i32⟩
  | 41 => ⟨S_, .i32⟩
  | 42 => ⟨S4x1024x1024, .i32⟩
  | 43 => ⟨S4x1024x1024, .i32⟩
  | 44 => ⟨S_, .i32⟩
  | 45 => ⟨S4x1024x1024, .i32⟩
  | 46 => ⟨S4x1024x1024, .i32⟩
  | 47 => ⟨S4x1024x1024, .f32⟩
  | 48 => ⟨S_, .f32⟩
  | 49 => ⟨S4x1024x1024, .f32⟩
  | 50 => ⟨S4x1024x1024, .f32⟩
  | 51 => ⟨S1x1x1, .f32⟩
  | 52 => ⟨S4x1024x1024, .f32⟩
  | 53 => ⟨S4x1024x1024, .f32⟩
  | 54 => ⟨S4x1024x1024, .f32⟩
  | 55 => ⟨S4x1024x1024, .f32⟩
  | 56 => ⟨S4x1024x1024, .f32⟩
  | 57 => ⟨S4x1024x1024, .f32⟩
  | 58 => ⟨S4x1024x1024, .f32⟩
  | 59 => ⟨S4x1024x1024, .f32⟩
  | 60 => ⟨S4x1024x32, .f32⟩
  | 61 => ⟨S4x1024x32, .i32⟩
  | 62 => ⟨S_, .f32⟩
  | 63 => ⟨S4x1024x32, .f32⟩
  | 64 => ⟨S4x1024x32, .i1⟩
  | 65 => ⟨S4, .i32⟩
  | 66 => ⟨S4x1x1, .i32⟩
  | 67 => ⟨S1024, .i32⟩
  | 68 => ⟨S1x1024x1, .i32⟩
  | 69 => ⟨S_, .i32⟩
  | 70 => ⟨S4x1x1, .i32⟩
  | 71 => ⟨S4x1x1, .i1⟩
  | 72 => ⟨S_, .i32⟩
  | 73 => ⟨S4x1x1, .i32⟩
  | 74 => ⟨S4x1x1, .i32⟩
  | 75 => ⟨S4x1x1, .i32⟩
  | 76 => ⟨S_, .i32⟩
  | 77 => ⟨S1x1024x1, .i32⟩
  | 78 => ⟨S1x1024x1, .i1⟩
  | 79 => ⟨S_, .i32⟩
  | 80 => ⟨S1x1024x1, .i32⟩
  | 81 => ⟨S1x1024x1, .i32⟩
  | 82 => ⟨S1x1024x1, .i32⟩
  | 83 => ⟨S_, .i32⟩
  | 84 => ⟨S4x1024x32, .i32⟩
  | 85 => ⟨S4x1024x32, .i1⟩
  | 86 => ⟨S_, .i32⟩
  | 87 => ⟨S4x1024x32, .i32⟩
  | 88 => ⟨S4x1024x32, .i32⟩
  | 89 => ⟨S4x1024x32, .i32⟩
  | 90 => ⟨S4x1024x32, .i32⟩
  | 91 => ⟨S4x1024x32, .i32⟩
  | 92 => ⟨S4x1024x32x1, .i32⟩
  | 93 => ⟨S4x1024x32x1, .i32⟩
  | 94 => ⟨S4x1024x32x1, .i32⟩
  | 95 => ⟨S4x1024x32x3, .i32⟩
  | 96 => ⟨S4x1024x32x3, .f32⟩
  | 97 => ⟨S_, .i32⟩
  | 98 => ⟨S4x1x1, .i32⟩
  | 99 => ⟨S4x1x1, .i1⟩
  | 100 => ⟨S_, .i32⟩
  | 101 => ⟨S4x1x1, .i32⟩
  | 102 => ⟨S4x1x1, .i32⟩
  | 103 => ⟨S4x1x1, .i32⟩
  | 104 => ⟨S_, .i32⟩
  | 105 => ⟨S4x1024x32, .i32⟩
  | 106 => ⟨S4x1024x32, .i1⟩
  | 107 => ⟨S_, .i32⟩
  | 108 => ⟨S4x1024x32, .i32⟩
  | 109 => ⟨S4x1024x32, .i32⟩
  | 110 => ⟨S4x1024x32, .i32⟩
  | 111 => ⟨S4x1024x32, .i32⟩
  | 112 => ⟨S4x1024x32x1, .i32⟩
  | 113 => ⟨S4x1024x32x1, .i32⟩
  | 114 => ⟨S4x1024x32x2, .i32⟩
  | 115 => ⟨S4x1024x32x64, .f32⟩
  | 116 => ⟨S_, .i32⟩
  | 117 => ⟨S4x1x1, .i32⟩
  | 118 => ⟨S4x1x1, .i1⟩
  | 119 => ⟨S_, .i32⟩
  | 120 => ⟨S4x1x1, .i32⟩
  | 121 => ⟨S4x1x1, .i32⟩
  | 122 => ⟨S4x1x1, .i32⟩
  | 123 => ⟨S_, .i32⟩
  | 124 => ⟨S4x1024x32, .i32⟩
  | 125 => ⟨S4x1024x32, .i1⟩
  | 126 => ⟨S_, .i32⟩
  | 127 => ⟨S4x1024x32, .i32⟩
  | _ => ⟨S4x1024x1024x3, .f32⟩

abbrev hbmTy0_3 (i : Nat) : BufTy := match i % 128 with
  | 0 => ⟨S4x1024x32, .i32⟩
  | 1 => ⟨S4x1024x32, .i32⟩
  | 2 => ⟨S4x1024x32, .i32⟩
  | 3 => ⟨S4x1024x32x1, .i32⟩
  | 4 => ⟨S4x1024x32x1, .i32⟩
  | 5 => ⟨S4x1024x32x2, .i32⟩
  | 6 => ⟨S4x1024x32, .i1⟩
  | 7 => ⟨S4x1024x32, .i1⟩
  | 8 => ⟨S4x1024x32x32, .f32⟩
  | 9 => ⟨S1x1x1x32, .f32⟩
  | 10 => ⟨S4x1024x32x32, .f32⟩
  | 11 => ⟨S4x1024x32x32, .f32⟩
  | 12 => ⟨S4x1024x32x32, .f32⟩
  | 13 => ⟨S4x1024x32x32, .f32⟩
  | 14 => ⟨S_, .f32⟩
  | 15 => ⟨S4x1024x32x32, .f32⟩
  | 16 => ⟨S4x1024x32x32, .f32⟩
  | 17 => ⟨S_, .f32⟩
  | 18 => ⟨S4x1024x32x32, .f32⟩
  | 19 => ⟨S4x1024x32x32, .f32⟩
  | 20 => ⟨S4x1024x32x32, .f32⟩
  | 21 => ⟨S4x1024x32x32, .f32⟩
  | 22 => ⟨S1x1x1x32, .f32⟩
  | 23 => ⟨S4x1024x32x32, .f32⟩
  | 24 => ⟨S4x1024x32x32, .f32⟩
  | 25 => ⟨S4x1024x32x32, .f32⟩
  | 26 => ⟨S4x1024x32x32, .f32⟩
  | 27 => ⟨S_, .f32⟩
  | 28 => ⟨S4x1024x32x32, .f32⟩
  | 29 => ⟨S4x1024x32x32, .f32⟩
  | 30 => ⟨S_, .f32⟩
  | 31 => ⟨S4x1024x32x32, .f32⟩
  | 32 => ⟨S4x1024x32x32, .f32⟩
  | 33 => ⟨S4x1024x32x32, .f32⟩
  | 34 => ⟨S4x1024x32x16, .f32⟩
  | 35 => ⟨S1x1x1x16, .f32⟩
  | 36 => ⟨S4x1024x32x16, .f32⟩
  | 37 => ⟨S4x1024x32x16, .f32⟩
  | 38 => ⟨S4x1024x32x16, .f32⟩
  | 39 => ⟨S4x1024x32x16, .f32⟩
  | 40 => ⟨S_, .f32⟩
  | 41 => ⟨S4x1024x32x16, .f32⟩
  | 42 => ⟨S4x1024x32x16, .f32⟩
  | 43 => ⟨S_, .f32⟩
  | 44 => ⟨S4x1024x32x16, .f32⟩
  | 45 => ⟨S4x1024x32x16, .f32⟩
  | 46 => ⟨S4x1024x32x16, .f32⟩
  | 47 => ⟨S4x1024x32x1, .i1⟩
  | 48 => ⟨S_, .f32⟩
  | 49 => ⟨S4x1024x32x16, .f32⟩
  | 50 => ⟨S4x1024x32x16, .i1⟩
  | 51 => ⟨S4x1024x32x16, .f32⟩
  | 52 => ⟨S4x1024x32x1, .i1⟩
  | 53 => ⟨S_, .f32⟩
  | 54 => ⟨S4x1024x32x64, .f32⟩
  | 55 => ⟨S4x1024x32x64, .i1⟩
  | 56 => ⟨S4x1024x32x64, .f32⟩
  | 57 => ⟨S4x1024x64x16, .f32⟩
  | 58 => ⟨S4x1024x1024, .f32⟩
  | 59 => ⟨S4x1024x64, .f32⟩
  | 60 => ⟨S1x1x64, .f32⟩
  | 61 => ⟨S4x1024x64, .f32⟩
  | 62 => ⟨S4x1024x64, .f32⟩
  | 63 => ⟨S4x1024x1, .i1⟩
  | 64 => ⟨S_, .f32⟩
  | 65 => ⟨S4x1024x64, .f32⟩
  | 66 => ⟨S4x1024x64, .i1⟩
  | 67 => ⟨S4x1024x64, .f32⟩
  | _ => ⟨S4x1024x1024x3, .f32⟩

abbrev hbmTy (i : Nat) : BufTy := match i / 128 with
  | 0 => hbmTy0_0 i
  | 1 => hbmTy0_1 i
  | 2 => hbmTy0_2 i
  | 3 => hbmTy0_3 i
  | _ => ⟨S4x1024x1024x3, .f32⟩

abbrev bufTy : (tb : Table) → Fin (tcTables nBuf tb) → BufTy
  | .hbm, ⟨i, _⟩ => hbmTy i
  | _, _ => ⟨S4x1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_c : Ref sig .tc := ⟨.hbm, 58, rfl⟩
abbrev main_call1_v11 : Ref sig .tc := ⟨.hbm, 59, rfl⟩
abbrev main_call1_v12 : Ref sig .tc := ⟨.hbm, 60, rfl⟩
abbrev main_call1_c_0 : Ref sig .tc := ⟨.hbm, 61, rfl⟩
abbrev main_call1_v13 : Ref sig .tc := ⟨.hbm, 62, rfl⟩
abbrev main_call1_v14 : Ref sig .tc := ⟨.hbm, 63, rfl⟩
abbrev main_call1_c_1 : Ref sig .tc := ⟨.hbm, 64, rfl⟩
abbrev main_call1_v15 : Ref sig .tc := ⟨.hbm, 65, rfl⟩
abbrev main_call1_v16 : Ref sig .tc := ⟨.hbm, 66, rfl⟩
abbrev main_call1_v17 : Ref sig .tc := ⟨.hbm, 67, rfl⟩
abbrev main_call1_v18 : Ref sig .tc := ⟨.hbm, 68, rfl⟩
abbrev main_call1_c_2 : Ref sig .tc := ⟨.hbm, 69, rfl⟩
abbrev main_call1_v19 : Ref sig .tc := ⟨.hbm, 70, rfl⟩
abbrev main_call1_v20 : Ref sig .tc := ⟨.hbm, 71, rfl⟩
abbrev main_call1_v21 : Ref sig .tc := ⟨.hbm, 72, rfl⟩
abbrev main_call1_v22 : Ref sig .tc := ⟨.hbm, 73, rfl⟩
abbrev main_call1_call0_v0 : Ref sig .tc := ⟨.hbm, 74, rfl⟩
abbrev main_call1_call0_c : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_c_0 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_c_1 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_call0_v12 : Ref sig .tc := ⟨.hbm, 89, rfl⟩
abbrev main_call1_call0_v13 : Ref sig .tc := ⟨.hbm, 90, rfl⟩
abbrev main_call1_call0_c_2 : Ref sig .tc := ⟨.hbm, 91, rfl⟩
abbrev main_call1_call0_v14 : Ref sig .tc := ⟨.hbm, 92, rfl⟩
abbrev main_call1_call0_v15 : Ref sig .tc := ⟨.hbm, 93, rfl⟩
abbrev main_call1_call0_c_3 : Ref sig .tc := ⟨.hbm, 94, rfl⟩
abbrev main_call1_call0_v16 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_c_4 : Ref sig .tc := ⟨.hbm, 100, rfl⟩
abbrev main_call1_call0_v21 : Ref sig .tc := ⟨.hbm, 101, rfl⟩
abbrev main_call1_call0_v22 : Ref sig .tc := ⟨.hbm, 102, rfl⟩
abbrev main_call1_call0_c_5 : Ref sig .tc := ⟨.hbm, 103, rfl⟩
abbrev main_call1_call0_v23 : Ref sig .tc := ⟨.hbm, 104, rfl⟩
abbrev main_call1_call0_v24 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_v27 : Ref sig .tc := ⟨.hbm, 108, rfl⟩
abbrev main_call1_call0_c_6 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_c_7 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_v32 : Ref sig .tc := ⟨.hbm, 115, rfl⟩
abbrev main_call1_call0_v33 : Ref sig .tc := ⟨.hbm, 116, rfl⟩
abbrev main_call1_call0_v34 : Ref sig .tc := ⟨.hbm, 117, rfl⟩
abbrev main_call1_call0_v35 : Ref sig .tc := ⟨.hbm, 118, rfl⟩
abbrev main_call1_call0_v36 : Ref sig .tc := ⟨.hbm, 119, rfl⟩
abbrev main_call1_call0_v37 : Ref sig .tc := ⟨.hbm, 120, rfl⟩
abbrev main_call1_call0_c_8 : Ref sig .tc := ⟨.hbm, 121, rfl⟩
abbrev main_call1_call0_v38 : Ref sig .tc := ⟨.hbm, 122, rfl⟩
abbrev main_call1_call0_v39 : Ref sig .tc := ⟨.hbm, 123, rfl⟩
abbrev main_call1_call0_v40 : Ref sig .tc := ⟨.hbm, 124, rfl⟩
abbrev main_call1_call0_c_9 : Ref sig .tc := ⟨.hbm, 125, rfl⟩
abbrev main_call1_call0_v41 : Ref sig .tc := ⟨.hbm, 126, rfl⟩
abbrev main_call1_call0_v42 : Ref sig .tc := ⟨.hbm, 127, rfl⟩
abbrev main_call1_call0_c_10 : Ref sig .tc := ⟨.hbm, 128, rfl⟩
abbrev main_call1_call0_v43 : Ref sig .tc := ⟨.hbm, 129, rfl⟩
abbrev main_call1_call0_v44 : Ref sig .tc := ⟨.hbm, 130, rfl⟩
abbrev main_call1_call0_v45 : Ref sig .tc := ⟨.hbm, 131, rfl⟩
abbrev main_call1_call0_v46 : Ref sig .tc := ⟨.hbm, 132, rfl⟩
abbrev main_call1_call0_v47 : Ref sig .tc := ⟨.hbm, 133, rfl⟩
abbrev main_call1_call0_c_11 : Ref sig .tc := ⟨.hbm, 134, rfl⟩
abbrev main_call1_call0_v48 : Ref sig .tc := ⟨.hbm, 135, rfl⟩
abbrev main_call1_call0_v49 : Ref sig .tc := ⟨.hbm, 136, rfl⟩
abbrev main_call1_call0_c_12 : Ref sig .tc := ⟨.hbm, 137, rfl⟩
abbrev main_call1_call0_v50 : Ref sig .tc := ⟨.hbm, 138, rfl⟩
abbrev main_call1_call0_v51 : Ref sig .tc := ⟨.hbm, 139, rfl⟩
abbrev main_call1_call0_v52 : Ref sig .tc := ⟨.hbm, 140, rfl⟩
abbrev main_call1_call0_v53 : Ref sig .tc := ⟨.hbm, 141, rfl⟩
abbrev main_call1_call0_v54 : Ref sig .tc := ⟨.hbm, 142, rfl⟩
abbrev main_call1_call0_c_13 : Ref sig .tc := ⟨.hbm, 143, rfl⟩
abbrev main_call1_call0_v55 : Ref sig .tc := ⟨.hbm, 144, rfl⟩
abbrev main_call1_call0_v56 : Ref sig .tc := ⟨.hbm, 145, rfl⟩
abbrev main_call1_call0_c_14 : Ref sig .tc := ⟨.hbm, 146, rfl⟩
abbrev main_call1_call0_v57 : Ref sig .tc := ⟨.hbm, 147, rfl⟩
abbrev main_call1_call0_v58 : Ref sig .tc := ⟨.hbm, 148, rfl⟩
abbrev main_call1_call0_v59 : Ref sig .tc := ⟨.hbm, 149, rfl⟩
abbrev main_call1_call0_v60 : Ref sig .tc := ⟨.hbm, 150, rfl⟩
abbrev main_call1_call0_v61 : Ref sig .tc := ⟨.hbm, 151, rfl⟩
abbrev main_call1_call0_c_15 : Ref sig .tc := ⟨.hbm, 152, rfl⟩
abbrev main_call1_call0_v62 : Ref sig .tc := ⟨.hbm, 153, rfl⟩
abbrev main_call1_call0_v63 : Ref sig .tc := ⟨.hbm, 154, rfl⟩
abbrev main_call1_call0_c_16 : Ref sig .tc := ⟨.hbm, 155, rfl⟩
abbrev main_call1_call0_v64 : Ref sig .tc := ⟨.hbm, 156, rfl⟩
abbrev main_call1_call0_v65 : Ref sig .tc := ⟨.hbm, 157, rfl⟩
abbrev main_call1_call0_v66 : Ref sig .tc := ⟨.hbm, 158, rfl⟩
abbrev main_call1_call0_v67 : Ref sig .tc := ⟨.hbm, 159, rfl⟩
abbrev main_call1_call0_v68 : Ref sig .tc := ⟨.hbm, 160, rfl⟩
abbrev main_call1_call0_v69 : Ref sig .tc := ⟨.hbm, 161, rfl⟩
abbrev main_call1_call0_v70 : Ref sig .tc := ⟨.hbm, 162, rfl⟩
abbrev main_call1_call0_v71 : Ref sig .tc := ⟨.hbm, 163, rfl⟩
abbrev main_call1_call0_c_17 : Ref sig .tc := ⟨.hbm, 164, rfl⟩
abbrev main_call1_call0_v72 : Ref sig .tc := ⟨.hbm, 165, rfl⟩
abbrev main_call1_call0_v73 : Ref sig .tc := ⟨.hbm, 166, rfl⟩
abbrev main_call1_call0_v74 : Ref sig .tc := ⟨.hbm, 167, rfl⟩
abbrev main_call1_call0_c_18 : Ref sig .tc := ⟨.hbm, 168, rfl⟩
abbrev main_call1_call0_v75 : Ref sig .tc := ⟨.hbm, 169, rfl⟩
abbrev main_call1_call0_v76 : Ref sig .tc := ⟨.hbm, 170, rfl⟩
abbrev main_call1_call0_c_19 : Ref sig .tc := ⟨.hbm, 171, rfl⟩
abbrev main_call1_call0_v77 : Ref sig .tc := ⟨.hbm, 172, rfl⟩
abbrev main_call1_call0_v78 : Ref sig .tc := ⟨.hbm, 173, rfl⟩
abbrev main_call1_call0_v79 : Ref sig .tc := ⟨.hbm, 174, rfl⟩
abbrev main_call1_call0_v80 : Ref sig .tc := ⟨.hbm, 175, rfl⟩
abbrev main_call1_call0_v81 : Ref sig .tc := ⟨.hbm, 176, rfl⟩
abbrev main_call1_call0_c_20 : Ref sig .tc := ⟨.hbm, 177, rfl⟩
abbrev main_call1_call0_v82 : Ref sig .tc := ⟨.hbm, 178, rfl⟩
abbrev main_call1_call0_v83 : Ref sig .tc := ⟨.hbm, 179, rfl⟩
abbrev main_call1_call0_c_21 : Ref sig .tc := ⟨.hbm, 180, rfl⟩
abbrev main_call1_call0_v84 : Ref sig .tc := ⟨.hbm, 181, rfl⟩
abbrev main_call1_call0_v85 : Ref sig .tc := ⟨.hbm, 182, rfl⟩
abbrev main_call1_call0_v86 : Ref sig .tc := ⟨.hbm, 183, rfl⟩
abbrev main_call1_call0_v87 : Ref sig .tc := ⟨.hbm, 184, rfl⟩
abbrev main_call1_call0_v88 : Ref sig .tc := ⟨.hbm, 185, rfl⟩
abbrev main_call1_call0_c_22 : Ref sig .tc := ⟨.hbm, 186, rfl⟩
abbrev main_call1_call0_v89 : Ref sig .tc := ⟨.hbm, 187, rfl⟩
abbrev main_call1_call0_v90 : Ref sig .tc := ⟨.hbm, 188, rfl⟩
abbrev main_call1_call0_c_23 : Ref sig .tc := ⟨.hbm, 189, rfl⟩
abbrev main_call1_call0_v91 : Ref sig .tc := ⟨.hbm, 190, rfl⟩
abbrev main_call1_call0_v92 : Ref sig .tc := ⟨.hbm, 191, rfl⟩
abbrev main_call1_call0_v93 : Ref sig .tc := ⟨.hbm, 192, rfl⟩
abbrev main_call1_call0_v94 : Ref sig .tc := ⟨.hbm, 193, rfl⟩
abbrev main_call1_call0_v95 : Ref sig .tc := ⟨.hbm, 194, rfl⟩
abbrev main_call1_call0_c_24 : Ref sig .tc := ⟨.hbm, 195, rfl⟩
abbrev main_call1_call0_v96 : Ref sig .tc := ⟨.hbm, 196, rfl⟩
abbrev main_call1_call0_v97 : Ref sig .tc := ⟨.hbm, 197, rfl⟩
abbrev main_call1_call0_c_25 : Ref sig .tc := ⟨.hbm, 198, rfl⟩
abbrev main_call1_call0_v98 : Ref sig .tc := ⟨.hbm, 199, rfl⟩
abbrev main_call1_call0_v99 : Ref sig .tc := ⟨.hbm, 200, rfl⟩
abbrev main_call1_call0_v100 : Ref sig .tc := ⟨.hbm, 201, rfl⟩
abbrev main_call1_call0_v101 : Ref sig .tc := ⟨.hbm, 202, rfl⟩
abbrev main_call1_call0_v102 : Ref sig .tc := ⟨.hbm, 203, rfl⟩
abbrev main_call1_call0_v103 : Ref sig .tc := ⟨.hbm, 204, rfl⟩
abbrev main_call1_call0_v104 : Ref sig .tc := ⟨.hbm, 205, rfl⟩
abbrev main_call1_call0_v105 : Ref sig .tc := ⟨.hbm, 206, rfl⟩
abbrev main_call1_call0_c_26 : Ref sig .tc := ⟨.hbm, 207, rfl⟩
abbrev main_call1_call0_v106 : Ref sig .tc := ⟨.hbm, 208, rfl⟩
abbrev main_call1_call0_v107 : Ref sig .tc := ⟨.hbm, 209, rfl⟩
abbrev main_call1_call0_v108 : Ref sig .tc := ⟨.hbm, 210, rfl⟩
abbrev main_call1_call0_c_27 : Ref sig .tc := ⟨.hbm, 211, rfl⟩
abbrev main_call1_call0_v109 : Ref sig .tc := ⟨.hbm, 212, rfl⟩
abbrev main_call1_call0_v110 : Ref sig .tc := ⟨.hbm, 213, rfl⟩
abbrev main_call1_call0_c_28 : Ref sig .tc := ⟨.hbm, 214, rfl⟩
abbrev main_call1_call0_v111 : Ref sig .tc := ⟨.hbm, 215, rfl⟩
abbrev main_call1_call0_v112 : Ref sig .tc := ⟨.hbm, 216, rfl⟩
abbrev main_call1_call0_v113 : Ref sig .tc := ⟨.hbm, 217, rfl⟩
abbrev main_call1_call0_v114 : Ref sig .tc := ⟨.hbm, 218, rfl⟩
abbrev main_call1_call0_v115 : Ref sig .tc := ⟨.hbm, 219, rfl⟩
abbrev main_call1_call0_c_29 : Ref sig .tc := ⟨.hbm, 220, rfl⟩
abbrev main_call1_call0_v116 : Ref sig .tc := ⟨.hbm, 221, rfl⟩
abbrev main_call1_call0_v117 : Ref sig .tc := ⟨.hbm, 222, rfl⟩
abbrev main_call1_call0_c_30 : Ref sig .tc := ⟨.hbm, 223, rfl⟩
abbrev main_call1_call0_v118 : Ref sig .tc := ⟨.hbm, 224, rfl⟩
abbrev main_call1_call0_v119 : Ref sig .tc := ⟨.hbm, 225, rfl⟩
abbrev main_call1_call0_v120 : Ref sig .tc := ⟨.hbm, 226, rfl⟩
abbrev main_call1_call0_v121 : Ref sig .tc := ⟨.hbm, 227, rfl⟩
abbrev main_call1_call0_v122 : Ref sig .tc := ⟨.hbm, 228, rfl⟩
abbrev main_call1_call0_c_31 : Ref sig .tc := ⟨.hbm, 229, rfl⟩
abbrev main_call1_call0_v123 : Ref sig .tc := ⟨.hbm, 230, rfl⟩
abbrev main_call1_call0_v124 : Ref sig .tc := ⟨.hbm, 231, rfl⟩
abbrev main_call1_call0_c_32 : Ref sig .tc := ⟨.hbm, 232, rfl⟩
abbrev main_call1_call0_v125 : Ref sig .tc := ⟨.hbm, 233, rfl⟩
abbrev main_call1_call0_v126 : Ref sig .tc := ⟨.hbm, 234, rfl⟩
abbrev main_call1_call0_v127 : Ref sig .tc := ⟨.hbm, 235, rfl⟩
abbrev main_call1_call0_v128 : Ref sig .tc := ⟨.hbm, 236, rfl⟩
abbrev main_call1_call0_v129 : Ref sig .tc := ⟨.hbm, 237, rfl⟩
abbrev main_call1_call0_c_33 : Ref sig .tc := ⟨.hbm, 238, rfl⟩
abbrev main_call1_call0_v130 : Ref sig .tc := ⟨.hbm, 239, rfl⟩
abbrev main_call1_call0_v131 : Ref sig .tc := ⟨.hbm, 240, rfl⟩
abbrev main_call1_call0_c_34 : Ref sig .tc := ⟨.hbm, 241, rfl⟩
abbrev main_call1_call0_v132 : Ref sig .tc := ⟨.hbm, 242, rfl⟩
abbrev main_call1_call0_v133 : Ref sig .tc := ⟨.hbm, 243, rfl⟩
abbrev main_call1_call0_v134 : Ref sig .tc := ⟨.hbm, 244, rfl⟩
abbrev main_call1_call0_v135 : Ref sig .tc := ⟨.hbm, 245, rfl⟩
abbrev main_call1_call0_v136 : Ref sig .tc := ⟨.hbm, 246, rfl⟩
abbrev main_call1_call0_v137 : Ref sig .tc := ⟨.hbm, 247, rfl⟩
abbrev main_call1_call0_v138 : Ref sig .tc := ⟨.hbm, 248, rfl⟩
abbrev main_call1_call0_v139 : Ref sig .tc := ⟨.hbm, 249, rfl⟩
abbrev main_call1_call0_c_35 : Ref sig .tc := ⟨.hbm, 250, rfl⟩
abbrev main_call1_call0_v140 : Ref sig .tc := ⟨.hbm, 251, rfl⟩
abbrev main_call1_call0_v141 : Ref sig .tc := ⟨.hbm, 252, rfl⟩
abbrev main_call1_call0_v142 : Ref sig .tc := ⟨.hbm, 253, rfl⟩
abbrev main_call1_call0_c_36 : Ref sig .tc := ⟨.hbm, 254, rfl⟩
abbrev main_call1_call0_v143 : Ref sig .tc := ⟨.hbm, 255, rfl⟩
abbrev main_call1_call0_v144 : Ref sig .tc := ⟨.hbm, 256, rfl⟩
abbrev main_call1_call0_c_37 : Ref sig .tc := ⟨.hbm, 257, rfl⟩
abbrev main_call1_call0_v145 : Ref sig .tc := ⟨.hbm, 258, rfl⟩
abbrev main_call1_call0_v146 : Ref sig .tc := ⟨.hbm, 259, rfl⟩
abbrev main_call1_call0_v147 : Ref sig .tc := ⟨.hbm, 260, rfl⟩
abbrev main_call1_call0_v148 : Ref sig .tc := ⟨.hbm, 261, rfl⟩
abbrev main_call1_call0_v149 : Ref sig .tc := ⟨.hbm, 262, rfl⟩
abbrev main_call1_call0_c_38 : Ref sig .tc := ⟨.hbm, 263, rfl⟩
abbrev main_call1_call0_v150 : Ref sig .tc := ⟨.hbm, 264, rfl⟩
abbrev main_call1_call0_v151 : Ref sig .tc := ⟨.hbm, 265, rfl⟩
abbrev main_call1_call0_c_39 : Ref sig .tc := ⟨.hbm, 266, rfl⟩
abbrev main_call1_call0_v152 : Ref sig .tc := ⟨.hbm, 267, rfl⟩
abbrev main_call1_call0_v153 : Ref sig .tc := ⟨.hbm, 268, rfl⟩
abbrev main_call1_call0_v154 : Ref sig .tc := ⟨.hbm, 269, rfl⟩
abbrev main_call1_call0_v155 : Ref sig .tc := ⟨.hbm, 270, rfl⟩
abbrev main_call1_call0_v156 : Ref sig .tc := ⟨.hbm, 271, rfl⟩
abbrev main_call1_call0_c_40 : Ref sig .tc := ⟨.hbm, 272, rfl⟩
abbrev main_call1_call0_v157 : Ref sig .tc := ⟨.hbm, 273, rfl⟩
abbrev main_call1_call0_v158 : Ref sig .tc := ⟨.hbm, 274, rfl⟩
abbrev main_call1_call0_c_41 : Ref sig .tc := ⟨.hbm, 275, rfl⟩
abbrev main_call1_call0_v159 : Ref sig .tc := ⟨.hbm, 276, rfl⟩
abbrev main_call1_call0_v160 : Ref sig .tc := ⟨.hbm, 277, rfl⟩
abbrev main_call1_call0_v161 : Ref sig .tc := ⟨.hbm, 278, rfl⟩
abbrev main_call1_call0_v162 : Ref sig .tc := ⟨.hbm, 279, rfl⟩
abbrev main_call1_call0_v163 : Ref sig .tc := ⟨.hbm, 280, rfl⟩
abbrev main_call1_call0_c_42 : Ref sig .tc := ⟨.hbm, 281, rfl⟩
abbrev main_call1_call0_v164 : Ref sig .tc := ⟨.hbm, 282, rfl⟩
abbrev main_call1_call0_v165 : Ref sig .tc := ⟨.hbm, 283, rfl⟩
abbrev main_call1_call0_c_43 : Ref sig .tc := ⟨.hbm, 284, rfl⟩
abbrev main_call1_call0_v166 : Ref sig .tc := ⟨.hbm, 285, rfl⟩
abbrev main_call1_call0_v167 : Ref sig .tc := ⟨.hbm, 286, rfl⟩
abbrev main_call1_call0_v168 : Ref sig .tc := ⟨.hbm, 287, rfl⟩
abbrev main_call1_call0_v169 : Ref sig .tc := ⟨.hbm, 288, rfl⟩
abbrev main_call1_call0_v170 : Ref sig .tc := ⟨.hbm, 289, rfl⟩
abbrev main_call1_v23_0 : Ref sig .tc := ⟨.hbm, 290, rfl⟩
abbrev main_call1_call0_v172 : Ref sig .tc := ⟨.hbm, 291, rfl⟩
abbrev main_call1_call0_v173 : Ref sig .tc := ⟨.hbm, 292, rfl⟩
abbrev main_call1_call0_c_44 : Ref sig .tc := ⟨.hbm, 293, rfl⟩
abbrev main_call1_call0_v174 : Ref sig .tc := ⟨.hbm, 294, rfl⟩
abbrev main_call1_v23_1 : Ref sig .tc := ⟨.hbm, 295, rfl⟩
abbrev main_call1_v24 : Ref sig .tc := ⟨.hbm, 296, rfl⟩
abbrev main_call1_c_3 : Ref sig .tc := ⟨.hbm, 297, rfl⟩
abbrev main_call1_v25 : Ref sig .tc := ⟨.hbm, 298, rfl⟩
abbrev main_call1_v26 : Ref sig .tc := ⟨.hbm, 299, rfl⟩
abbrev main_call1_c_4 : Ref sig .tc := ⟨.hbm, 300, rfl⟩
abbrev main_call1_v27 : Ref sig .tc := ⟨.hbm, 301, rfl⟩
abbrev main_call1_v28 : Ref sig .tc := ⟨.hbm, 302, rfl⟩
abbrev main_call1_v29 : Ref sig .tc := ⟨.hbm, 303, rfl⟩
abbrev main_call1_cst : Ref sig .tc := ⟨.hbm, 304, rfl⟩
abbrev main_call1_v30 : Ref sig .tc := ⟨.hbm, 305, rfl⟩
abbrev main_call1_v31 : Ref sig .tc := ⟨.hbm, 306, rfl⟩
abbrev main_call1_v32 : Ref sig .tc := ⟨.hbm, 307, rfl⟩
abbrev main_call1_v33 : Ref sig .tc := ⟨.hbm, 308, rfl⟩
abbrev main_call1_v34 : Ref sig .tc := ⟨.hbm, 309, rfl⟩
abbrev main_call1_v35 : Ref sig .tc := ⟨.hbm, 310, rfl⟩
abbrev main_call1_v36 : Ref sig .tc := ⟨.hbm, 311, rfl⟩
abbrev main_call1_v37 : Ref sig .tc := ⟨.hbm, 312, rfl⟩
abbrev main_v25 : Ref sig .tc := ⟨.hbm, 313, rfl⟩
abbrev main_v26 : Ref sig .tc := ⟨.hbm, 314, rfl⟩
abbrev main_v27 : Ref sig .tc := ⟨.hbm, 315, rfl⟩
abbrev main_values : Ref sig .tc := ⟨.hbm, 316, rfl⟩
abbrev main_indices : Ref sig .tc := ⟨.hbm, 317, rfl⟩
abbrev main_cst_8 : Ref sig .tc := ⟨.hbm, 318, rfl⟩
abbrev main_v28 : Ref sig .tc := ⟨.hbm, 319, rfl⟩
abbrev main_v29 : Ref sig .tc := ⟨.hbm, 320, rfl⟩
abbrev main_v30 : Ref sig .tc := ⟨.hbm, 321, rfl⟩
abbrev main_v31 : Ref sig .tc := ⟨.hbm, 322, rfl⟩
abbrev main_v32 : Ref sig .tc := ⟨.hbm, 323, rfl⟩
abbrev main_v33 : Ref sig .tc := ⟨.hbm, 324, rfl⟩
abbrev main_c_9 : Ref sig .tc := ⟨.hbm, 325, rfl⟩
abbrev main_v34 : Ref sig .tc := ⟨.hbm, 326, rfl⟩
abbrev main_v35 : Ref sig .tc := ⟨.hbm, 327, rfl⟩
abbrev main_c_10 : Ref sig .tc := ⟨.hbm, 328, rfl⟩
abbrev main_v36 : Ref sig .tc := ⟨.hbm, 329, rfl⟩
abbrev main_v37 : Ref sig .tc := ⟨.hbm, 330, rfl⟩
abbrev main_v38 : Ref sig .tc := ⟨.hbm, 331, rfl⟩
abbrev main_c_11 : Ref sig .tc := ⟨.hbm, 332, rfl⟩
abbrev main_v39 : Ref sig .tc := ⟨.hbm, 333, rfl⟩
abbrev main_v40 : Ref sig .tc := ⟨.hbm, 334, rfl⟩
abbrev main_c_12 : Ref sig .tc := ⟨.hbm, 335, rfl⟩
abbrev main_v41 : Ref sig .tc := ⟨.hbm, 336, rfl⟩
abbrev main_v42 : Ref sig .tc := ⟨.hbm, 337, rfl⟩
abbrev main_v43 : Ref sig .tc := ⟨.hbm, 338, rfl⟩
abbrev main_c_13 : Ref sig .tc := ⟨.hbm, 339, rfl⟩
abbrev main_v44 : Ref sig .tc := ⟨.hbm, 340, rfl⟩
abbrev main_v45 : Ref sig .tc := ⟨.hbm, 341, rfl⟩
abbrev main_c_14 : Ref sig .tc := ⟨.hbm, 342, rfl⟩
abbrev main_v46 : Ref sig .tc := ⟨.hbm, 343, rfl⟩
abbrev main_v47 : Ref sig .tc := ⟨.hbm, 344, rfl⟩
abbrev main_v48 : Ref sig .tc := ⟨.hbm, 345, rfl⟩
abbrev main_v49 : Ref sig .tc := ⟨.hbm, 346, rfl⟩
abbrev main_v50 : Ref sig .tc := ⟨.hbm, 347, rfl⟩
abbrev main_v51 : Ref sig .tc := ⟨.hbm, 348, rfl⟩
abbrev main_v52 : Ref sig .tc := ⟨.hbm, 349, rfl⟩
abbrev main_v53 : Ref sig .tc := ⟨.hbm, 350, rfl⟩
abbrev main_v54 : Ref sig .tc := ⟨.hbm, 351, rfl⟩
abbrev main_v55 : Ref sig .tc := ⟨.hbm, 352, rfl⟩
abbrev main_c_15 : Ref sig .tc := ⟨.hbm, 353, rfl⟩
abbrev main_v56 : Ref sig .tc := ⟨.hbm, 354, rfl⟩
abbrev main_v57 : Ref sig .tc := ⟨.hbm, 355, rfl⟩
abbrev main_c_16 : Ref sig .tc := ⟨.hbm, 356, rfl⟩
abbrev main_v58 : Ref sig .tc := ⟨.hbm, 357, rfl⟩
abbrev main_v59 : Ref sig .tc := ⟨.hbm, 358, rfl⟩
abbrev main_v60 : Ref sig .tc := ⟨.hbm, 359, rfl⟩
abbrev main_c_17 : Ref sig .tc := ⟨.hbm, 360, rfl⟩
abbrev main_v61 : Ref sig .tc := ⟨.hbm, 361, rfl⟩
abbrev main_v62 : Ref sig .tc := ⟨.hbm, 362, rfl⟩
abbrev main_c_18 : Ref sig .tc := ⟨.hbm, 363, rfl⟩
abbrev main_v63 : Ref sig .tc := ⟨.hbm, 364, rfl⟩
abbrev main_v64 : Ref sig .tc := ⟨.hbm, 365, rfl⟩
abbrev main_v65 : Ref sig .tc := ⟨.hbm, 366, rfl⟩
abbrev main_v66 : Ref sig .tc := ⟨.hbm, 367, rfl⟩
abbrev main_v67 : Ref sig .tc := ⟨.hbm, 368, rfl⟩
abbrev main_v68 : Ref sig .tc := ⟨.hbm, 369, rfl⟩
abbrev main_v69 : Ref sig .tc := ⟨.hbm, 370, rfl⟩
abbrev main_v70 : Ref sig .tc := ⟨.hbm, 371, rfl⟩
abbrev main_c_19 : Ref sig .tc := ⟨.hbm, 372, rfl⟩
abbrev main_v71 : Ref sig .tc := ⟨.hbm, 373, rfl⟩
abbrev main_v72 : Ref sig .tc := ⟨.hbm, 374, rfl⟩
abbrev main_c_20 : Ref sig .tc := ⟨.hbm, 375, rfl⟩
abbrev main_v73 : Ref sig .tc := ⟨.hbm, 376, rfl⟩
abbrev main_v74 : Ref sig .tc := ⟨.hbm, 377, rfl⟩
abbrev main_v75 : Ref sig .tc := ⟨.hbm, 378, rfl⟩
abbrev main_c_21 : Ref sig .tc := ⟨.hbm, 379, rfl⟩
abbrev main_v76 : Ref sig .tc := ⟨.hbm, 380, rfl⟩
abbrev main_v77 : Ref sig .tc := ⟨.hbm, 381, rfl⟩
abbrev main_c_22 : Ref sig .tc := ⟨.hbm, 382, rfl⟩
abbrev main_v78 : Ref sig .tc := ⟨.hbm, 383, rfl⟩
abbrev main_v79 : Ref sig .tc := ⟨.hbm, 384, rfl⟩
abbrev main_v80 : Ref sig .tc := ⟨.hbm, 385, rfl⟩
abbrev main_v81 : Ref sig .tc := ⟨.hbm, 386, rfl⟩
abbrev main_v82 : Ref sig .tc := ⟨.hbm, 387, rfl⟩
abbrev main_v83 : Ref sig .tc := ⟨.hbm, 388, rfl⟩
abbrev main_v84 : Ref sig .tc := ⟨.hbm, 389, rfl⟩
abbrev main_v85 : Ref sig .tc := ⟨.hbm, 390, rfl⟩
abbrev main_v86 : Ref sig .tc := ⟨.hbm, 391, rfl⟩
abbrev main_v87 : Ref sig .tc := ⟨.hbm, 392, rfl⟩
abbrev main_v88 : Ref sig .tc := ⟨.hbm, 393, rfl⟩
abbrev main_v89 : Ref sig .tc := ⟨.hbm, 394, rfl⟩
abbrev main_v90 : Ref sig .tc := ⟨.hbm, 395, rfl⟩
abbrev main_v91 : Ref sig .tc := ⟨.hbm, 396, rfl⟩
abbrev main_v92 : Ref sig .tc := ⟨.hbm, 397, rfl⟩
abbrev main_cst_23 : Ref sig .tc := ⟨.hbm, 398, rfl⟩
abbrev main_v93 : Ref sig .tc := ⟨.hbm, 399, rfl⟩
abbrev main_v94 : Ref sig .tc := ⟨.hbm, 400, rfl⟩
abbrev main_cst_24 : Ref sig .tc := ⟨.hbm, 401, rfl⟩
abbrev main_v95 : Ref sig .tc := ⟨.hbm, 402, rfl⟩
abbrev main_v96 : Ref sig .tc := ⟨.hbm, 403, rfl⟩
abbrev main_v97 : Ref sig .tc := ⟨.hbm, 404, rfl⟩
abbrev main_v98 : Ref sig .tc := ⟨.hbm, 405, rfl⟩
abbrev main_v99 : Ref sig .tc := ⟨.hbm, 406, rfl⟩
abbrev main_v100 : Ref sig .tc := ⟨.hbm, 407, rfl⟩
abbrev main_v101 : Ref sig .tc := ⟨.hbm, 408, rfl⟩
abbrev main_v102 : Ref sig .tc := ⟨.hbm, 409, rfl⟩
abbrev main_v103 : Ref sig .tc := ⟨.hbm, 410, rfl⟩
abbrev main_cst_25 : Ref sig .tc := ⟨.hbm, 411, rfl⟩
abbrev main_v104 : Ref sig .tc := ⟨.hbm, 412, rfl⟩
abbrev main_v105 : Ref sig .tc := ⟨.hbm, 413, rfl⟩
abbrev main_cst_26 : Ref sig .tc := ⟨.hbm, 414, rfl⟩
abbrev main_v106 : Ref sig .tc := ⟨.hbm, 415, rfl⟩
abbrev main_v107 : Ref sig .tc := ⟨.hbm, 416, rfl⟩
abbrev main_v108 : Ref sig .tc := ⟨.hbm, 417, rfl⟩
abbrev main_v109 : Ref sig .tc := ⟨.hbm, 418, rfl⟩
abbrev main_v110 : Ref sig .tc := ⟨.hbm, 419, rfl⟩
abbrev main_v111 : Ref sig .tc := ⟨.hbm, 420, rfl⟩
abbrev main_v112 : Ref sig .tc := ⟨.hbm, 421, rfl⟩
abbrev main_v113 : Ref sig .tc := ⟨.hbm, 422, rfl⟩
abbrev main_v114 : Ref sig .tc := ⟨.hbm, 423, rfl⟩
abbrev main_cst_27 : Ref sig .tc := ⟨.hbm, 424, rfl⟩
abbrev main_v115 : Ref sig .tc := ⟨.hbm, 425, rfl⟩
abbrev main_v116 : Ref sig .tc := ⟨.hbm, 426, rfl⟩
abbrev main_cst_28 : Ref sig .tc := ⟨.hbm, 427, rfl⟩
abbrev main_v117 : Ref sig .tc := ⟨.hbm, 428, rfl⟩
abbrev main_v118 : Ref sig .tc := ⟨.hbm, 429, rfl⟩
abbrev main_v119 : Ref sig .tc := ⟨.hbm, 430, rfl⟩
abbrev main_v120 : Ref sig .tc := ⟨.hbm, 431, rfl⟩
abbrev main_cst_29 : Ref sig .tc := ⟨.hbm, 432, rfl⟩
abbrev main_v121 : Ref sig .tc := ⟨.hbm, 433, rfl⟩
abbrev main_call2_v0 : Ref sig .tc := ⟨.hbm, 434, rfl⟩
abbrev main_v122 : Ref sig .tc := ⟨.hbm, 435, rfl⟩
abbrev main_v123 : Ref sig .tc := ⟨.hbm, 436, rfl⟩
abbrev main_cst_30 : Ref sig .tc := ⟨.hbm, 437, rfl⟩
abbrev main_v124 : Ref sig .tc := ⟨.hbm, 438, rfl⟩
abbrev main_call3_v0 : Ref sig .tc := ⟨.hbm, 439, rfl⟩
abbrev main_v125 : Ref sig .tc := ⟨.hbm, 440, rfl⟩
abbrev main_v126 : Ref sig .tc := ⟨.hbm, 441, rfl⟩
abbrev main_v127 : Ref sig .tc := ⟨.hbm, 442, rfl⟩
abbrev main_v128 : Ref sig .tc := ⟨.hbm, 443, rfl⟩
abbrev main_v129 : Ref sig .tc := ⟨.hbm, 444, rfl⟩
abbrev main_v130 : Ref sig .tc := ⟨.hbm, 445, rfl⟩
abbrev main_v131 : Ref sig .tc := ⟨.hbm, 446, rfl⟩
abbrev main_v132 : Ref sig .tc := ⟨.hbm, 447, rfl⟩
abbrev main_cst_31 : Ref sig .tc := ⟨.hbm, 448, rfl⟩
abbrev main_v133 : Ref sig .tc := ⟨.hbm, 449, rfl⟩
abbrev main_call4_v0 : Ref sig .tc := ⟨.hbm, 450, rfl⟩
abbrev main_v134 : Ref sig .tc := ⟨.hbm, 451, rfl⟩

abbrev nD : Nat := 1
abbrev τ : Topo := Topo.v7x

variable {F : FTy → Type} [FloatOps F]
-- ==== Proof.RefOps.lean ====
/-
The reference as a list of host operations, in stretches named by what they compute, and its run: `main` is these operations in turn,
each touches buffers of the device only and none is made on the way, so a run ends at the contents `after ops` of the launch memory.
-/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Words at every pair of points, and numbers there. -/
abbrev Words : BufTy := ⟨S4x1024x1024, .i32⟩
abbrev Longs : BufTy := ⟨S4x1024x1024, .i64⟩
abbrev Nums : BufTy := ⟨S4x1024x1024, .f32⟩

/-- The ball: distances, the mask, and which points each query point keeps. -/
def nearOps : List (HloOp τ sig (Elt F)) :=
  [ binary main_arg0 main_arg0 main_v0 (mulf : (⟨S4x1024x1024x3, .f32⟩ : BufTy).Contents (Elt F) → (⟨S4x1024x1024x3, .f32⟩ : BufTy).Contents (Elt F) → (⟨S4x1024x1024x3, .f32⟩ : BufTy).Contents (Elt F)),
    nullary main_cst (constant S_ .f32 0x00000000#32),
    binary main_v0 main_cst main_v1 ((fun x v => Host.reduceAdd x v reducesTo_S4x1024x1024x3_S4x1024x1024_d3 h_S_) : (⟨S4x1024x1024x3, .f32⟩ : BufTy).Contents (Elt F) → (⟨S_, .f32⟩ : BufTy).Contents (Elt F) → Nums.Contents (Elt F)),
    nullary main_cst_0 (constant S_ .f32 0x2B8CBCCC#32),
    unary main_cst_0 main_v2 (broadcastInDim S4x1024x1024 ![] bcast_S_S4x1024x1024 : (⟨S_, .f32⟩ : BufTy).Contents (Elt F) → Nums.Contents (Elt F)),
    binary main_v1 main_v2 main_v3 (addf : Nums.Contents (Elt F) → Nums.Contents (Elt F) → Nums.Contents (Elt F)),
    unary main_v3 main_v4 (Host.sqrt : Nums.Contents (Elt F) → Nums.Contents (Elt F)),
    unary main_arg2 main_v5 (broadcastInDim S4x1x1024 ![0, 2] bcast_S4x1024_S4x1x1024_0_2 : (⟨S4x1024, .i1⟩ : BufTy).Contents (Elt F) → (⟨S4x1x1024, .i1⟩ : BufTy).Contents (Elt F)),
    nullary main_cst_1 (constant S_ .f32 0x3F800000#32),
    unary main_cst_1 main_v6 (broadcastInDim S4x1024x1024 ![] bcast_S_S4x1024x1024 : (⟨S_, .f32⟩ : BufTy).Contents (Elt F) → Nums.Contents (Elt F)),
    nullary main_cst_2 (constant S_ .f32 0x4CBEBC20#32),
    unary main_cst_2 main_v7 (broadcastInDim S4x1024x1024 ![] bcast_S_S4x1024x1024 : (⟨S_, .f32⟩ : BufTy).Contents (Elt F) → Nums.Contents (Elt F)),
    binary main_v7 main_v6 main_v8 (mulf : Nums.Contents (Elt F) → Nums.Contents (Elt F) → Nums.Contents (Elt F)),
    TRef.unary (TRef.of (T := ⟨S4x1x1024, .i1⟩) main_v5) (TRef.of (T := ⟨S4x1024x1024, .i1⟩) main_call0_v0) (broadcastInDim S4x1024x1024 ![0, 1, 2] bcast_S4x1x1024_S4x1024x1024_0_1_2),
    TRef.ternary (TRef.of (T := ⟨S4x1024x1024, .i1⟩) main_call0_v0) (TRef.of (T := ⟨S4x1024x1024, .f32⟩) main_v4) (TRef.of (T := ⟨S4x1024x1024, .f32⟩) main_v8) (TRef.of (T := ⟨S4x1024x1024, .f32⟩) main_v9) select,
    nullary main_cst_3 (constant S_ .f32 0x40000000#32),
    unary main_cst_3 main_v10 (broadcastInDim S4x1024x1024 ![] bcast_S_S4x1024x1024 : (⟨S_, .f32⟩ : BufTy).Contents (Elt F) → Nums.Contents (Elt F)),
    binary main_v9 main_v10 main_v11 (cmpf .olt : Nums.Contents (Elt F) → Nums.Contents (Elt F) → (⟨S4x1024x1024, .i1⟩ : BufTy).Contents (Elt F)),
    unary main_arg2 main_v12 (broadcastInDim S4x1x1024 ![0, 2] bcast_S4x1024_S4x1x1024_0_2 : (⟨S4x1024, .i1⟩ : BufTy).Contents (Elt F) → (⟨S4x1x1024, .i1⟩ : BufTy).Contents (Elt F)),
    unary main_v12 main_v13 (broadcastInDim S4x1024x1024 ![0, 1, 2] bcast_S4x1x1024_S4x1024x1024_0_1_2 : (⟨S4x1x1024, .i1⟩ : BufTy).Contents (Elt F) → (⟨S4x1024x1024, .i1⟩ : BufTy).Contents (Elt F)),
    binary main_v11 main_v13 main_v14 (andi : (⟨S4x1024x1024, .i1⟩ : BufTy).Contents (Elt F) → (⟨S4x1024x1024, .i1⟩ : BufTy).Contents (Elt F) → (⟨S4x1024x1024, .i1⟩ : BufTy).Contents (Elt F)),
    unary main_arg2 main_v15 (broadcastInDim S4x1024x1 ![0, 1] bcast_S4x1024_S4x1024x1_0_1 : (⟨S4x1024, .i1⟩ : BufTy).Contents (Elt F) → (⟨S4x1024x1, .i1⟩ : BufTy).Contents (Elt F)),
    unary main_v15 main_v16 (broadcastInDim S4x1024x1024 ![0, 1, 2] bcast_S4x1024x1_S4x1024x1024_0_1_2 : (⟨S4x1024x1, .i1⟩ : BufTy).Contents (Elt F) → (⟨S4x1024x1024, .i1⟩ : BufTy).Contents (Elt F)),
    binary main_v14 main_v16 main_v17 (andi : (⟨S4x1024x1024, .i1⟩ : BufTy).Contents (Elt F) → (⟨S4x1024x1024, .i1⟩ : BufTy).Contents (Elt F) → (⟨S4x1024x1024, .i1⟩ : BufTy).Contents (Elt F)) ]

/-- The random key 42 and the bounds 0 and 1 of the draw. -/
def keyOps : List (HloOp τ sig (Elt F)) :=
  [ nullary main_c (constantI S_ 32 42#32),
    nullary main_c_4 (constantI S_ 32 32#32),
    binary main_c main_c_4 main_v18 (Host.shrui : (⟨S_, .i32⟩ : BufTy).Contents (Elt F) → (⟨S_, .i32⟩ : BufTy).Contents (Elt F) → (⟨S_, .i32⟩ : BufTy).Contents (Elt F)),
    unary main_v18 main_v19 (id : (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)),
    nullary main_c_5 (constantI S_ 32 4294967295#32),
    binary main_c main_c_5 main_v21 (andi : (⟨S_, .i32⟩ : BufTy).Contents (Elt F) → (⟨S_, .i32⟩ : BufTy).Contents (Elt F) → (⟨S_, .i32⟩ : BufTy).Contents (Elt F)),
    unary main_v21 main_v22 (id : (⟨S_, .i32⟩ : BufTy).Contents (Elt F) → (⟨S_, .i32⟩ : BufTy).Contents (Elt F)),
    unary main_v22 main_v23 (broadcastInDim S1 ![] bcast_S_S1 : (⟨S_, .i32⟩ : BufTy).Contents (Elt F) → (⟨S1, .i32⟩ : BufTy).Contents (Elt F)),
    binary main_v20 main_v23 main_v24 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst_6 (constant S_ .f32 0x00000000#32),
    nullary main_cst_7 (constant S_ .f32 0x3F800000#32) ]

/-- The counters of the draw. -/
def drawOps : List (HloOp τ sig (Elt F)) :=
  [ TRef.unary (TRef.of (T := ⟨S_, .f32⟩) main_cst_6) (TRef.of (T := ⟨S_, .f32⟩) main_call1_v0) id,
    TRef.unary (TRef.of (T := ⟨S_, .f32⟩) main_cst_7) (TRef.of (T := ⟨S_, .f32⟩) main_call1_v1) id,
    TRef.unary (TRef.of (T := ⟨S_, .f32⟩) main_call1_v0) (TRef.of (T := ⟨S1x1x1, .f32⟩) main_call1_v2) (broadcastInDim S1x1x1 ![] bcast_S_S1x1x1),
    TRef.unary (TRef.of (T := ⟨S_, .f32⟩) main_call1_v1) (TRef.of (T := ⟨S1x1x1, .f32⟩) main_call1_v3) (broadcastInDim S1x1x1 ![] bcast_S_S1x1x1),
    TRef.unary (TRef.of (T := ⟨S2, .i32⟩) main_v24) (TRef.of (T := ⟨S1, .i32⟩) main_call1_v4) (extractStridedSlice S1 ![0] · slices_S2_S1_0),
    TRef.reshape (TRef.of (T := ⟨S1, .i32⟩) main_call1_v4) (TRef.of (T := ⟨S_, .i32⟩) main_call1_v5) (rfl : (.i32 : EltTy) = .i32) shapeCasts_S1_S_,
    TRef.unary (TRef.of (T := ⟨S2, .i32⟩) main_v24) (TRef.of (T := ⟨S1, .i32⟩) main_call1_v6) (extractStridedSlice S1 ![1] · slices_S2_S1_1),
    TRef.reshape (TRef.of (T := ⟨S1, .i32⟩) main_call1_v6) (TRef.of (T := ⟨S_, .i32⟩) main_call1_v7) (rfl : (.i32 : EltTy) = .i32) shapeCasts_S1_S_,
    TRef.nullary (TRef.of (T := Longs) main_call1_v8) (iotaInDim S4x1024x1024 64 0),
    TRef.nullary (TRef.of (T := Longs) main_call1_v9) (iotaInDim S4x1024x1024 64 1),
    TRef.nullary (TRef.of (T := Longs) main_call1_v10) (iotaInDim S4x1024x1024 64 2),
    TRef.nullary (TRef.of (T := ⟨S_, .i64⟩) main_call1_c) (constantI S_ 64 1048576#64),
    TRef.unary (TRef.of (T := ⟨S_, .i64⟩) main_call1_c) (TRef.of (T := Longs) main_call1_v11) (broadcastInDim S4x1024x1024 ![] bcast_S_S4x1024x1024),
    TRef.binary (TRef.of (T := Longs) main_call1_v11) (TRef.of (T := Longs) main_call1_v8) (TRef.of (T := Longs) main_call1_v12) muli,
    TRef.nullary (TRef.of (T := ⟨S_, .i64⟩) main_call1_c_0) (constantI S_ 64 1024#64),
    TRef.unary (TRef.of (T := ⟨S_, .i64⟩) main_call1_c_0) (TRef.of (T := Longs) main_call1_v13) (broadcastInDim S4x1024x1024 ![] bcast_S_S4x1024x1024),
    TRef.binary (TRef.of (T := Longs) main_call1_v13) (TRef.of (T := Longs) main_call1_v9) (TRef.of (T := Longs) main_call1_v14) muli,
    TRef.nullary (TRef.of (T := ⟨S_, .i64⟩) main_call1_c_1) (constantI S_ 64 1#64),
    TRef.unary (TRef.of (T := ⟨S_, .i64⟩) main_call1_c_1) (TRef.of (T := Longs) main_call1_v15) (broadcastInDim S4x1024x1024 ![] bcast_S_S4x1024x1024),
    TRef.binary (TRef.of (T := Longs) main_call1_v15) (TRef.of (T := Longs) main_call1_v10) (TRef.of (T := Longs) main_call1_v16) muli,
    TRef.binary (TRef.of (T := Longs) main_call1_v12) (TRef.of (T := Longs) main_call1_v14) (TRef.of (T := Longs) main_call1_v17) addi,
    TRef.binary (TRef.of (T := Longs) main_call1_v17) (TRef.of (T := Longs) main_call1_v16) (TRef.of (T := Longs) main_call1_v18) addi,
    TRef.nullary (TRef.of (T := ⟨S_, .i64⟩) main_call1_c_2) (constantI S_ 64 32#64),
    TRef.unary (TRef.of (T := ⟨S_, .i64⟩) main_call1_c_2) (TRef.of (T := Longs) main_call1_v19) (broadcastInDim S4x1024x1024 ![] bcast_S_S4x1024x1024) ]

/-- The counters as two words. -/
def laneOps : List (HloOp τ sig (Elt F)) :=
  [ TRef.binary (TRef.of (T := Longs) main_call1_v18) (TRef.of (T := Longs) main_call1_v19) (TRef.of (T := Longs) main_call1_v20) Host.shrui,
    TRef.unary (TRef.of (T := Longs) main_call1_v18) (TRef.of (T := Words) main_call1_v21) (trunci 32 · natLt_32_64),
    TRef.unary (TRef.of (T := Longs) main_call1_v20) (TRef.of (T := Words) main_call1_v22) (trunci 32 · natLt_32_64) ]

/-- Mixing rounds, stretch 0 of 9. -/
def mix0Ops : List (HloOp τ sig (Elt F)) :=
  [ TRef.binary (TRef.of (T := ⟨S_, .i32⟩) main_call1_v5) (TRef.of (T := ⟨S_, .i32⟩) main_call1_v7) (TRef.of (T := ⟨S_, .i32⟩) main_call1_call0_v0) xori,
    TRef.nullary (TRef.of (T := ⟨S_, .i32⟩) main_call1_call0_c) (constantI S_ 32 466688986#32),
    TRef.binary (TRef.of (T := ⟨S_, .i32⟩) main_call1_call0_v0) (TRef.of (T := ⟨S_, .i32⟩) main_call1_call0_c) (TRef.of (T := ⟨S_, .i32⟩) main_call1_call0_v1) xori,
    TRef.unary (TRef.of (T := ⟨S_, .i32⟩) main_call1_v5) (TRef.of (T := Words) main_call1_call0_v2) (broadcastInDim S4x1024x1024 ![] bcast_S_S4x1024x1024),
    TRef.binary (TRef.of (T := Words) main_call1_v22) (TRef.of (T := Words) main_call1_call0_v2) (TRef.of (T := Words) main_call1_call0_v3) addi,
    TRef.unary (TRef.of (T := ⟨S_, .i32⟩) main_call1_v7) (TRef.of (T := Words) main_call1_call0_v4) (broadcastInDim S4x1024x1024 ![] bcast_S_S4x1024x1024),
    TRef.binary (TRef.of (T := Words) main_call1_v21) (TRef.of (T := Words) main_call1_call0_v4) (TRef.of (T := Words) main_call1_call0_v5) addi,
    TRef.binary (TRef.of (T := Words) main_call1_call0_v3) (TRef.of (T := Words) main_call1_call0_v5) (TRef.of (T := Words) main_call1_call0_v6) addi,
    TRef.nullary (TRef.of (T := ⟨S_, .i32⟩) main_call1_call0_c_0) (constantI S_ 32 13#32),
    TRef.unary (TRef.of (T := ⟨S_, .i32⟩) main_call1_call0_c_0) (TRef.of (T := Words) main_call1_call0_v7) (broadcastInDim S4x1024x1024 ![] bcast_S_S4x1024x1024),
    TRef.binary (TRef.of (T := Words) main_call1_call0_v5) (TRef.of (T := Words) main_call1_call0_v7) (TRef.of (T := Words) main_call1_call0_v8) Host.shli,
    TRef.nullary (TRef.of (T := ⟨S_, .i32⟩) main_call1_call0_c_1) (constantI S_ 32 19#32),
    TRef.unary (TRef.of (T := ⟨S_, .i32⟩) main_call1_call0_c_1) (TRef.of (T := Words) main_call1_call0_v9) (broadcastInDim S4x1024x1024 ![] bcast_S_S4x1024x1024),
    TRef.binary (TRef.of (T := Words) main_call1_call0_v5) (TRef.of (T := Words) main_call1_call0_v9) (TRef.of (T := Words) main_call1_call0_v10) Host.shrui,
    TRef.binary (TRef.of (T := Words) main_call1_call0_v8) (TRef.of (T := Words) main_call1_call0_v10) (TRef.of (T := Words) main_call1_call0_v11) ori,
    TRef.binary (TRef.of (T := Words) main_call1_call0_v6) (TRef.of (T := Words) main_call1_call0_v11) (TRef.of (T := Words) main_call1_call0_v12) xori,
    TRef.binary (TRef.of (T := Words) main_call1_call0_v6) (TRef.of (T := Words) main_call1_call0_v12) (TRef.of (T := Words) main_call1_call0_v13) addi,
    TRef.nullary (TRef.of (T := ⟨S_, .i32⟩) main_call1_call0_c_2) (constantI S_ 32 15#32),
    TRef.unary (TRef.of (T := ⟨S_, .i32⟩) main_call1_call0_c_2) (TRef.of (T := Words) main_call1_call0_v14) (broadcastInDim S4x1024x1024 ![] bcast_S_S4x1024x1024),
    TRef.binary (TRef.of (T := Words) main_call1_call0_v12) (TRef.of (T := Words) main_call1_call0_v14) (TRef.of (T := Words) main_call1_call0_v15) Host.shli,
    TRef.nullary (TRef.of (T := ⟨S_, .i32⟩) main_call1_call0_c_3) (constantI S_ 32 17#32),
    TRef.unary (TRef.of (T := ⟨S_, .i32⟩) main_call1_call0_c_3) (TRef.of (T := Words) main_call1_call0_v16) (broadcastInDim S4x1024x1024 ![] bcast_S_S4x1024x1024),
    TRef.binary (TRef.of (T := Words) main_call1_call0_v12) (TRef.of (T := Words) main_call1_call0_v16) (TRef.of (T := Words) main_call1_call0_v17) Host.shrui,
    TRef.binary (TRef.of (T := Words) main_call1_call0_v15) (TRef.of (T := Words) main_call1_call0_v17) (TRef.of (T := Words) main_call1_call0_v18) ori ]

/-- Mixing rounds, stretch 1 of 9. -/
def mix1Ops : List (HloOp τ sig (Elt F)) :=
  [ TRef.binary (TRef.of (T := Words) main_call1_call0_v13) (TRef.of (T := Words) main_call1_call0_v18) (TRef.of (T := Words) main_call1_call0_v19) xori,
    TRef.binary (TRef.of (T := Words) main_call1_call0_v13) (TRef.of (T := Words) main_call1_call0_v19) (TRef.of (T := Words) main_call1_call0_v20) addi,
    TRef.nullary (TRef.of (T := ⟨S_, .i32⟩) main_call1_call0_c_4) (constantI S_ 32 26#32),
    TRef.unary (TRef.of (T := ⟨S_, .i32⟩) main_call1_call0_c_4) (TRef.of (T := Words) main_call1_call0_v21) (broadcastInDim S4x1024x1024 ![] bcast_S_S4x1024x1024),
    TRef.binary (TRef.of (T := Words) main_call1_call0_v19) (TRef.of (T := Words) main_call1_call0_v21) (TRef.of (T := Words) main_call1_call0_v22) Host.shli,
    TRef.nullary (TRef.of (T := ⟨S_, .i32⟩) main_call1_call0_c_5) (constantI S_ 32 6#32),
    TRef.unary (TRef.of (T := ⟨S_, .i32⟩) main_call1_call0_c_5) (TRef.of (T := Words) main_call1_call0_v23) (broadcastInDim S4x1024x1024 ![] bcast_S_S4x1024x1024),
    TRef.binary (TRef.of (T := Words) main_call1_call0_v19) (TRef.of (T := Words) main_call1_call0_v23) (TRef.of (T := Words) main_call1_call0_v24) Host.shrui,
    TRef.binary (TRef.of (T := Words) main_call1_call0_v22) (TRef.of (T := Words) main_call1_call0_v24) (TRef.of (T := Words) main_call1_call0_v25) ori,
    TRef.binary (TRef.of (T := Words) main_call1_call0_v20) (TRef.of (T := Words) main_call1_call0_v25) (TRef.of (T := Words) main_call1_call0_v26) xori,
    TRef.binary (TRef.of (T := Words) main_call1_call0_v20) (TRef.of (T := Words) main_call1_call0_v26) (TRef.of (T := Words) main_call1_call0_v27) addi,
    TRef.nullary (TRef.of (T := ⟨S_, .i32⟩) main_call1_call0_c_6) (constantI S_ 32 6#32),
    TRef.unary (TRef.of (T := ⟨S_, .i32⟩) main_call1_call0_c_6) (TRef.of (T := Words) main_call1_call0_v28) (broadcastInDim S4x1024x1024 ![] bcast_S_S4x1024x1024),
    TRef.binary (TRef.of (T := Words) main_call1_call0_v26) (TRef.of (T := Words) main_call1_call0_v28) (TRef.of (T := Words) main_call1_call0_v29) Host.shli,
    TRef.nullary (TRef.of (T := ⟨S_, .i32⟩) main_call1_call0_c_7) (constantI S_ 32 26#32),
    TRef.unary (TRef.of (T := ⟨S_, .i32⟩) main_call1_call0_c_7) (TRef.of (T := Words) main_call1_call0_v30) (broadcastInDim S4x1024x1024 ![] bcast_S_S4x1024x1024),
    TRef.binary (TRef.of (T := Words) main_call1_call0_v26) (TRef.of (T := Words) main_call1_call0_v30) (TRef.of (T := Words) main_call1_call0_v31) Host.shrui,
    TRef.binary (TRef.of (T := Words) main_call1_call0_v29) (TRef.of (T := Words) main_call1_call0_v31) (TRef.of (T := Words) main_call1_call0_v32) ori,
    TRef.binary (TRef.of (T := Words) main_call1_call0_v27) (TRef.of (T := Words) main_call1_call0_v32) (TRef.of (T := Words) main_call1_call0_v33) xori,
    TRef.unary (TRef.of (T := ⟨S_, .i32⟩) main_call1_v7) (TRef.of (T := Words) main_call1_call0_v34) (broadcastInDim S4x1024x1024 ![] bcast_S_S4x1024x1024),
    TRef.binary (TRef.of (T := Words) main_call1_call0_v27) (TRef.of (T := Words) main_call1_call0_v34) (TRef.of (T := Words) main_call1_call0_v35) addi,
    TRef.unary (TRef.of (T := ⟨S_, .i32⟩) main_call1_call0_v1) (TRef.of (T := Words) main_call1_call0_v36) (broadcastInDim S4x1024x1024 ![] bcast_S_S4x1024x1024),
    TRef.binary (TRef.of (T := Words) main_call1_call0_v33) (TRef.of (T := Words) main_call1_call0_v36) (TRef.of (T := Words) main_call1_call0_v37) addi,
    TRef.nullary (TRef.of (T := ⟨S_, .i32⟩) main_call1_call0_c_8) (constantI S_ 32 1#32) ]

/-- Mixing rounds, stretch 2 of 9. -/
def mix2Ops : List (HloOp τ sig (Elt F)) :=
  [ TRef.unary (TRef.of (T := ⟨S_, .i32⟩) main_call1_call0_c_8) (TRef.of (T := Words) main_call1_call0_v38) (broadcastInDim S4x1024x1024 ![] bcast_S_S4x1024x1024),
    TRef.binary (TRef.of (T := Words) main_call1_call0_v37) (TRef.of (T := Words) main_call1_call0_v38) (TRef.of (T := Words) main_call1_call0_v39) addi,
    TRef.binary (TRef.of (T := Words) main_call1_call0_v35) (TRef.of (T := Words) main_call1_call0_v39) (TRef.of (T := Words) main_call1_call0_v40) addi,
    TRef.nullary (TRef.of (T := ⟨S_, .i32⟩) main_call1_call0_c_9) (constantI S_ 32 17#32),
    TRef.unary (TRef.of (T := ⟨S_, .i32⟩) main_call1_call0_c_9) (TRef.of (T := Words) main_call1_call0_v41) (broadcastInDim S4x1024x1024 ![] bcast_S_S4x1024x1024),
    TRef.binary (TRef.of (T := Words) main_call1_call0_v39) (TRef.of (T := Words) main_call1_call0_v41) (TRef.of (T := Words) main_call1_call0_v42) Host.shli,
    TRef.nullary (TRef.of (T := ⟨S_, .i32⟩) main_call1_call0_c_10) (constantI S_ 32 15#32),
    TRef.unary (TRef.of (T := ⟨S_, .i32⟩) main_call1_call0_c_10) (TRef.of (T := Words) main_call1_call0_v43) (broadcastInDim S4x1024x1024 ![] bcast_S_S4x1024x1024),
    TRef.binary (TRef.of (T := Words) main_call1_call0_v39) (TRef.of (T := Words) main_call1_call0_v43) (TRef.of (T := Words) main_call1_call0_v44) Host.shrui,
    TRef.binary (TRef.of (T := Words) main_call1_call0_v42) (TRef.of (T := Words) main_call1_call0_v44) (TRef.of (T := Words) main_call1_call0_v45) ori,
    TRef.binary (TRef.of (T := Words) main_call1_call0_v40) (TRef.of (T := Words) main_call1_call0_v45) (TRef.of (T := Words) main_call1_call0_v46) xori,
    TRef.binary (TRef.of (T := Words) main_call1_call0_v40) (TRef.of (T := Words) main_call1_call0_v46) (TRef.of (T := Words) main_call1_call0_v47) addi,
    TRef.nullary (TRef.of (T := ⟨S_, .i32⟩) main_call1_call0_c_11) (constantI S_ 32 29#32),
    TRef.unary (TRef.of (T := ⟨S_, .i32⟩) main_call1_call0_c_11) (TRef.of (T := Words) main_call1_call0_v48) (broadcastInDim S4x1024x1024 ![] bcast_S_S4x1024x1024),
    TRef.binary (TRef.of (T := Words) main_call1_call0_v46) (TRef.of (T := Words) main_call1_call0_v48) (TRef.of (T := Words) main_call1_call0_v49) Host.shli,
    TRef.nullary (TRef.of (T := ⟨S_, .i32⟩) main_call1_call0_c_12) (constantI S_ 32 3#32),
    TRef.unary (TRef.of (T := ⟨S_, .i32⟩) main_call1_call0_c_12) (TRef.of (T := Words) main_call1_call0_v50) (broadcastInDim S4x1024x1024 ![] bcast_S_S4x1024x1024),
    TRef.binary (TRef.of (T := Words) main_call1_call0_v46) (TRef.of (T := Words) main_call1_call0_v50) (TRef.of (T := Words) main_call1_call0_v51) Host.shrui,
    TRef.binary (TRef.of (T := Words) main_call1_call0_v49) (TRef.of (T := Words) main_call1_call0_v51) (TRef.of (T := Words) main_call1_call0_v52) ori,
    TRef.binary (TRef.of (T := Words) main_call1_call0_v47) (TRef.of (T := Words) main_call1_call0_v52) (TRef.of (T := Words) main_call1_call0_v53) xori,
    TRef.binary (TRef.of (T := Words) main_call1_call0_v47) (TRef.of (T := Words) main_call1_call0_v53) (TRef.of (T := Words) main_call1_call0_v54) addi,
    TRef.nullary (TRef.of (T := ⟨S_, .i32⟩) main_call1_call0_c_13) (constantI S_ 32 16#32),
    TRef.unary (TRef.of (T := ⟨S_, .i32⟩) main_call1_call0_c_13) (TRef.of (T := Words) main_call1_call0_v55) (broadcastInDim S4x1024x1024 ![] bcast_S_S4x1024x1024),
    TRef.binary (TRef.of (T := Words) main_call1_call0_v53) (TRef.of (T := Words) main_call1_call0_v55) (TRef.of (T := Words) main_call1_call0_v56) Host.shli ]

/-- Mixing rounds, stretch 3 of 9. -/
def mix3Ops : List (HloOp τ sig (Elt F)) :=
  [ TRef.nullary (TRef.of (T := ⟨S_, .i32⟩) main_call1_call0_c_14) (constantI S_ 32 16#32),
    TRef.unary (TRef.of (T := ⟨S_, .i32⟩) main_call1_call0_c_14) (TRef.of (T := Words) main_call1_call0_v57) (broadcastInDim S4x1024x1024 ![] bcast_S_S4x1024x1024),
    TRef.binary (TRef.of (T := Words) main_call1_call0_v53) (TRef.of (T := Words) main_call1_call0_v57) (TRef.of (T := Words) main_call1_call0_v58) Host.shrui,
    TRef.binary (TRef.of (T := Words) main_call1_call0_v56) (TRef.of (T := Words) main_call1_call0_v58) (TRef.of (T := Words) main_call1_call0_v59) ori,
    TRef.binary (TRef.of (T := Words) main_call1_call0_v54) (TRef.of (T := Words) main_call1_call0_v59) (TRef.of (T := Words) main_call1_call0_v60) xori,
    TRef.binary (TRef.of (T := Words) main_call1_call0_v54) (TRef.of (T := Words) main_call1_call0_v60) (TRef.of (T := Words) main_call1_call0_v61) addi,
    TRef.nullary (TRef.of (T := ⟨S_, .i32⟩) main_call1_call0_c_15) (constantI S_ 32 24#32),
    TRef.unary (TRef.of (T := ⟨S_, .i32⟩) main_call1_call0_c_15) (TRef.of (T := Words) main_call1_call0_v62) (broadcastInDim S4x1024x1024 ![] bcast_S_S4x1024x1024),
    TRef.binary (TRef.of (T := Words) main_call1_call0_v60) (TRef.of (T := Words) main_call1_call0_v62) (TRef.of (T := Words) main_call1_call0_v63) Host.shli,
    TRef.nullary (TRef.of (T := ⟨S_, .i32⟩) main_call1_call0_c_16) (constantI S_ 32 8#32),
    TRef.unary (TRef.of (T := ⟨S_, .i32⟩) main_call1_call0_c_16) (TRef.of (T := Words) main_call1_call0_v64) (broadcastInDim S4x1024x1024 ![] bcast_S_S4x1024x1024),
    TRef.binary (TRef.of (T := Words) main_call1_call0_v60) (TRef.of (T := Words) main_call1_call0_v64) (TRef.of (T := Words) main_call1_call0_v65) Host.shrui,
    TRef.binary (TRef.of (T := Words) main_call1_call0_v63) (TRef.of (T := Words) main_call1_call0_v65) (TRef.of (T := Words) main_call1_call0_v66) ori,
    TRef.binary (TRef.of (T := Words) main_call1_call0_v61) (TRef.of (T := Words) main_call1_call0_v66) (TRef.of (T := Words) main_call1_call0_v67) xori,
    TRef.unary (TRef.of (T := ⟨S_, .i32⟩) main_call1_call0_v1) (TRef.of (T := Words) main_call1_call0_v68) (broadcastInDim S4x1024x1024 ![] bcast_S_S4x1024x1024),
    TRef.binary (TRef.of (T := Words) main_call1_call0_v61) (TRef.of (T := Words) main_call1_call0_v68) (TRef.of (T := Words) main_call1_call0_v69) addi,
    TRef.unary (TRef.of (T := ⟨S_, .i32⟩) main_call1_v5) (TRef.of (T := Words) main_call1_call0_v70) (broadcastInDim S4x1024x1024 ![] bcast_S_S4x1024x1024),
    TRef.binary (TRef.of (T := Words) main_call1_call0_v67) (TRef.of (T := Words) main_call1_call0_v70) (TRef.of (T := Words) main_call1_call0_v71) addi,
    TRef.nullary (TRef.of (T := ⟨S_, .i32⟩) main_call1_call0_c_17) (constantI S_ 32 2#32),
    TRef.unary (TRef.of (T := ⟨S_, .i32⟩) main_call1_call0_c_17) (TRef.of (T := Words) main_call1_call0_v72) (broadcastInDim S4x1024x1024 ![] bcast_S_S4x1024x1024),
    TRef.binary (TRef.of (T := Words) main_call1_call0_v71) (TRef.of (T := Words) main_call1_call0_v72) (TRef.of (T := Words) main_call1_call0_v73) addi,
    TRef.binary (TRef.of (T := Words) main_call1_call0_v69) (TRef.of (T := Words) main_call1_call0_v73) (TRef.of (T := Words) main_call1_call0_v74) addi,
    TRef.nullary (TRef.of (T := ⟨S_, .i32⟩) main_call1_call0_c_18) (constantI S_ 32 13#32),
    TRef.unary (TRef.of (T := ⟨S_, .i32⟩) main_call1_call0_c_18) (TRef.of (T := Words) main_call1_call0_v75) (broadcastInDim S4x1024x1024 ![] bcast_S_S4x1024x1024) ]

/-- Mixing rounds, stretch 4 of 9. -/
def mix4Ops : List (HloOp τ sig (Elt F)) :=
  [ TRef.binary (TRef.of (T := Words) main_call1_call0_v73) (TRef.of (T := Words) main_call1_call0_v75) (TRef.of (T := Words) main_call1_call0_v76) Host.shli,
    TRef.nullary (TRef.of (T := ⟨S_, .i32⟩) main_call1_call0_c_19) (constantI S_ 32 19#32),
    TRef.unary (TRef.of (T := ⟨S_, .i32⟩) main_call1_call0_c_19) (TRef.of (T := Words) main_call1_call0_v77) (broadcastInDim S4x1024x1024 ![] bcast_S_S4x1024x1024),
    TRef.binary (TRef.of (T := Words) main_call1_call0_v73) (TRef.of (T := Words) main_call1_call0_v77) (TRef.of (T := Words) main_call1_call0_v78) Host.shrui,
    TRef.binary (TRef.of (T := Words) main_call1_call0_v76) (TRef.of (T := Words) main_call1_call0_v78) (TRef.of (T := Words) main_call1_call0_v79) ori,
    TRef.binary (TRef.of (T := Words) main_call1_call0_v74) (TRef.of (T := Words) main_call1_call0_v79) (TRef.of (T := Words) main_call1_call0_v80) xori,
    TRef.binary (TRef.of (T := Words) main_call1_call0_v74) (TRef.of (T := Words) main_call1_call0_v80) (TRef.of (T := Words) main_call1_call0_v81) addi,
    TRef.nullary (TRef.of (T := ⟨S_, .i32⟩) main_call1_call0_c_20) (constantI S_ 32 15#32),
    TRef.unary (TRef.of (T := ⟨S_, .i32⟩) main_call1_call0_c_20) (TRef.of (T := Words) main_call1_call0_v82) (broadcastInDim S4x1024x1024 ![] bcast_S_S4x1024x1024),
    TRef.binary (TRef.of (T := Words) main_call1_call0_v80) (TRef.of (T := Words) main_call1_call0_v82) (TRef.of (T := Words) main_call1_call0_v83) Host.shli,
    TRef.nullary (TRef.of (T := ⟨S_, .i32⟩) main_call1_call0_c_21) (constantI S_ 32 17#32),
    TRef.unary (TRef.of (T := ⟨S_, .i32⟩) main_call1_call0_c_21) (TRef.of (T := Words) main_call1_call0_v84) (broadcastInDim S4x1024x1024 ![] bcast_S_S4x1024x1024),
    TRef.binary (TRef.of (T := Words) main_call1_call0_v80) (TRef.of (T := Words) main_call1_call0_v84) (TRef.of (T := Words) main_call1_call0_v85) Host.shrui,
    TRef.binary (TRef.of (T := Words) main_call1_call0_v83) (TRef.of (T := Words) main_call1_call0_v85) (TRef.of (T := Words) main_call1_call0_v86) ori,
    TRef.binary (TRef.of (T := Words) main_call1_call0_v81) (TRef.of (T := Words) main_call1_call0_v86) (TRef.of (T := Words) main_call1_call0_v87) xori,
    TRef.binary (TRef.of (T := Words) main_call1_call0_v81) (TRef.of (T := Words) main_call1_call0_v87) (TRef.of (T := Words) main_call1_call0_v88) addi,
    TRef.nullary (TRef.of (T := ⟨S_, .i32⟩) main_call1_call0_c_22) (constantI S_ 32 26#32),
    TRef.unary (TRef.of (T := ⟨S_, .i32⟩) main_call1_call0_c_22) (TRef.of (T := Words) main_call1_call0_v89) (broadcastInDim S4x1024x1024 ![] bcast_S_S4x1024x1024),
    TRef.binary (TRef.of (T := Words) main_call1_call0_v87) (TRef.of (T := Words) main_call1_call0_v89) (TRef.of (T := Words) main_call1_call0_v90) Host.shli,
    TRef.nullary (TRef.of (T := ⟨S_, .i32⟩) main_call1_call0_c_23) (constantI S_ 32 6#32),
    TRef.unary (TRef.of (T := ⟨S_, .i32⟩) main_call1_call0_c_23) (TRef.of (T := Words) main_call1_call0_v91) (broadcastInDim S4x1024x1024 ![] bcast_S_S4x1024x1024),
    TRef.binary (TRef.of (T := Words) main_call1_call0_v87) (TRef.of (T := Words) main_call1_call0_v91) (TRef.of (T := Words) main_call1_call0_v92) Host.shrui,
    TRef.binary (TRef.of (T := Words) main_call1_call0_v90) (TRef.of (T := Words) main_call1_call0_v92) (TRef.of (T := Words) main_call1_call0_v93) ori,
    TRef.binary (TRef.of (T := Words) main_call1_call0_v88) (TRef.of (T := Words) main_call1_call0_v93) (TRef.of (T := Words) main_call1_call0_v94) xori ]

/-- Mixing rounds, stretch 5 of 9. -/
def mix5Ops : List (HloOp τ sig (Elt F)) :=
  [ TRef.binary (TRef.of (T := Words) main_call1_call0_v88) (TRef.of (T := Words) main_call1_call0_v94) (TRef.of (T := Words) main_call1_call0_v95) addi,
    TRef.nullary (TRef.of (T := ⟨S_, .i32⟩) main_call1_call0_c_24) (constantI S_ 32 6#32),
    TRef.unary (TRef.of (T := ⟨S_, .i32⟩) main_call1_call0_c_24) (TRef.of (T := Words) main_call1_call0_v96) (broadcastInDim S4x1024x1024 ![] bcast_S_S4x1024x1024),
    TRef.binary (TRef.of (T := Words) main_call1_call0_v94) (TRef.of (T := Words) main_call1_call0_v96) (TRef.of (T := Words) main_call1_call0_v97) Host.shli,
    TRef.nullary (TRef.of (T := ⟨S_, .i32⟩) main_call1_call0_c_25) (constantI S_ 32 26#32),
    TRef.unary (TRef.of (T := ⟨S_, .i32⟩) main_call1_call0_c_25) (TRef.of (T := Words) main_call1_call0_v98) (broadcastInDim S4x1024x1024 ![] bcast_S_S4x1024x1024),
    TRef.binary (TRef.of (T := Words) main_call1_call0_v94) (TRef.of (T := Words) main_call1_call0_v98) (TRef.of (T := Words) main_call1_call0_v99) Host.shrui,
    TRef.binary (TRef.of (T := Words) main_call1_call0_v97) (TRef.of (T := Words) main_call1_call0_v99) (TRef.of (T := Words) main_call1_call0_v100) ori,
    TRef.binary (TRef.of (T := Words) main_call1_call0_v95) (TRef.of (T := Words) main_call1_call0_v100) (TRef.of (T := Words) main_call1_call0_v101) xori,
    TRef.unary (TRef.of (T := ⟨S_, .i32⟩) main_call1_v5) (TRef.of (T := Words) main_call1_call0_v102) (broadcastInDim S4x1024x1024 ![] bcast_S_S4x1024x1024),
    TRef.binary (TRef.of (T := Words) main_call1_call0_v95) (TRef.of (T := Words) main_call1_call0_v102) (TRef.of (T := Words) main_call1_call0_v103) addi,
    TRef.unary (TRef.of (T := ⟨S_, .i32⟩) main_call1_v7) (TRef.of (T := Words) main_call1_call0_v104) (broadcastInDim S4x1024x1024 ![] bcast_S_S4x1024x1024),
    TRef.binary (TRef.of (T := Words) main_call1_call0_v101) (TRef.of (T := Words) main_call1_call0_v104) (TRef.of (T := Words) main_call1_call0_v105) addi,
    TRef.nullary (TRef.of (T := ⟨S_, .i32⟩) main_call1_call0_c_26) (constantI S_ 32 3#32),
    TRef.unary (TRef.of (T := ⟨S_, .i32⟩) main_call1_call0_c_26) (TRef.of (T := Words) main_call1_call0_v106) (broadcastInDim S4x1024x1024 ![] bcast_S_S4x1024x1024),
    TRef.binary (TRef.of (T := Words) main_call1_call0_v105) (TRef.of (T := Words) main_call1_call0_v106) (TRef.of (T := Words) main_call1_call0_v107) addi,
    TRef.binary (TRef.of (T := Words) main_call1_call0_v103) (TRef.of (T := Words) main_call1_call0_v107) (TRef.of (T := Words) main_call1_call0_v108) addi,
    TRef.nullary (TRef.of (T := ⟨S_, .i32⟩) main_call1_call0_c_27) (constantI S_ 32 17#32),
    TRef.unary (TRef.of (T := ⟨S_, .i32⟩) main_call1_call0_c_27) (TRef.of (T := Words) main_call1_call0_v109) (broadcastInDim S4x1024x1024 ![] bcast_S_S4x1024x1024),
    TRef.binary (TRef.of (T := Words) main_call1_call0_v107) (TRef.of (T := Words) main_call1_call0_v109) (TRef.of (T := Words) main_call1_call0_v110) Host.shli,
    TRef.nullary (TRef.of (T := ⟨S_, .i32⟩) main_call1_call0_c_28) (constantI S_ 32 15#32),
    TRef.unary (TRef.of (T := ⟨S_, .i32⟩) main_call1_call0_c_28) (TRef.of (T := Words) main_call1_call0_v111) (broadcastInDim S4x1024x1024 ![] bcast_S_S4x1024x1024),
    TRef.binary (TRef.of (T := Words) main_call1_call0_v107) (TRef.of (T := Words) main_call1_call0_v111) (TRef.of (T := Words) main_call1_call0_v112) Host.shrui,
    TRef.binary (TRef.of (T := Words) main_call1_call0_v110) (TRef.of (T := Words) main_call1_call0_v112) (TRef.of (T := Words) main_call1_call0_v113) ori ]

/-- Mixing rounds, stretch 6 of 9. -/
def mix6Ops : List (HloOp τ sig (Elt F)) :=
  [ TRef.binary (TRef.of (T := Words) main_call1_call0_v108) (TRef.of (T := Words) main_call1_call0_v113) (TRef.of (T := Words) main_call1_call0_v114) xori,
    TRef.binary (TRef.of (T := Words) main_call1_call0_v108) (TRef.of (T := Words) main_call1_call0_v114) (TRef.of (T := Words) main_call1_call0_v115) addi,
    TRef.nullary (TRef.of (T := ⟨S_, .i32⟩) main_call1_call0_c_29) (constantI S_ 32 29#32),
    TRef.unary (TRef.of (T := ⟨S_, .i32⟩) main_call1_call0_c_29) (TRef.of (T := Words) main_call1_call0_v116) (broadcastInDim S4x1024x1024 ![] bcast_S_S4x1024x1024),
    TRef.binary (TRef.of (T := Words) main_call1_call0_v114) (TRef.of (T := Words) main_call1_call0_v116) (TRef.of (T := Words) main_call1_call0_v117) Host.shli,
    TRef.nullary (TRef.of (T := ⟨S_, .i32⟩) main_call1_call0_c_30) (constantI S_ 32 3#32),
    TRef.unary (TRef.of (T := ⟨S_, .i32⟩) main_call1_call0_c_30) (TRef.of (T := Words) main_call1_call0_v118) (broadcastInDim S4x1024x1024 ![] bcast_S_S4x1024x1024),
    TRef.binary (TRef.of (T := Words) main_call1_call0_v114) (TRef.of (T := Words) main_call1_call0_v118) (TRef.of (T := Words) main_call1_call0_v119) Host.shrui,
    TRef.binary (TRef.of (T := Words) main_call1_call0_v117) (TRef.of (T := Words) main_call1_call0_v119) (TRef.of (T := Words) main_call1_call0_v120) ori,
    TRef.binary (TRef.of (T := Words) main_call1_call0_v115) (TRef.of (T := Words) main_call1_call0_v120) (TRef.of (T := Words) main_call1_call0_v121) xori,
    TRef.binary (TRef.of (T := Words) main_call1_call0_v115) (TRef.of (T := Words) main_call1_call0_v121) (TRef.of (T := Words) main_call1_call0_v122) addi,
    TRef.nullary (TRef.of (T := ⟨S_, .i32⟩) main_call1_call0_c_31) (constantI S_ 32 16#32),
    TRef.unary (TRef.of (T := ⟨S_, .i32⟩) main_call1_call0_c_31) (TRef.of (T := Words) main_call1_call0_v123) (broadcastInDim S4x1024x1024 ![] bcast_S_S4x1024x1024),
    TRef.binary (TRef.of (T := Words) main_call1_call0_v121) (TRef.of (T := Words) main_call1_call0_v123) (TRef.of (T := Words) main_call1_call0_v124) Host.shli,
    TRef.nullary (TRef.of (T := ⟨S_, .i32⟩) main_call1_call0_c_32) (constantI S_ 32 16#32),
    TRef.unary (TRef.of (T := ⟨S_, .i32⟩) main_call1_call0_c_32) (TRef.of (T := Words) main_call1_call0_v125) (broadcastInDim S4x1024x1024 ![] bcast_S_S4x1024x1024),
    TRef.binary (TRef.of (T := Words) main_call1_call0_v121) (TRef.of (T := Words) main_call1_call0_v125) (TRef.of (T := Words) main_call1_call0_v126) Host.shrui,
    TRef.binary (TRef.of (T := Words) main_call1_call0_v124) (TRef.of (T := Words) main_call1_call0_v126) (TRef.of (T := Words) main_call1_call0_v127) ori,
    TRef.binary (TRef.of (T := Words) main_call1_call0_v122) (TRef.of (T := Words) main_call1_call0_v127) (TRef.of (T := Words) main_call1_call0_v128) xori,
    TRef.binary (TRef.of (T := Words) main_call1_call0_v122) (TRef.of (T := Words) main_call1_call0_v128) (TRef.of (T := Words) main_call1_call0_v129) addi,
    TRef.nullary (TRef.of (T := ⟨S_, .i32⟩) main_call1_call0_c_33) (constantI S_ 32 24#32),
    TRef.unary (TRef.of (T := ⟨S_, .i32⟩) main_call1_call0_c_33) (TRef.of (T := Words) main_call1_call0_v130) (broadcastInDim S4x1024x1024 ![] bcast_S_S4x1024x1024),
    TRef.binary (TRef.of (T := Words) main_call1_call0_v128) (TRef.of (T := Words) main_call1_call0_v130) (TRef.of (T := Words) main_call1_call0_v131) Host.shli,
    TRef.nullary (TRef.of (T := ⟨S_, .i32⟩) main_call1_call0_c_34) (constantI S_ 32 8#32) ]

/-- Mixing rounds, stretch 7 of 9. -/
def mix7Ops : List (HloOp τ sig (Elt F)) :=
  [ TRef.unary (TRef.of (T := ⟨S_, .i32⟩) main_call1_call0_c_34) (TRef.of (T := Words) main_call1_call0_v132) (broadcastInDim S4x1024x1024 ![] bcast_S_S4x1024x1024),
    TRef.binary (TRef.of (T := Words) main_call1_call0_v128) (TRef.of (T := Words) main_call1_call0_v132) (TRef.of (T := Words) main_call1_call0_v133) Host.shrui,
    TRef.binary (TRef.of (T := Words) main_call1_call0_v131) (TRef.of (T := Words) main_call1_call0_v133) (TRef.of (T := Words) main_call1_call0_v134) ori,
    TRef.binary (TRef.of (T := Words) main_call1_call0_v129) (TRef.of (T := Words) main_call1_call0_v134) (TRef.of (T := Words) main_call1_call0_v135) xori,
    TRef.unary (TRef.of (T := ⟨S_, .i32⟩) main_call1_v7) (TRef.of (T := Words) main_call1_call0_v136) (broadcastInDim S4x1024x1024 ![] bcast_S_S4x1024x1024),
    TRef.binary (TRef.of (T := Words) main_call1_call0_v129) (TRef.of (T := Words) main_call1_call0_v136) (TRef.of (T := Words) main_call1_call0_v137) addi,
    TRef.unary (TRef.of (T := ⟨S_, .i32⟩) main_call1_call0_v1) (TRef.of (T := Words) main_call1_call0_v138) (broadcastInDim S4x1024x1024 ![] bcast_S_S4x1024x1024),
    TRef.binary (TRef.of (T := Words) main_call1_call0_v135) (TRef.of (T := Words) main_call1_call0_v138) (TRef.of (T := Words) main_call1_call0_v139) addi,
    TRef.nullary (TRef.of (T := ⟨S_, .i32⟩) main_call1_call0_c_35) (constantI S_ 32 4#32),
    TRef.unary (TRef.of (T := ⟨S_, .i32⟩) main_call1_call0_c_35) (TRef.of (T := Words) main_call1_call0_v140) (broadcastInDim S4x1024x1024 ![] bcast_S_S4x1024x1024),
    TRef.binary (TRef.of (T := Words) main_call1_call0_v139) (TRef.of (T := Words) main_call1_call0_v140) (TRef.of (T := Words) main_call1_call0_v141) addi,
    TRef.binary (TRef.of (T := Words) main_call1_call0_v137) (TRef.of (T := Words) main_call1_call0_v141) (TRef.of (T := Words) main_call1_call0_v142) addi,
    TRef.nullary (TRef.of (T := ⟨S_, .i32⟩) main_call1_call0_c_36) (constantI S_ 32 13#32),
    TRef.unary (TRef.of (T := ⟨S_, .i32⟩) main_call1_call0_c_36) (TRef.of (T := Words) main_call1_call0_v143) (broadcastInDim S4x1024x1024 ![] bcast_S_S4x1024x1024),
    TRef.binary (TRef.of (T := Words) main_call1_call0_v141) (TRef.of (T := Words) main_call1_call0_v143) (TRef.of (T := Words) main_call1_call0_v144) Host.shli,
    TRef.nullary (TRef.of (T := ⟨S_, .i32⟩) main_call1_call0_c_37) (constantI S_ 32 19#32),
    TRef.unary (TRef.of (T := ⟨S_, .i32⟩) main_call1_call0_c_37) (TRef.of (T := Words) main_call1_call0_v145) (broadcastInDim S4x1024x1024 ![] bcast_S_S4x1024x1024),
    TRef.binary (TRef.of (T := Words) main_call1_call0_v141) (TRef.of (T := Words) main_call1_call0_v145) (TRef.of (T := Words) main_call1_call0_v146) Host.shrui,
    TRef.binary (TRef.of (T := Words) main_call1_call0_v144) (TRef.of (T := Words) main_call1_call0_v146) (TRef.of (T := Words) main_call1_call0_v147) ori,
    TRef.binary (TRef.of (T := Words) main_call1_call0_v142) (TRef.of (T := Words) main_call1_call0_v147) (TRef.of (T := Words) main_call1_call0_v148) xori,
    TRef.binary (TRef.of (T := Words) main_call1_call0_v142) (TRef.of (T := Words) main_call1_call0_v148) (TRef.of (T := Words) main_call1_call0_v149) addi,
    TRef.nullary (TRef.of (T := ⟨S_, .i32⟩) main_call1_call0_c_38) (constantI S_ 32 15#32),
    TRef.unary (TRef.of (T := ⟨S_, .i32⟩) main_call1_call0_c_38) (TRef.of (T := Words) main_call1_call0_v150) (broadcastInDim S4x1024x1024 ![] bcast_S_S4x1024x1024),
    TRef.binary (TRef.of (T := Words) main_call1_call0_v148) (TRef.of (T := Words) main_call1_call0_v150) (TRef.of (T := Words) main_call1_call0_v151) Host.shli ]

/-- Mixing rounds, stretch 8 of 9. -/
def mix8Ops : List (HloOp τ sig (Elt F)) :=
  [ TRef.nullary (TRef.of (T := ⟨S_, .i32⟩) main_call1_call0_c_39) (constantI S_ 32 17#32),
    TRef.unary (TRef.of (T := ⟨S_, .i32⟩) main_call1_call0_c_39) (TRef.of (T := Words) main_call1_call0_v152) (broadcastInDim S4x1024x1024 ![] bcast_S_S4x1024x1024),
    TRef.binary (TRef.of (T := Words) main_call1_call0_v148) (TRef.of (T := Words) main_call1_call0_v152) (TRef.of (T := Words) main_call1_call0_v153) Host.shrui,
    TRef.binary (TRef.of (T := Words) main_call1_call0_v151) (TRef.of (T := Words) main_call1_call0_v153) (TRef.of (T := Words) main_call1_call0_v154) ori,
    TRef.binary (TRef.of (T := Words) main_call1_call0_v149) (TRef.of (T := Words) main_call1_call0_v154) (TRef.of (T := Words) main_call1_call0_v155) xori,
    TRef.binary (TRef.of (T := Words) main_call1_call0_v149) (TRef.of (T := Words) main_call1_call0_v155) (TRef.of (T := Words) main_call1_call0_v156) addi,
    TRef.nullary (TRef.of (T := ⟨S_, .i32⟩) main_call1_call0_c_40) (constantI S_ 32 26#32),
    TRef.unary (TRef.of (T := ⟨S_, .i32⟩) main_call1_call0_c_40) (TRef.of (T := Words) main_call1_call0_v157) (broadcastInDim S4x1024x1024 ![] bcast_S_S4x1024x1024),
    TRef.binary (TRef.of (T := Words) main_call1_call0_v155) (TRef.of (T := Words) main_call1_call0_v157) (TRef.of (T := Words) main_call1_call0_v158) Host.shli,
    TRef.nullary (TRef.of (T := ⟨S_, .i32⟩) main_call1_call0_c_41) (constantI S_ 32 6#32),
    TRef.unary (TRef.of (T := ⟨S_, .i32⟩) main_call1_call0_c_41) (TRef.of (T := Words) main_call1_call0_v159) (broadcastInDim S4x1024x1024 ![] bcast_S_S4x1024x1024),
    TRef.binary (TRef.of (T := Words) main_call1_call0_v155) (TRef.of (T := Words) main_call1_call0_v159) (TRef.of (T := Words) main_call1_call0_v160) Host.shrui,
    TRef.binary (TRef.of (T := Words) main_call1_call0_v158) (TRef.of (T := Words) main_call1_call0_v160) (TRef.of (T := Words) main_call1_call0_v161) ori,
    TRef.binary (TRef.of (T := Words) main_call1_call0_v156) (TRef.of (T := Words) main_call1_call0_v161) (TRef.of (T := Words) main_call1_call0_v162) xori,
    TRef.binary (TRef.of (T := Words) main_call1_call0_v156) (TRef.of (T := Words) main_call1_call0_v162) (TRef.of (T := Words) main_call1_call0_v163) addi,
    TRef.nullary (TRef.of (T := ⟨S_, .i32⟩) main_call1_call0_c_42) (constantI S_ 32 6#32),
    TRef.unary (TRef.of (T := ⟨S_, .i32⟩) main_call1_call0_c_42) (TRef.of (T := Words) main_call1_call0_v164) (broadcastInDim S4x1024x1024 ![] bcast_S_S4x1024x1024),
    TRef.binary (TRef.of (T := Words) main_call1_call0_v162) (TRef.of (T := Words) main_call1_call0_v164) (TRef.of (T := Words) main_call1_call0_v165) Host.shli,
    TRef.nullary (TRef.of (T := ⟨S_, .i32⟩) main_call1_call0_c_43) (constantI S_ 32 26#32),
    TRef.unary (TRef.of (T := ⟨S_, .i32⟩) main_call1_call0_c_43) (TRef.of (T := Words) main_call1_call0_v166) (broadcastInDim S4x1024x1024 ![] bcast_S_S4x1024x1024),
    TRef.binary (TRef.of (T := Words) main_call1_call0_v162) (TRef.of (T := Words) main_call1_call0_v166) (TRef.of (T := Words) main_call1_call0_v167) Host.shrui,
    TRef.binary (TRef.of (T := Words) main_call1_call0_v165) (TRef.of (T := Words) main_call1_call0_v167) (TRef.of (T := Words) main_call1_call0_v168) ori,
    TRef.binary (TRef.of (T := Words) main_call1_call0_v163) (TRef.of (T := Words) main_call1_call0_v168) (TRef.of (T := Words) main_call1_call0_v169) xori,
    TRef.unary (TRef.of (T := ⟨S_, .i32⟩) main_call1_call0_v1) (TRef.of (T := Words) main_call1_call0_v170) (broadcastInDim S4x1024x1024 ![] bcast_S_S4x1024x1024) ]

/-- The last mixing additions. -/
def mix9Ops : List (HloOp τ sig (Elt F)) :=
  [ TRef.binary (TRef.of (T := Words) main_call1_call0_v163) (TRef.of (T := Words) main_call1_call0_v170) (TRef.of (T := Words) main_call1_v23_0) addi,
    TRef.unary (TRef.of (T := ⟨S_, .i32⟩) main_call1_v5) (TRef.of (T := Words) main_call1_call0_v172) (broadcastInDim S4x1024x1024 ![] bcast_S_S4x1024x1024),
    TRef.binary (TRef.of (T := Words) main_call1_call0_v169) (TRef.of (T := Words) main_call1_call0_v172) (TRef.of (T := Words) main_call1_call0_v173) addi,
    TRef.nullary (TRef.of (T := ⟨S_, .i32⟩) main_call1_call0_c_44) (constantI S_ 32 5#32),
    TRef.unary (TRef.of (T := ⟨S_, .i32⟩) main_call1_call0_c_44) (TRef.of (T := Words) main_call1_call0_v174) (broadcastInDim S4x1024x1024 ![] bcast_S_S4x1024x1024),
    TRef.binary (TRef.of (T := Words) main_call1_call0_v173) (TRef.of (T := Words) main_call1_call0_v174) (TRef.of (T := Words) main_call1_v23_1) addi ]

/-- The mixed words as numbers in [0, 1). -/
def unitOps : List (HloOp τ sig (Elt F)) :=
  [ TRef.binary (TRef.of (T := Words) main_call1_v23_0) (TRef.of (T := Words) main_call1_v23_1) (TRef.of (T := Words) main_call1_v24) xori,
    TRef.nullary (TRef.of (T := ⟨S_, .i32⟩) main_call1_c_3) (constantI S_ 32 9#32),
    TRef.unary (TRef.of (T := ⟨S_, .i32⟩) main_call1_c_3) (TRef.of (T := Words) main_call1_v25) (broadcastInDim S4x1024x1024 ![] bcast_S_S4x1024x1024),
    TRef.binary (TRef.of (T := Words) main_call1_v24) (TRef.of (T := Words) main_call1_v25) (TRef.of (T := Words) main_call1_v26) Host.shrui,
    TRef.nullary (TRef.of (T := ⟨S_, .i32⟩) main_call1_c_4) (constantI S_ 32 1065353216#32),
    TRef.unary (TRef.of (T := ⟨S_, .i32⟩) main_call1_c_4) (TRef.of (T := Words) main_call1_v27) (broadcastInDim S4x1024x1024 ![] bcast_S_S4x1024x1024),
    TRef.binary (TRef.of (T := Words) main_call1_v26) (TRef.of (T := Words) main_call1_v27) (TRef.of (T := Words) main_call1_v28) ori,
    TRef.unary (TRef.of (T := Words) main_call1_v28) (TRef.of (T := ⟨S4x1024x1024, .f32⟩) main_call1_v29) (bitcastToFloat .f32),
    TRef.nullary (TRef.of (T := ⟨S_, .f32⟩) main_call1_cst) (constant S_ .f32 0x3F800000#32),
    TRef.unary (TRef.of (T := ⟨S_, .f32⟩) main_call1_cst) (TRef.of (T := ⟨S4x1024x1024, .f32⟩) main_call1_v30) (broadcastInDim S4x1024x1024 ![] bcast_S_S4x1024x1024),
    TRef.binary (TRef.of (T := ⟨S4x1024x1024, .f32⟩) main_call1_v29) (TRef.of (T := ⟨S4x1024x1024, .f32⟩) main_call1_v30) (TRef.of (T := ⟨S4x1024x1024, .f32⟩) main_call1_v31) subf,
    TRef.binary (TRef.of (T := ⟨S1x1x1, .f32⟩) main_call1_v3) (TRef.of (T := ⟨S1x1x1, .f32⟩) main_call1_v2) (TRef.of (T := ⟨S1x1x1, .f32⟩) main_call1_v32) subf,
    TRef.unary (TRef.of (T := ⟨S1x1x1, .f32⟩) main_call1_v32) (TRef.of (T := ⟨S4x1024x1024, .f32⟩) main_call1_v33) (broadcastInDim S4x1024x1024 ![0, 1, 2] bcast_S1x1x1_S4x1024x1024_0_1_2),
    TRef.binary (TRef.of (T := ⟨S4x1024x1024, .f32⟩) main_call1_v31) (TRef.of (T := ⟨S4x1024x1024, .f32⟩) main_call1_v33) (TRef.of (T := ⟨S4x1024x1024, .f32⟩) main_call1_v34) mulf,
    TRef.unary (TRef.of (T := ⟨S1x1x1, .f32⟩) main_call1_v2) (TRef.of (T := ⟨S4x1024x1024, .f32⟩) main_call1_v35) (broadcastInDim S4x1024x1024 ![0, 1, 2] bcast_S1x1x1_S4x1024x1024_0_1_2),
    TRef.binary (TRef.of (T := ⟨S4x1024x1024, .f32⟩) main_call1_v34) (TRef.of (T := ⟨S4x1024x1024, .f32⟩) main_call1_v35) (TRef.of (T := ⟨S4x1024x1024, .f32⟩) main_call1_v36) addf,
    TRef.unary (TRef.of (T := ⟨S1x1x1, .f32⟩) main_call1_v2) (TRef.of (T := ⟨S4x1024x1024, .f32⟩) main_call1_v37) (broadcastInDim S4x1024x1024 ![0, 1, 2] bcast_S1x1x1_S4x1024x1024_0_1_2),
    TRef.binary (TRef.of (T := ⟨S4x1024x1024, .f32⟩) main_call1_v37) (TRef.of (T := ⟨S4x1024x1024, .f32⟩) main_call1_v36) (TRef.of (T := ⟨S4x1024x1024, .f32⟩) main_v25) maximumf ]

/-- The scores and the 32 largest of each row. -/
def scoreOps : List (HloOp τ sig (Elt F)) :=
  [ unary main_v17 main_v26 (uitofp .f32 : (⟨S4x1024x1024, .i1⟩ : BufTy).Contents (Elt F) → Nums.Contents (Elt F)),
    binary main_v26 main_v25 main_v27 (addf : Nums.Contents (Elt F) → Nums.Contents (Elt F) → Nums.Contents (Elt F)),
    unary main_v27 main_values ((fun x => (Host.topK S4x1024x32 2 (FloatOps.cmpfTotal .gt) x sliceFits_S4x1024x1024_S4x1024x32).1) : Nums.Contents (Elt F) → (⟨S4x1024x32, .f32⟩ : BufTy).Contents (Elt F)),
    unary main_v27 main_indices ((fun x => (Host.topK S4x1024x32 2 (FloatOps.cmpfTotal .gt) x sliceFits_S4x1024x1024_S4x1024x32).2) : Nums.Contents (Elt F) → (⟨S4x1024x32, .i32⟩ : BufTy).Contents (Elt F)),
    nullary main_cst_8 (constant S_ .f32 0x3F800000#32),
    unary main_cst_8 main_v28 (broadcastInDim S4x1024x32 ![] bcast_S_S4x1024x32 : (⟨S_, .f32⟩ : BufTy).Contents (Elt F) → (⟨S4x1024x32, .f32⟩ : BufTy).Contents (Elt F)),
    binary main_values main_v28 main_v29 (cmpf .ogt : (⟨S4x1024x32, .f32⟩ : BufTy).Contents (Elt F) → (⟨S4x1024x32, .f32⟩ : BufTy).Contents (Elt F) → (⟨S4x1024x32, .i1⟩ : BufTy).Contents (Elt F)) ]

/-- The batch and row numbers. -/
def gridOps : List (HloOp τ sig (Elt F)) :=
  [ nullary main_v30 (iotaInDim S4 32 0),
    unary main_v30 main_v31 (broadcastInDim S4x1x1 ![0] bcast_S4_S4x1x1_0 : (⟨S4, .i32⟩ : BufTy).Contents (Elt F) → (⟨S4x1x1, .i32⟩ : BufTy).Contents (Elt F)),
    nullary main_v32 (iotaInDim S1024 32 0),
    unary main_v32 main_v33 (broadcastInDim S1x1024x1 ![1] bcast_S1024_S1x1024x1_1 : (⟨S1024, .i32⟩ : BufTy).Contents (Elt F) → (⟨S1x1024x1, .i32⟩ : BufTy).Contents (Elt F)),
    nullary main_c_9 (constantI S_ 32 0#32),
    unary main_c_9 main_v34 (broadcastInDim S4x1x1 ![] bcast_S_S4x1x1 : (⟨S_, .i32⟩ : BufTy).Contents (Elt F) → (⟨S4x1x1, .i32⟩ : BufTy).Contents (Elt F)),
    binary main_v31 main_v34 main_v35 (cmpi .slt : (⟨S4x1x1, .i32⟩ : BufTy).Contents (Elt F) → (⟨S4x1x1, .i32⟩ : BufTy).Contents (Elt F) → (⟨S4x1x1, .i1⟩ : BufTy).Contents (Elt F)),
    nullary main_c_10 (constantI S_ 32 4#32),
    unary main_c_10 main_v36 (broadcastInDim S4x1x1 ![] bcast_S_S4x1x1 : (⟨S_, .i32⟩ : BufTy).Contents (Elt F) → (⟨S4x1x1, .i32⟩ : BufTy).Contents (Elt F)),
    binary main_v31 main_v36 main_v37 (addi : (⟨S4x1x1, .i32⟩ : BufTy).Contents (Elt F) → (⟨S4x1x1, .i32⟩ : BufTy).Contents (Elt F) → (⟨S4x1x1, .i32⟩ : BufTy).Contents (Elt F)),
    ternary main_v35 main_v37 main_v31 main_v38 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_11 (constantI S_ 32 0#32),
    unary main_c_11 main_v39 (broadcastInDim S1x1024x1 ![] bcast_S_S1x1024x1 : (⟨S_, .i32⟩ : BufTy).Contents (Elt F) → (⟨S1x1024x1, .i32⟩ : BufTy).Contents (Elt F)),
    binary main_v33 main_v39 main_v40 (cmpi .slt : (⟨S1x1024x1, .i32⟩ : BufTy).Contents (Elt F) → (⟨S1x1024x1, .i32⟩ : BufTy).Contents (Elt F) → (⟨S1x1024x1, .i1⟩ : BufTy).Contents (Elt F)),
    nullary main_c_12 (constantI S_ 32 1024#32),
    unary main_c_12 main_v41 (broadcastInDim S1x1024x1 ![] bcast_S_S1x1024x1 : (⟨S_, .i32⟩ : BufTy).Contents (Elt F) → (⟨S1x1024x1, .i32⟩ : BufTy).Contents (Elt F)),
    binary main_v33 main_v41 main_v42 (addi : (⟨S1x1024x1, .i32⟩ : BufTy).Contents (Elt F) → (⟨S1x1024x1, .i32⟩ : BufTy).Contents (Elt F) → (⟨S1x1024x1, .i32⟩ : BufTy).Contents (Elt F)) ]

/-- The coordinates of the chosen points. -/
def pickPairsOps : List (HloOp τ sig (Elt F)) :=
  [ ternary main_v40 main_v42 main_v33 main_v43 (select : (⟨S1x1024x1, .i1⟩ : BufTy).Contents (Elt F) → (⟨S1x1024x1, .i32⟩ : BufTy).Contents (Elt F) → (⟨S1x1024x1, .i32⟩ : BufTy).Contents (Elt F) → (⟨S1x1024x1, .i32⟩ : BufTy).Contents (Elt F)),
    nullary main_c_13 (constantI S_ 32 0#32),
    unary main_c_13 main_v44 (broadcastInDim S4x1024x32 ![] bcast_S_S4x1024x32 : (⟨S_, .i32⟩ : BufTy).Contents (Elt F) → (⟨S4x1024x32, .i32⟩ : BufTy).Contents (Elt F)),
    binary main_indices main_v44 main_v45 (cmpi .slt : (⟨S4x1024x32, .i32⟩ : BufTy).Contents (Elt F) → (⟨S4x1024x32, .i32⟩ : BufTy).Contents (Elt F) → (⟨S4x1024x32, .i1⟩ : BufTy).Contents (Elt F)),
    nullary main_c_14 (constantI S_ 32 1024#32),
    unary main_c_14 main_v46 (broadcastInDim S4x1024x32 ![] bcast_S_S4x1024x32 : (⟨S_, .i32⟩ : BufTy).Contents (Elt F) → (⟨S4x1024x32, .i32⟩ : BufTy).Contents (Elt F)),
    binary main_indices main_v46 main_v47 (addi : (⟨S4x1024x32, .i32⟩ : BufTy).Contents (Elt F) → (⟨S4x1024x32, .i32⟩ : BufTy).Contents (Elt F) → (⟨S4x1024x32, .i32⟩ : BufTy).Contents (Elt F)),
    ternary main_v45 main_v47 main_indices main_v48 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F)),
    unary main_v38 main_v49 (broadcastInDim S4x1024x32 ![0, 1, 2] bcast_S4x1x1_S4x1024x32_0_1_2 : (⟨S4x1x1, .i32⟩ : BufTy).Contents (Elt F) → (⟨S4x1024x32, .i32⟩ : BufTy).Contents (Elt F)),
    unary main_v43 main_v50 (broadcastInDim S4x1024x32 ![0, 1, 2] bcast_S1x1024x1_S4x1024x32_0_1_2 : (⟨S1x1024x1, .i32⟩ : BufTy).Contents (Elt F) → (⟨S4x1024x32, .i32⟩ : BufTy).Contents (Elt F)),
    unary main_v49 main_v51 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    unary main_v50 main_v52 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    unary main_v48 main_v53 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    nary ![main_v51, main_v52, main_v53] main_v54 (fun u => (concatenate S4x1024x32x3 3 [⟨S4x1024x32x1, (u 0 : (⟨S4x1024x32x1, .i32⟩ : BufTy).Contents (Elt F))⟩, ⟨S4x1024x32x1, (u 1 : (⟨S4x1024x32x1, .i32⟩ : BufTy).Contents (Elt F))⟩, ⟨S4x1024x32x1, (u 2 : (⟨S4x1024x32x1, .i32⟩ : BufTy).Contents (Elt F))⟩] concatenates_S4x1024x32x1_S4x1024x32x1_S4x1024x32x1_S4x1024x32x3_d3 : (⟨S4x1024x32x3, .i32⟩ : BufTy).Contents (Elt F))),
    binary main_arg0 main_v54 main_v55 ((fun x i => Host.gather gather_S4x1024x1024x3_S4x1024x32x3_S4x1024x32x3_3_012_n_n_012_3_1113 x i) : (⟨S4x1024x1024x3, .f32⟩ : BufTy).Contents (Elt F) → (⟨S4x1024x32x3, .i32⟩ : BufTy).Contents (Elt F) → (⟨S4x1024x32x3, .f32⟩ : BufTy).Contents (Elt F)) ]

/-- Their features. -/
def pickValsOps : List (HloOp τ sig (Elt F)) :=
  [ nullary main_c_15 (constantI S_ 32 0#32),
    unary main_c_15 main_v56 (broadcastInDim S4x1x1 ![] bcast_S_S4x1x1 : (⟨S_, .i32⟩ : BufTy).Contents (Elt F) → (⟨S4x1x1, .i32⟩ : BufTy).Contents (Elt F)),
    binary main_v31 main_v56 main_v57 (cmpi .slt : (⟨S4x1x1, .i32⟩ : BufTy).Contents (Elt F) → (⟨S4x1x1, .i32⟩ : BufTy).Contents (Elt F) → (⟨S4x1x1, .i1⟩ : BufTy).Contents (Elt F)),
    nullary main_c_16 (constantI S_ 32 4#32),
    unary main_c_16 main_v58 (broadcastInDim S4x1x1 ![] bcast_S_S4x1x1 : (⟨S_, .i32⟩ : BufTy).Contents (Elt F) → (⟨S4x1x1, .i32⟩ : BufTy).Contents (Elt F)),
    binary main_v31 main_v58 main_v59 (addi : (⟨S4x1x1, .i32⟩ : BufTy).Contents (Elt F) → (⟨S4x1x1, .i32⟩ : BufTy).Contents (Elt F) → (⟨S4x1x1, .i32⟩ : BufTy).Contents (Elt F)),
    ternary main_v57 main_v59 main_v31 main_v60 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_17 (constantI S_ 32 0#32),
    unary main_c_17 main_v61 (broadcastInDim S4x1024x32 ![] bcast_S_S4x1024x32 : (⟨S_, .i32⟩ : BufTy).Contents (Elt F) → (⟨S4x1024x32, .i32⟩ : BufTy).Contents (Elt F)),
    binary main_indices main_v61 main_v62 (cmpi .slt : (⟨S4x1024x32, .i32⟩ : BufTy).Contents (Elt F) → (⟨S4x1024x32, .i32⟩ : BufTy).Contents (Elt F) → (⟨S4x1024x32, .i1⟩ : BufTy).Contents (Elt F)),
    nullary main_c_18 (constantI S_ 32 1024#32),
    unary main_c_18 main_v63 (broadcastInDim S4x1024x32 ![] bcast_S_S4x1024x32 : (⟨S_, .i32⟩ : BufTy).Contents (Elt F) → (⟨S4x1024x32, .i32⟩ : BufTy).Contents (Elt F)),
    binary main_indices main_v63 main_v64 (addi : (⟨S4x1024x32, .i32⟩ : BufTy).Contents (Elt F) → (⟨S4x1024x32, .i32⟩ : BufTy).Contents (Elt F) → (⟨S4x1024x32, .i32⟩ : BufTy).Contents (Elt F)),
    ternary main_v62 main_v64 main_indices main_v65 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F)),
    unary main_v60 main_v66 (broadcastInDim S4x1024x32 ![0, 1, 2] bcast_S4x1x1_S4x1024x32_0_1_2 : (⟨S4x1x1, .i32⟩ : BufTy).Contents (Elt F) → (⟨S4x1024x32, .i32⟩ : BufTy).Contents (Elt F)),
    unary main_v66 main_v67 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    unary main_v65 main_v68 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    binary main_v67 main_v68 main_v69 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F)),
    binary main_arg1 main_v69 main_v70 ((fun x i => Host.gather gather_S4x1024x64_S4x1024x32x2_S4x1024x32x64_3_01_n_n_01_3_1164 x i) : (⟨S4x1024x64, .f32⟩ : BufTy).Contents (Elt F) → (⟨S4x1024x32x2, .i32⟩ : BufTy).Contents (Elt F) → (⟨S4x1024x32x64, .f32⟩ : BufTy).Contents (Elt F)) ]

/-- Which of the chosen points count. -/
def pickMaskOps : List (HloOp τ sig (Elt F)) :=
  [ nullary main_c_19 (constantI S_ 32 0#32),
    unary main_c_19 main_v71 (broadcastInDim S4x1x1 ![] bcast_S_S4x1x1 : (⟨S_, .i32⟩ : BufTy).Contents (Elt F) → (⟨S4x1x1, .i32⟩ : BufTy).Contents (Elt F)),
    binary main_v31 main_v71 main_v72 (cmpi .slt : (⟨S4x1x1, .i32⟩ : BufTy).Contents (Elt F) → (⟨S4x1x1, .i32⟩ : BufTy).Contents (Elt F) → (⟨S4x1x1, .i1⟩ : BufTy).Contents (Elt F)),
    nullary main_c_20 (constantI S_ 32 4#32),
    unary main_c_20 main_v73 (broadcastInDim S4x1x1 ![] bcast_S_S4x1x1 : (⟨S_, .i32⟩ : BufTy).Contents (Elt F) → (⟨S4x1x1, .i32⟩ : BufTy).Contents (Elt F)),
    binary main_v31 main_v73 main_v74 (addi : (⟨S4x1x1, .i32⟩ : BufTy).Contents (Elt F) → (⟨S4x1x1, .i32⟩ : BufTy).Contents (Elt F) → (⟨S4x1x1, .i32⟩ : BufTy).Contents (Elt F)),
    ternary main_v72 main_v74 main_v31 main_v75 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_21 (constantI S_ 32 0#32),
    unary main_c_21 main_v76 (broadcastInDim S4x1024x32 ![] bcast_S_S4x1024x32 : (⟨S_, .i32⟩ : BufTy).Contents (Elt F) → (⟨S4x1024x32, .i32⟩ : BufTy).Contents (Elt F)),
    binary main_indices main_v76 main_v77 (cmpi .slt : (⟨S4x1024x32, .i32⟩ : BufTy).Contents (Elt F) → (⟨S4x1024x32, .i32⟩ : BufTy).Contents (Elt F) → (⟨S4x1024x32, .i1⟩ : BufTy).Contents (Elt F)),
    nullary main_c_22 (constantI S_ 32 1024#32),
    unary main_c_22 main_v78 (broadcastInDim S4x1024x32 ![] bcast_S_S4x1024x32 : (⟨S_, .i32⟩ : BufTy).Contents (Elt F) → (⟨S4x1024x32, .i32⟩ : BufTy).Contents (Elt F)),
    binary main_indices main_v78 main_v79 (addi : (⟨S4x1024x32, .i32⟩ : BufTy).Contents (Elt F) → (⟨S4x1024x32, .i32⟩ : BufTy).Contents (Elt F) → (⟨S4x1024x32, .i32⟩ : BufTy).Contents (Elt F)),
    ternary main_v77 main_v79 main_indices main_v80 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F)),
    unary main_v75 main_v81 (broadcastInDim S4x1024x32 ![0, 1, 2] bcast_S4x1x1_S4x1024x32_0_1_2 : (⟨S4x1x1, .i32⟩ : BufTy).Contents (Elt F) → (⟨S4x1024x32, .i32⟩ : BufTy).Contents (Elt F)),
    unary main_v81 main_v82 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    unary main_v80 main_v83 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F)),
    binary main_v82 main_v83 main_v84 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F)),
    binary main_arg2 main_v84 main_v85 ((fun x i => Host.gather gather_S4x1024_S4x1024x32x2_S4x1024x32_n_01_n_n_01_3_11 x i) : (⟨S4x1024, .i1⟩ : BufTy).Contents (Elt F) → (⟨S4x1024x32x2, .i32⟩ : BufTy).Contents (Elt F) → (⟨S4x1024x32, .i1⟩ : BufTy).Contents (Elt F)),
    binary main_v85 main_v29 main_v86 (andi : (⟨S4x1024x32, .i1⟩ : BufTy).Contents (Elt F) → (⟨S4x1024x32, .i1⟩ : BufTy).Contents (Elt F) → (⟨S4x1024x32, .i1⟩ : BufTy).Contents (Elt F)) ]

/-- First layer, up to the exponential. -/
def layerOneOps : List (HloOp τ sig (Elt F)) :=
  [ binary main_v55 main_arg3 main_v87 ((fun l r => Host.dotGeneral dot_S4x1024x32x3_S3x32_S4x1024x32x32_3_0_012_1_n_n none l r) : (⟨S4x1024x32x3, .f32⟩ : BufTy).Contents (Elt F) → (⟨S3x32, .f32⟩ : BufTy).Contents (Elt F) → (⟨S4x1024x32x32, .f32⟩ : BufTy).Contents (Elt F)),
    unary main_arg4 main_v88 (broadcastInDim S1x1x1x32 ![3] bcast_S32_S1x1x1x32_3 : (⟨S32, .f32⟩ : BufTy).Contents (Elt F) → (⟨S1x1x1x32, .f32⟩ : BufTy).Contents (Elt F)),
    unary main_v88 main_v89 (broadcastInDim S4x1024x32x32 ![0, 1, 2, 3] bcast_S1x1x1x32_S4x1024x32x32_0_1_2_3 : (⟨S1x1x1x32, .f32⟩ : BufTy).Contents (Elt F) → (⟨S4x1024x32x32, .f32⟩ : BufTy).Contents (Elt F)),
    binary main_v87 main_v89 main_v90 (addf : (⟨S4x1024x32x32, .f32⟩ : BufTy).Contents (Elt F) → (⟨S4x1024x32x32, .f32⟩ : BufTy).Contents (Elt F) → (⟨S4x1024x32x32, .f32⟩ : BufTy).Contents (Elt F)),
    unary main_v90 main_v91 (Host.negf : (⟨S4x1024x32x32, .f32⟩ : BufTy).Contents (Elt F) → (⟨S4x1024x32x32, .f32⟩ : BufTy).Contents (Elt F)),
    unary main_v91 main_v92 (Host.exp : (⟨S4x1024x32x32, .f32⟩ : BufTy).Contents (Elt F) → (⟨S4x1024x32x32, .f32⟩ : BufTy).Contents (Elt F)) ]

/-- First layer, its activation. -/
def swishOneOps : List (HloOp τ sig (Elt F)) :=
  [ nullary main_cst_23 (constant S_ .f32 0x3F800000#32),
    unary main_cst_23 main_v93 (broadcastInDim S4x1024x32x32 ![] bcast_S_S4x1024x32x32 : (⟨S_, .f32⟩ : BufTy).Contents (Elt F) → (⟨S4x1024x32x32, .f32⟩ : BufTy).Contents (Elt F)),
    binary main_v93 main_v92 main_v94 (addf : (⟨S4x1024x32x32, .f32⟩ : BufTy).Contents (Elt F) → (⟨S4x1024x32x32, .f32⟩ : BufTy).Contents (Elt F) → (⟨S4x1024x32x32, .f32⟩ : BufTy).Contents (Elt F)),
    nullary main_cst_24 (constant S_ .f32 0x3F800000#32),
    unary main_cst_24 main_v95 (broadcastInDim S4x1024x32x32 ![] bcast_S_S4x1024x32x32 : (⟨S_, .f32⟩ : BufTy).Contents (Elt F) → (⟨S4x1024x32x32, .f32⟩ : BufTy).Contents (Elt F)),
    binary main_v95 main_v94 main_v96 (Host.divf : (⟨S4x1024x32x32, .f32⟩ : BufTy).Contents (Elt F) → (⟨S4x1024x32x32, .f32⟩ : BufTy).Contents (Elt F) → (⟨S4x1024x32x32, .f32⟩ : BufTy).Contents (Elt F)),
    binary main_v90 main_v96 main_v97 (mulf : (⟨S4x1024x32x32, .f32⟩ : BufTy).Contents (Elt F) → (⟨S4x1024x32x32, .f32⟩ : BufTy).Contents (Elt F) → (⟨S4x1024x32x32, .f32⟩ : BufTy).Contents (Elt F)) ]

/-- Second layer. -/
def layerTwoOps : List (HloOp τ sig (Elt F)) :=
  [ binary main_v97 main_arg5 main_v98 ((fun l r => Host.dotGeneral dot_S4x1024x32x32_S32x32_S4x1024x32x32_3_0_012_1_n_n none l r) : (⟨S4x1024x32x32, .f32⟩ : BufTy).Contents (Elt F) → (⟨S32x32, .f32⟩ : BufTy).Contents (Elt F) → (⟨S4x1024x32x32, .f32⟩ : BufTy).Contents (Elt F)),
    unary main_arg6 main_v99 (broadcastInDim S1x1x1x32 ![3] bcast_S32_S1x1x1x32_3 : (⟨S32, .f32⟩ : BufTy).Contents (Elt F) → (⟨S1x1x1x32, .f32⟩ : BufTy).Contents (Elt F)),
    unary main_v99 main_v100 (broadcastInDim S4x1024x32x32 ![0, 1, 2, 3] bcast_S1x1x1x32_S4x1024x32x32_0_1_2_3 : (⟨S1x1x1x32, .f32⟩ : BufTy).Contents (Elt F) → (⟨S4x1024x32x32, .f32⟩ : BufTy).Contents (Elt F)),
    binary main_v98 main_v100 main_v101 (addf : (⟨S4x1024x32x32, .f32⟩ : BufTy).Contents (Elt F) → (⟨S4x1024x32x32, .f32⟩ : BufTy).Contents (Elt F) → (⟨S4x1024x32x32, .f32⟩ : BufTy).Contents (Elt F)),
    unary main_v101 main_v102 (Host.negf : (⟨S4x1024x32x32, .f32⟩ : BufTy).Contents (Elt F) → (⟨S4x1024x32x32, .f32⟩ : BufTy).Contents (Elt F)),
    unary main_v102 main_v103 (Host.exp : (⟨S4x1024x32x32, .f32⟩ : BufTy).Contents (Elt F) → (⟨S4x1024x32x32, .f32⟩ : BufTy).Contents (Elt F)),
    nullary main_cst_25 (constant S_ .f32 0x3F800000#32),
    unary main_cst_25 main_v104 (broadcastInDim S4x1024x32x32 ![] bcast_S_S4x1024x32x32 : (⟨S_, .f32⟩ : BufTy).Contents (Elt F) → (⟨S4x1024x32x32, .f32⟩ : BufTy).Contents (Elt F)),
    binary main_v104 main_v103 main_v105 (addf : (⟨S4x1024x32x32, .f32⟩ : BufTy).Contents (Elt F) → (⟨S4x1024x32x32, .f32⟩ : BufTy).Contents (Elt F) → (⟨S4x1024x32x32, .f32⟩ : BufTy).Contents (Elt F)),
    nullary main_cst_26 (constant S_ .f32 0x3F800000#32),
    unary main_cst_26 main_v106 (broadcastInDim S4x1024x32x32 ![] bcast_S_S4x1024x32x32 : (⟨S_, .f32⟩ : BufTy).Contents (Elt F) → (⟨S4x1024x32x32, .f32⟩ : BufTy).Contents (Elt F)),
    binary main_v106 main_v105 main_v107 (Host.divf : (⟨S4x1024x32x32, .f32⟩ : BufTy).Contents (Elt F) → (⟨S4x1024x32x32, .f32⟩ : BufTy).Contents (Elt F) → (⟨S4x1024x32x32, .f32⟩ : BufTy).Contents (Elt F)),
    binary main_v101 main_v107 main_v108 (mulf : (⟨S4x1024x32x32, .f32⟩ : BufTy).Contents (Elt F) → (⟨S4x1024x32x32, .f32⟩ : BufTy).Contents (Elt F) → (⟨S4x1024x32x32, .f32⟩ : BufTy).Contents (Elt F)) ]

/-- Third layer. -/
def layerThreeOps : List (HloOp τ sig (Elt F)) :=
  [ binary main_v108 main_arg7 main_v109 ((fun l r => Host.dotGeneral dot_S4x1024x32x32_S32x16_S4x1024x32x16_3_0_012_1_n_n none l r) : (⟨S4x1024x32x32, .f32⟩ : BufTy).Contents (Elt F) → (⟨S32x16, .f32⟩ : BufTy).Contents (Elt F) → (⟨S4x1024x32x16, .f32⟩ : BufTy).Contents (Elt F)),
    unary main_arg8 main_v110 (broadcastInDim S1x1x1x16 ![3] bcast_S16_S1x1x1x16_3 : (⟨S16, .f32⟩ : BufTy).Contents (Elt F) → (⟨S1x1x1x16, .f32⟩ : BufTy).Contents (Elt F)),
    unary main_v110 main_v111 (broadcastInDim S4x1024x32x16 ![0, 1, 2, 3] bcast_S1x1x1x16_S4x1024x32x16_0_1_2_3 : (⟨S1x1x1x16, .f32⟩ : BufTy).Contents (Elt F) → (⟨S4x1024x32x16, .f32⟩ : BufTy).Contents (Elt F)),
    binary main_v109 main_v111 main_v112 (addf : (⟨S4x1024x32x16, .f32⟩ : BufTy).Contents (Elt F) → (⟨S4x1024x32x16, .f32⟩ : BufTy).Contents (Elt F) → (⟨S4x1024x32x16, .f32⟩ : BufTy).Contents (Elt F)),
    unary main_v112 main_v113 (Host.negf : (⟨S4x1024x32x16, .f32⟩ : BufTy).Contents (Elt F) → (⟨S4x1024x32x16, .f32⟩ : BufTy).Contents (Elt F)),
    unary main_v113 main_v114 (Host.exp : (⟨S4x1024x32x16, .f32⟩ : BufTy).Contents (Elt F) → (⟨S4x1024x32x16, .f32⟩ : BufTy).Contents (Elt F)),
    nullary main_cst_27 (constant S_ .f32 0x3F800000#32),
    unary main_cst_27 main_v115 (broadcastInDim S4x1024x32x16 ![] bcast_S_S4x1024x32x16 : (⟨S_, .f32⟩ : BufTy).Contents (Elt F) → (⟨S4x1024x32x16, .f32⟩ : BufTy).Contents (Elt F)),
    binary main_v115 main_v114 main_v116 (addf : (⟨S4x1024x32x16, .f32⟩ : BufTy).Contents (Elt F) → (⟨S4x1024x32x16, .f32⟩ : BufTy).Contents (Elt F) → (⟨S4x1024x32x16, .f32⟩ : BufTy).Contents (Elt F)),
    nullary main_cst_28 (constant S_ .f32 0x3F800000#32),
    unary main_cst_28 main_v117 (broadcastInDim S4x1024x32x16 ![] bcast_S_S4x1024x32x16 : (⟨S_, .f32⟩ : BufTy).Contents (Elt F) → (⟨S4x1024x32x16, .f32⟩ : BufTy).Contents (Elt F)),
    binary main_v117 main_v116 main_v118 (Host.divf : (⟨S4x1024x32x16, .f32⟩ : BufTy).Contents (Elt F) → (⟨S4x1024x32x16, .f32⟩ : BufTy).Contents (Elt F) → (⟨S4x1024x32x16, .f32⟩ : BufTy).Contents (Elt F)),
    binary main_v112 main_v118 main_v119 (mulf : (⟨S4x1024x32x16, .f32⟩ : BufTy).Contents (Elt F) → (⟨S4x1024x32x16, .f32⟩ : BufTy).Contents (Elt F) → (⟨S4x1024x32x16, .f32⟩ : BufTy).Contents (Elt F)) ]

/-- Weights and features of the points that count, the others 0. -/
def maskOps : List (HloOp τ sig (Elt F)) :=
  [ unary main_v86 main_v120 (broadcastInDim S4x1024x32x1 ![0, 1, 2] bcast_S4x1024x32_S4x1024x32x1_0_1_2 : (⟨S4x1024x32, .i1⟩ : BufTy).Contents (Elt F) → (⟨S4x1024x32x1, .i1⟩ : BufTy).Contents (Elt F)),
    nullary main_cst_29 (constant S_ .f32 0x00000000#32),
    unary main_cst_29 main_v121 (broadcastInDim S4x1024x32x16 ![] bcast_S_S4x1024x32x16 : (⟨S_, .f32⟩ : BufTy).Contents (Elt F) → (⟨S4x1024x32x16, .f32⟩ : BufTy).Contents (Elt F)),
    TRef.unary (TRef.of (T := ⟨S4x1024x32x1, .i1⟩) main_v120) (TRef.of (T := ⟨S4x1024x32x16, .i1⟩) main_call2_v0) (broadcastInDim S4x1024x32x16 ![0, 1, 2, 3] bcast_S4x1024x32x1_S4x1024x32x16_0_1_2_3),
    TRef.ternary (TRef.of (T := ⟨S4x1024x32x16, .i1⟩) main_call2_v0) (TRef.of (T := ⟨S4x1024x32x16, .f32⟩) main_v119) (TRef.of (T := ⟨S4x1024x32x16, .f32⟩) main_v121) (TRef.of (T := ⟨S4x1024x32x16, .f32⟩) main_v122) select,
    unary main_v86 main_v123 (broadcastInDim S4x1024x32x1 ![0, 1, 2] bcast_S4x1024x32_S4x1024x32x1_0_1_2 : (⟨S4x1024x32, .i1⟩ : BufTy).Contents (Elt F) → (⟨S4x1024x32x1, .i1⟩ : BufTy).Contents (Elt F)),
    nullary main_cst_30 (constant S_ .f32 0x00000000#32),
    unary main_cst_30 main_v124 (broadcastInDim S4x1024x32x64 ![] bcast_S_S4x1024x32x64 : (⟨S_, .f32⟩ : BufTy).Contents (Elt F) → (⟨S4x1024x32x64, .f32⟩ : BufTy).Contents (Elt F)),
    TRef.unary (TRef.of (T := ⟨S4x1024x32x1, .i1⟩) main_v123) (TRef.of (T := ⟨S4x1024x32x64, .i1⟩) main_call3_v0) (broadcastInDim S4x1024x32x64 ![0, 1, 2, 3] bcast_S4x1024x32x1_S4x1024x32x64_0_1_2_3),
    TRef.ternary (TRef.of (T := ⟨S4x1024x32x64, .i1⟩) main_call3_v0) (TRef.of (T := ⟨S4x1024x32x64, .f32⟩) main_v70) (TRef.of (T := ⟨S4x1024x32x64, .f32⟩) main_v124) (TRef.of (T := ⟨S4x1024x32x64, .f32⟩) main_v125) select ]

/-- The weighted sums, the last layer and the mask of the rows. -/
def outOps : List (HloOp τ sig (Elt F)) :=
  [ binary main_v125 main_v122 main_v126 ((fun l r => Host.dotGeneral dot_S4x1024x32x64_S4x1024x32x16_S4x1024x64x16_2_2_3_3_01_01 none l r) : (⟨S4x1024x32x64, .f32⟩ : BufTy).Contents (Elt F) → (⟨S4x1024x32x16, .f32⟩ : BufTy).Contents (Elt F) → (⟨S4x1024x64x16, .f32⟩ : BufTy).Contents (Elt F)),
    reshape main_v126 main_v127 (rfl : (.f32 : EltTy) = .f32) shapeCasts_S4x1024x64x16_S4x1024x1024,
    binary main_v127 main_arg9 main_v128 ((fun l r => Host.dotGeneral dot_S4x1024x1024_S1024x64_S4x1024x64_2_0_01_1_n_n none l r) : Nums.Contents (Elt F) → (⟨S1024x64, .f32⟩ : BufTy).Contents (Elt F) → (⟨S4x1024x64, .f32⟩ : BufTy).Contents (Elt F)),
    unary main_arg10 main_v129 (broadcastInDim S1x1x64 ![2] bcast_S64_S1x1x64_2 : (⟨S64, .f32⟩ : BufTy).Contents (Elt F) → (⟨S1x1x64, .f32⟩ : BufTy).Contents (Elt F)),
    unary main_v129 main_v130 (broadcastInDim S4x1024x64 ![0, 1, 2] bcast_S1x1x64_S4x1024x64_0_1_2 : (⟨S1x1x64, .f32⟩ : BufTy).Contents (Elt F) → (⟨S4x1024x64, .f32⟩ : BufTy).Contents (Elt F)),
    binary main_v128 main_v130 main_v131 (addf : (⟨S4x1024x64, .f32⟩ : BufTy).Contents (Elt F) → (⟨S4x1024x64, .f32⟩ : BufTy).Contents (Elt F) → (⟨S4x1024x64, .f32⟩ : BufTy).Contents (Elt F)),
    unary main_arg2 main_v132 (broadcastInDim S4x1024x1 ![0, 1] bcast_S4x1024_S4x1024x1_0_1 : (⟨S4x1024, .i1⟩ : BufTy).Contents (Elt F) → (⟨S4x1024x1, .i1⟩ : BufTy).Contents (Elt F)),
    nullary main_cst_31 (constant S_ .f32 0x00000000#32),
    unary main_cst_31 main_v133 (broadcastInDim S4x1024x64 ![] bcast_S_S4x1024x64 : (⟨S_, .f32⟩ : BufTy).Contents (Elt F) → (⟨S4x1024x64, .f32⟩ : BufTy).Contents (Elt F)),
    TRef.unary (TRef.of (T := ⟨S4x1024x1, .i1⟩) main_v132) (TRef.of (T := ⟨S4x1024x64, .i1⟩) main_call4_v0) (broadcastInDim S4x1024x64 ![0, 1, 2] bcast_S4x1024x1_S4x1024x64_0_1_2),
    TRef.ternary (TRef.of (T := ⟨S4x1024x64, .i1⟩) main_call4_v0) (TRef.of (T := ⟨S4x1024x64, .f32⟩) main_v131) (TRef.of (T := ⟨S4x1024x64, .f32⟩) main_v133) (TRef.of (T := ⟨S4x1024x64, .f32⟩) main_v134) select ]

/-- The operations of the program's part 0. -/
def part0 : List (HloOp τ sig (Elt F)) :=
  nearOps ++ (keyOps ++ (drawOps ++ (laneOps ++ (mix0Ops ++ (mix1Ops ++ (mix2Ops ++ (mix3Ops ++ (mix4Ops ++ (mix5Ops ++ (mix6Ops ++ (mix7Ops ++ (mix8Ops ++ (mix9Ops ++ (unitOps ++ (scoreOps ++ (gridOps))))))))))))))))

/-- The operations of the program's part 1. -/
def part1 : List (HloOp τ sig (Elt F)) :=
  pickPairsOps ++ (pickValsOps ++ (pickMaskOps ++ (layerOneOps)))

/-- The operations of the program's part 2. -/
def part2 : List (HloOp τ sig (Elt F)) :=
  swishOneOps ++ (layerTwoOps ++ (layerThreeOps ++ (maskOps ++ (outOps))))

/-- All of them. -/
def ops : List (HloOp τ sig (Elt F)) := part0 ++ (part1 ++ part2)

set_option maxRecDepth 8192 in
set_option maxHeartbeats 4000000 in
theorem main_part0_eq (c : Dev nD) : main_part0 (F := F) c = seq part0 := rfl

set_option maxRecDepth 8192 in
set_option maxHeartbeats 4000000 in
theorem main_part1_eq (c : Dev nD) : main_part1 (F := F) c = seq part1 := rfl

set_option maxRecDepth 8192 in
set_option maxHeartbeats 4000000 in
theorem main_part2_eq (c : Dev nD) : main_part2 (F := F) c = seq part2 := rfl

theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- A stretch that touches the device's own buffers only and makes none. -/
def Plain (l : List (HloOp τ sig (Elt F))) : Prop := (l.Forall fun op => op.bufs ⊆ tcRefs τ sig) ∧ l.Forall fun op => op.fresh = ∅

theorem Plain.append {l l' : List (HloOp τ sig (Elt F))} (h : Plain l) (h' : Plain l') : Plain (l ++ l') :=
  ⟨List.forall_append.mpr ⟨h.1, h'.1⟩, List.forall_append.mpr ⟨h.2, h'.2⟩⟩

set_option maxRecDepth 8192 in
theorem nearOps_plain : Plain (nearOps : List (HloOp τ sig (Elt F))) :=
  ⟨⟨binary_bufs_sub .., nullary_bufs_sub .., binary_bufs_sub .., nullary_bufs_sub .., unary_bufs_sub .., binary_bufs_sub .., unary_bufs_sub .., unary_bufs_sub .., nullary_bufs_sub .., unary_bufs_sub .., nullary_bufs_sub .., unary_bufs_sub .., binary_bufs_sub .., unary_bufs_sub .., ternary_bufs_sub .., nullary_bufs_sub .., unary_bufs_sub .., binary_bufs_sub .., unary_bufs_sub .., unary_bufs_sub .., binary_bufs_sub .., unary_bufs_sub .., unary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem keyOps_plain : Plain (keyOps : List (HloOp τ sig (Elt F))) :=
  ⟨⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩,
    ⟨rfl, rfl, rfl, rfl, rfl, rfl, rfl, rfl, rfl, rfl, rfl, rfl⟩⟩

set_option maxRecDepth 8192 in
theorem drawOps_plain : Plain (drawOps : List (HloOp τ sig (Elt F))) :=
  ⟨⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem laneOps_plain : Plain (laneOps : List (HloOp τ sig (Elt F))) :=
  ⟨⟨binary_bufs_sub .., unary_bufs_sub .., unary_bufs_sub ..⟩,
    ⟨rfl, rfl, rfl⟩⟩

set_option maxRecDepth 8192 in
theorem mix0Ops_plain : Plain (mix0Ops : List (HloOp τ sig (Elt F))) :=
  ⟨⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix1Ops_plain : Plain (mix1Ops : List (HloOp τ sig (Elt F))) :=
  ⟨⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix2Ops_plain : Plain (mix2Ops : List (HloOp τ sig (Elt F))) :=
  ⟨⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix3Ops_plain : Plain (mix3Ops : List (HloOp τ sig (Elt F))) :=
  ⟨⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix4Ops_plain : Plain (mix4Ops : List (HloOp τ sig (Elt F))) :=
  ⟨⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix5Ops_plain : Plain (mix5Ops : List (HloOp τ sig (Elt F))) :=
  ⟨⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix6Ops_plain : Plain (mix6Ops : List (HloOp τ sig (Elt F))) :=
  ⟨⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix7Ops_plain : Plain (mix7Ops : List (HloOp τ sig (Elt F))) :=
  ⟨⟨unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix8Ops_plain : Plain (mix8Ops : List (HloOp τ sig (Elt F))) :=
  ⟨⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩,
    ⟨rfl, rfl, rfl, rfl, rfl, rfl, rfl, rfl, rfl, rfl, rfl, rfl, rfl, rfl, rfl, rfl, rfl, rfl, rfl, rfl, rfl, rfl, rfl, rfl⟩⟩

set_option maxRecDepth 8192 in
theorem mix9Ops_plain : Plain (mix9Ops : List (HloOp τ sig (Elt F))) :=
  ⟨⟨binary_bufs_sub .., unary_bufs_sub .., binary_bufs_sub .., nullary_bufs_sub .., unary_bufs_sub .., binary_bufs_sub ..⟩,
    ⟨rfl, rfl, rfl, rfl, rfl, rfl⟩⟩

set_option maxRecDepth 8192 in
theorem unitOps_plain : Plain (unitOps : List (HloOp τ sig (Elt F))) :=
  ⟨⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩,
    ⟨rfl, rfl, rfl, rfl, rfl, rfl, rfl, rfl, rfl, rfl, rfl, rfl, rfl, rfl, rfl, rfl, rfl, rfl⟩⟩

set_option maxRecDepth 8192 in
theorem scoreOps_plain : Plain (scoreOps : List (HloOp τ sig (Elt F))) :=
  ⟨⟨unary_bufs_sub .., binary_bufs_sub .., unary_bufs_sub .., unary_bufs_sub .., nullary_bufs_sub .., unary_bufs_sub .., binary_bufs_sub ..⟩,
    ⟨rfl, rfl, rfl, rfl, rfl, rfl, rfl⟩⟩

set_option maxRecDepth 8192 in
theorem gridOps_plain : Plain (gridOps : List (HloOp τ sig (Elt F))) :=
  ⟨⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩,
    ⟨rfl, rfl, rfl, rfl, rfl, rfl, rfl, rfl, rfl, rfl, rfl, rfl, rfl, rfl, rfl, rfl, rfl⟩⟩

set_option maxRecDepth 8192 in
theorem pickPairsOps_plain : Plain (pickPairsOps : List (HloOp τ sig (Elt F))) :=
  ⟨⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub ..⟩,
    ⟨rfl, rfl, rfl, rfl, rfl, rfl, rfl, rfl, rfl, rfl, rfl, rfl, rfl, rfl, rfl⟩⟩

set_option maxRecDepth 8192 in
theorem pickValsOps_plain : Plain (pickValsOps : List (HloOp τ sig (Elt F))) :=
  ⟨⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩,
    ⟨rfl, rfl, rfl, rfl, rfl, rfl, rfl, rfl, rfl, rfl, rfl, rfl, rfl, rfl, rfl, rfl, rfl, rfl, rfl⟩⟩

set_option maxRecDepth 8192 in
theorem pickMaskOps_plain : Plain (pickMaskOps : List (HloOp τ sig (Elt F))) :=
  ⟨⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub ..⟩,
    ⟨rfl, rfl, rfl, rfl, rfl, rfl, rfl, rfl, rfl, rfl, rfl, rfl, rfl, rfl, rfl, rfl, rfl, rfl, rfl, rfl⟩⟩

set_option maxRecDepth 8192 in
theorem layerOneOps_plain : Plain (layerOneOps : List (HloOp τ sig (Elt F))) :=
  ⟨⟨binary_bufs_sub .., unary_bufs_sub .., unary_bufs_sub .., binary_bufs_sub .., unary_bufs_sub .., unary_bufs_sub ..⟩,
    ⟨rfl, rfl, rfl, rfl, rfl, rfl⟩⟩

set_option maxRecDepth 8192 in
theorem swishOneOps_plain : Plain (swishOneOps : List (HloOp τ sig (Elt F))) :=
  ⟨⟨nullary_bufs_sub .., unary_bufs_sub .., binary_bufs_sub .., nullary_bufs_sub .., unary_bufs_sub .., binary_bufs_sub .., binary_bufs_sub ..⟩,
    ⟨rfl, rfl, rfl, rfl, rfl, rfl, rfl⟩⟩

set_option maxRecDepth 8192 in
theorem layerTwoOps_plain : Plain (layerTwoOps : List (HloOp τ sig (Elt F))) :=
  ⟨⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩,
    ⟨rfl, rfl, rfl, rfl, rfl, rfl, rfl, rfl, rfl, rfl, rfl, rfl, rfl⟩⟩

set_option maxRecDepth 8192 in
theorem layerThreeOps_plain : Plain (layerThreeOps : List (HloOp τ sig (Elt F))) :=
  ⟨⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩,
    ⟨rfl, rfl, rfl, rfl, rfl, rfl, rfl, rfl, rfl, rfl, rfl, rfl, rfl⟩⟩

set_option maxRecDepth 8192 in
theorem maskOps_plain : Plain (maskOps : List (HloOp τ sig (Elt F))) :=
  ⟨⟨unary_bufs_sub .., nullary_bufs_sub .., unary_bufs_sub .., unary_bufs_sub .., ternary_bufs_sub .., unary_bufs_sub .., nullary_bufs_sub .., unary_bufs_sub .., unary_bufs_sub .., ternary_bufs_sub ..⟩,
    ⟨rfl, rfl, rfl, rfl, rfl, rfl, rfl, rfl, rfl, rfl⟩⟩

set_option maxRecDepth 8192 in
theorem outOps_plain : Plain (outOps : List (HloOp τ sig (Elt F))) :=
  ⟨⟨binary_bufs_sub .., reshape_bufs_sub .., binary_bufs_sub .., unary_bufs_sub .., unary_bufs_sub .., binary_bufs_sub .., unary_bufs_sub .., nullary_bufs_sub .., unary_bufs_sub .., unary_bufs_sub .., ternary_bufs_sub ..⟩,
    ⟨rfl, rfl, rfl, rfl, rfl, rfl, rfl, rfl, rfl, rfl, rfl⟩⟩

theorem part0_plain : Plain (part0 : List (HloOp τ sig (Elt F))) := nearOps_plain.append (keyOps_plain.append (drawOps_plain.append (laneOps_plain.append (mix0Ops_plain.append (mix1Ops_plain.append (mix2Ops_plain.append (mix3Ops_plain.append (mix4Ops_plain.append (mix5Ops_plain.append (mix6Ops_plain.append (mix7Ops_plain.append (mix8Ops_plain.append (mix9Ops_plain.append (unitOps_plain.append (scoreOps_plain.append (gridOps_plain))))))))))))))))

theorem part1_plain : Plain (part1 : List (HloOp τ sig (Elt F))) := pickPairsOps_plain.append (pickValsOps_plain.append (pickMaskOps_plain.append (layerOneOps_plain)))

theorem part2_plain : Plain (part2 : List (HloOp τ sig (Elt F))) := swishOneOps_plain.append (layerTwoOps_plain.append (layerThreeOps_plain.append (maskOps_plain.append (outOps_plain))))

theorem ops_plain : Plain (ops : List (HloOp τ sig (Elt F))) := part0_plain.append (part1_plain.append part2_plain)

/-- Every fair execution ends, with each buffer at the contents the operations leave there. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq
    (fun _ => ops_plain.1) m ρ fun _ => List.forall_iff_forall_mem.mp ops_plain.2

end Cert.Proof.Ref

end
-- ==== Proof.RefKept.lean ====
/-
Which buffers each stretch of the reference writes; every other buffer keeps its contents through it. So the arguments end as they
were launched, and a run of the reference leaves every semaphore at zero.
-/
module

public import proofs.«01_k».proof.Proof.RefOps
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- A stretch that writes the buffers of a list and no others. -/
def Writes (l : List (HloOp τ sig (Elt F))) (W : List (Ref sig .tc)) : Prop :=
  l.Forall fun op => op.writes ⊆ (W.map (Proc.devRef (τ := τ) .tc)).toFinset

theorem Writes.kept {l : List (HloOp τ sig (Elt F))} {W : List (Ref sig .tc)} (h : Writes l W) (V : Valuation τ sig (Elt F))
    {r : Ref sig .tc} (hr : r ∉ W) : after l V (Proc.devRef .tc r) = V (Proc.devRef .tc r) := after_of_writes_sub l V h hr

/-- The buffers `nearOps` writes. -/
def nearOpsDst : List (Ref sig .tc) :=
  [main_v0, main_cst, main_v1, main_cst_0, main_v2, main_v3, main_v4, main_v5, main_cst_1, main_v6, main_cst_2, main_v7, main_v8, main_call0_v0, main_v9, main_cst_3, main_v10, main_v11, main_v12, main_v13, main_v14, main_v15, main_v16, main_v17]

set_option maxRecDepth 8192 in
theorem nearOps_writes : Writes (nearOps : List (HloOp τ sig (Elt F))) nearOpsDst := forall_writes_sub_of_map rfl

/-- The buffers `keyOps` writes. -/
def keyOpsDst : List (Ref sig .tc) :=
  [main_c, main_c_4, main_v18, main_v19, main_v20, main_c_5, main_v21, main_v22, main_v23, main_v24, main_cst_6, main_cst_7]

set_option maxRecDepth 8192 in
theorem keyOps_writes : Writes (keyOps : List (HloOp τ sig (Elt F))) keyOpsDst := forall_writes_sub_of_map rfl

/-- The buffers `drawOps` writes. -/
def drawOpsDst : List (Ref sig .tc) :=
  [main_call1_v0, main_call1_v1, main_call1_v2, main_call1_v3, main_call1_v4, main_call1_v5, main_call1_v6, main_call1_v7, main_call1_v8, main_call1_v9, main_call1_v10, main_call1_c, main_call1_v11, main_call1_v12, main_call1_c_0, main_call1_v13, main_call1_v14, main_call1_c_1, main_call1_v15, main_call1_v16, main_call1_v17, main_call1_v18, main_call1_c_2, main_call1_v19]

set_option maxRecDepth 8192 in
theorem drawOps_writes : Writes (drawOps : List (HloOp τ sig (Elt F))) drawOpsDst := forall_writes_sub_of_map rfl

/-- The buffers `laneOps` writes. -/
def laneOpsDst : List (Ref sig .tc) :=
  [main_call1_v20, main_call1_v21, main_call1_v22]

set_option maxRecDepth 8192 in
theorem laneOps_writes : Writes (laneOps : List (HloOp τ sig (Elt F))) laneOpsDst := forall_writes_sub_of_map rfl

/-- The buffers `mix0Ops` writes. -/
def mix0OpsDst : List (Ref sig .tc) :=
  [main_call1_call0_v0, main_call1_call0_c, main_call1_call0_v1, main_call1_call0_v2, main_call1_call0_v3, main_call1_call0_v4, main_call1_call0_v5, main_call1_call0_v6, main_call1_call0_c_0, main_call1_call0_v7, main_call1_call0_v8, main_call1_call0_c_1, main_call1_call0_v9, main_call1_call0_v10, main_call1_call0_v11, main_call1_call0_v12, main_call1_call0_v13, main_call1_call0_c_2, main_call1_call0_v14, main_call1_call0_v15, main_call1_call0_c_3, main_call1_call0_v16, main_call1_call0_v17, main_call1_call0_v18]

set_option maxRecDepth 8192 in
theorem mix0Ops_writes : Writes (mix0Ops : List (HloOp τ sig (Elt F))) mix0OpsDst := forall_writes_sub_of_map rfl

/-- The buffers `mix1Ops` writes. -/
def mix1OpsDst : List (Ref sig .tc) :=
  [main_call1_call0_v19, main_call1_call0_v20, main_call1_call0_c_4, main_call1_call0_v21, main_call1_call0_v22, main_call1_call0_c_5, main_call1_call0_v23, main_call1_call0_v24, main_call1_call0_v25, main_call1_call0_v26, main_call1_call0_v27, main_call1_call0_c_6, main_call1_call0_v28, main_call1_call0_v29, main_call1_call0_c_7, main_call1_call0_v30, main_call1_call0_v31, main_call1_call0_v32, main_call1_call0_v33, main_call1_call0_v34, main_call1_call0_v35, main_call1_call0_v36, main_call1_call0_v37, main_call1_call0_c_8]

set_option maxRecDepth 8192 in
theorem mix1Ops_writes : Writes (mix1Ops : List (HloOp τ sig (Elt F))) mix1OpsDst := forall_writes_sub_of_map rfl

/-- The buffers `mix2Ops` writes. -/
def mix2OpsDst : List (Ref sig .tc) :=
  [main_call1_call0_v38, main_call1_call0_v39, main_call1_call0_v40, main_call1_call0_c_9, main_call1_call0_v41, main_call1_call0_v42, main_call1_call0_c_10, main_call1_call0_v43, main_call1_call0_v44, main_call1_call0_v45, main_call1_call0_v46, main_call1_call0_v47, main_call1_call0_c_11, main_call1_call0_v48, main_call1_call0_v49, main_call1_call0_c_12, main_call1_call0_v50, main_call1_call0_v51, main_call1_call0_v52, main_call1_call0_v53, main_call1_call0_v54, main_call1_call0_c_13, main_call1_call0_v55, main_call1_call0_v56]

set_option maxRecDepth 8192 in
theorem mix2Ops_writes : Writes (mix2Ops : List (HloOp τ sig (Elt F))) mix2OpsDst := forall_writes_sub_of_map rfl

/-- The buffers `mix3Ops` writes. -/
def mix3OpsDst : List (Ref sig .tc) :=
  [main_call1_call0_c_14, main_call1_call0_v57, main_call1_call0_v58, main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68, main_call1_call0_v69, main_call1_call0_v70, main_call1_call0_v71, main_call1_call0_c_17, main_call1_call0_v72, main_call1_call0_v73, main_call1_call0_v74, main_call1_call0_c_18, main_call1_call0_v75]

set_option maxRecDepth 8192 in
theorem mix3Ops_writes : Writes (mix3Ops : List (HloOp τ sig (Elt F))) mix3OpsDst := forall_writes_sub_of_map rfl

/-- The buffers `mix4Ops` writes. -/
def mix4OpsDst : List (Ref sig .tc) :=
  [main_call1_call0_v76, main_call1_call0_c_19, main_call1_call0_v77, main_call1_call0_v78, main_call1_call0_v79, main_call1_call0_v80, main_call1_call0_v81, main_call1_call0_c_20, main_call1_call0_v82, main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91, main_call1_call0_v92, main_call1_call0_v93, main_call1_call0_v94]

set_option maxRecDepth 8192 in
theorem mix4Ops_writes : Writes (mix4Ops : List (HloOp τ sig (Elt F))) mix4OpsDst := forall_writes_sub_of_map rfl

/-- The buffers `mix5Ops` writes. -/
def mix5OpsDst : List (Ref sig .tc) :=
  [main_call1_call0_v95, main_call1_call0_c_24, main_call1_call0_v96, main_call1_call0_v97, main_call1_call0_c_25, main_call1_call0_v98, main_call1_call0_v99, main_call1_call0_v100, main_call1_call0_v101, main_call1_call0_v102, main_call1_call0_v103, main_call1_call0_v104, main_call1_call0_v105, main_call1_call0_c_26, main_call1_call0_v106, main_call1_call0_v107, main_call1_call0_v108, main_call1_call0_c_27, main_call1_call0_v109, main_call1_call0_v110, main_call1_call0_c_28, main_call1_call0_v111, main_call1_call0_v112, main_call1_call0_v113]

set_option maxRecDepth 8192 in
theorem mix5Ops_writes : Writes (mix5Ops : List (HloOp τ sig (Elt F))) mix5OpsDst := forall_writes_sub_of_map rfl

/-- The buffers `mix6Ops` writes. -/
def mix6OpsDst : List (Ref sig .tc) :=
  [main_call1_call0_v114, main_call1_call0_v115, main_call1_call0_c_29, main_call1_call0_v116, main_call1_call0_v117, main_call1_call0_c_30, main_call1_call0_v118, main_call1_call0_v119, main_call1_call0_v120, main_call1_call0_v121, main_call1_call0_v122, main_call1_call0_c_31, main_call1_call0_v123, main_call1_call0_v124, main_call1_call0_c_32, main_call1_call0_v125, main_call1_call0_v126, main_call1_call0_v127, main_call1_call0_v128, main_call1_call0_v129, main_call1_call0_c_33, main_call1_call0_v130, main_call1_call0_v131, main_call1_call0_c_34]

set_option maxRecDepth 8192 in
theorem mix6Ops_writes : Writes (mix6Ops : List (HloOp τ sig (Elt F))) mix6OpsDst := forall_writes_sub_of_map rfl

/-- The buffers `mix7Ops` writes. -/
def mix7OpsDst : List (Ref sig .tc) :=
  [main_call1_call0_v132, main_call1_call0_v133, main_call1_call0_v134, main_call1_call0_v135, main_call1_call0_v136, main_call1_call0_v137, main_call1_call0_v138, main_call1_call0_v139, main_call1_call0_c_35, main_call1_call0_v140, main_call1_call0_v141, main_call1_call0_v142, main_call1_call0_c_36, main_call1_call0_v143, main_call1_call0_v144, main_call1_call0_c_37, main_call1_call0_v145, main_call1_call0_v146, main_call1_call0_v147, main_call1_call0_v148, main_call1_call0_v149, main_call1_call0_c_38, main_call1_call0_v150, main_call1_call0_v151]

set_option maxRecDepth 8192 in
theorem mix7Ops_writes : Writes (mix7Ops : List (HloOp τ sig (Elt F))) mix7OpsDst := forall_writes_sub_of_map rfl

/-- The buffers `mix8Ops` writes. -/
def mix8OpsDst : List (Ref sig .tc) :=
  [main_call1_call0_c_39, main_call1_call0_v152, main_call1_call0_v153, main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163, main_call1_call0_c_42, main_call1_call0_v164, main_call1_call0_v165, main_call1_call0_c_43, main_call1_call0_v166, main_call1_call0_v167, main_call1_call0_v168, main_call1_call0_v169, main_call1_call0_v170]

set_option maxRecDepth 8192 in
theorem mix8Ops_writes : Writes (mix8Ops : List (HloOp τ sig (Elt F))) mix8OpsDst := forall_writes_sub_of_map rfl

/-- The buffers `mix9Ops` writes. -/
def mix9OpsDst : List (Ref sig .tc) :=
  [main_call1_v23_0, main_call1_call0_v172, main_call1_call0_v173, main_call1_call0_c_44, main_call1_call0_v174, main_call1_v23_1]

set_option maxRecDepth 8192 in
theorem mix9Ops_writes : Writes (mix9Ops : List (HloOp τ sig (Elt F))) mix9OpsDst := forall_writes_sub_of_map rfl

/-- The buffers `unitOps` writes. -/
def unitOpsDst : List (Ref sig .tc) :=
  [main_call1_v24, main_call1_c_3, main_call1_v25, main_call1_v26, main_call1_c_4, main_call1_v27, main_call1_v28, main_call1_v29, main_call1_cst, main_call1_v30, main_call1_v31, main_call1_v32, main_call1_v33, main_call1_v34, main_call1_v35, main_call1_v36, main_call1_v37, main_v25]

set_option maxRecDepth 8192 in
theorem unitOps_writes : Writes (unitOps : List (HloOp τ sig (Elt F))) unitOpsDst := forall_writes_sub_of_map rfl

/-- The buffers `scoreOps` writes. -/
def scoreOpsDst : List (Ref sig .tc) :=
  [main_v26, main_v27, main_values, main_indices, main_cst_8, main_v28, main_v29]

set_option maxRecDepth 8192 in
theorem scoreOps_writes : Writes (scoreOps : List (HloOp τ sig (Elt F))) scoreOpsDst := forall_writes_sub_of_map rfl

/-- The buffers `gridOps` writes. -/
def gridOpsDst : List (Ref sig .tc) :=
  [main_v30, main_v31, main_v32, main_v33, main_c_9, main_v34, main_v35, main_c_10, main_v36, main_v37, main_v38, main_c_11, main_v39, main_v40, main_c_12, main_v41, main_v42]

set_option maxRecDepth 8192 in
theorem gridOps_writes : Writes (gridOps : List (HloOp τ sig (Elt F))) gridOpsDst := forall_writes_sub_of_map rfl

/-- The buffers `pickPairsOps` writes. -/
def pickPairsOpsDst : List (Ref sig .tc) :=
  [main_v43, main_c_13, main_v44, main_v45, main_c_14, main_v46, main_v47, main_v48, main_v49, main_v50, main_v51, main_v52, main_v53, main_v54, main_v55]

set_option maxRecDepth 8192 in
theorem pickPairsOps_writes : Writes (pickPairsOps : List (HloOp τ sig (Elt F))) pickPairsOpsDst := forall_writes_sub_of_map rfl

/-- The buffers `pickValsOps` writes. -/
def pickValsOpsDst : List (Ref sig .tc) :=
  [main_c_15, main_v56, main_v57, main_c_16, main_v58, main_v59, main_v60, main_c_17, main_v61, main_v62, main_c_18, main_v63, main_v64, main_v65, main_v66, main_v67, main_v68, main_v69, main_v70]

set_option maxRecDepth 8192 in
theorem pickValsOps_writes : Writes (pickValsOps : List (HloOp τ sig (Elt F))) pickValsOpsDst := forall_writes_sub_of_map rfl

/-- The buffers `pickMaskOps` writes. -/
def pickMaskOpsDst : List (Ref sig .tc) :=
  [main_c_19, main_v71, main_v72, main_c_20, main_v73, main_v74, main_v75, main_c_21, main_v76, main_v77, main_c_22, main_v78, main_v79, main_v80, main_v81, main_v82, main_v83, main_v84, main_v85, main_v86]

set_option maxRecDepth 8192 in
theorem pickMaskOps_writes : Writes (pickMaskOps : List (HloOp τ sig (Elt F))) pickMaskOpsDst := forall_writes_sub_of_map rfl

/-- The buffers `layerOneOps` writes. -/
def layerOneOpsDst : List (Ref sig .tc) :=
  [main_v87, main_v88, main_v89, main_v90, main_v91, main_v92]

set_option maxRecDepth 8192 in
theorem layerOneOps_writes : Writes (layerOneOps : List (HloOp τ sig (Elt F))) layerOneOpsDst := forall_writes_sub_of_map rfl

/-- The buffers `swishOneOps` writes. -/
def swishOneOpsDst : List (Ref sig .tc) :=
  [main_cst_23, main_v93, main_v94, main_cst_24, main_v95, main_v96, main_v97]

set_option maxRecDepth 8192 in
theorem swishOneOps_writes : Writes (swishOneOps : List (HloOp τ sig (Elt F))) swishOneOpsDst := forall_writes_sub_of_map rfl

/-- The buffers `layerTwoOps` writes. -/
def layerTwoOpsDst : List (Ref sig .tc) :=
  [main_v98, main_v99, main_v100, main_v101, main_v102, main_v103, main_cst_25, main_v104, main_v105, main_cst_26, main_v106, main_v107, main_v108]

set_option maxRecDepth 8192 in
theorem layerTwoOps_writes : Writes (layerTwoOps : List (HloOp τ sig (Elt F))) layerTwoOpsDst := forall_writes_sub_of_map rfl

/-- The buffers `layerThreeOps` writes. -/
def layerThreeOpsDst : List (Ref sig .tc) :=
  [main_v109, main_v110, main_v111, main_v112, main_v113, main_v114, main_cst_27, main_v115, main_v116, main_cst_28, main_v117, main_v118, main_v119]

set_option maxRecDepth 8192 in
theorem layerThreeOps_writes : Writes (layerThreeOps : List (HloOp τ sig (Elt F))) layerThreeOpsDst := forall_writes_sub_of_map rfl

/-- The buffers `maskOps` writes. -/
def maskOpsDst : List (Ref sig .tc) :=
  [main_v120, main_cst_29, main_v121, main_call2_v0, main_v122, main_v123, main_cst_30, main_v124, main_call3_v0, main_v125]

set_option maxRecDepth 8192 in
theorem maskOps_writes : Writes (maskOps : List (HloOp τ sig (Elt F))) maskOpsDst := forall_writes_sub_of_map rfl

/-- The buffers `outOps` writes. -/
def outOpsDst : List (Ref sig .tc) :=
  [main_v126, main_v127, main_v128, main_v129, main_v130, main_v131, main_v132, main_cst_31, main_v133, main_call4_v0, main_v134]

set_option maxRecDepth 8192 in
theorem outOps_writes : Writes (outOps : List (HloOp τ sig (Elt F))) outOpsDst := forall_writes_sub_of_map rfl

/-- The contents after everything, stretch by stretch. -/
theorem after_ops (V : Valuation τ sig (Elt F)) : after ops V =
    after outOps (after maskOps (after layerThreeOps (after layerTwoOps (after swishOneOps (after layerOneOps (after pickMaskOps (after pickValsOps (after pickPairsOps (after gridOps (after scoreOps (after unitOps (after mix9Ops (after mix8Ops (after mix7Ops (after mix6Ops (after mix5Ops (after mix4Ops (after mix3Ops (after mix2Ops (after mix1Ops (after mix0Ops (after laneOps (after drawOps (after keyOps (after nearOps (V)))))))))))))))))))))))))) := by
  simp only [ops, part0, part1, part2, after_append]

/-- A buffer no stretch writes ends as it began. -/
theorem ops_kept (V : Valuation τ sig (Elt F)) {r : Ref sig .tc}
    (hr : r ∉ nearOpsDst ∧ r ∉ keyOpsDst ∧ r ∉ drawOpsDst ∧ r ∉ laneOpsDst ∧ r ∉ mix0OpsDst ∧ r ∉ mix1OpsDst ∧ r ∉ mix2OpsDst ∧ r ∉ mix3OpsDst ∧ r ∉ mix4OpsDst ∧ r ∉ mix5OpsDst ∧ r ∉ mix6OpsDst ∧ r ∉ mix7OpsDst ∧ r ∉ mix8OpsDst ∧ r ∉ mix9OpsDst ∧ r ∉ unitOpsDst ∧ r ∉ scoreOpsDst ∧ r ∉ gridOpsDst ∧ r ∉ pickPairsOpsDst ∧ r ∉ pickValsOpsDst ∧ r ∉ pickMaskOpsDst ∧ r ∉ layerOneOpsDst ∧ r ∉ swishOneOpsDst ∧ r ∉ layerTwoOpsDst ∧ r ∉ layerThreeOpsDst ∧ r ∉ maskOpsDst ∧ r ∉ outOpsDst) : after ops V (Proc.devRef .tc r) = V (Proc.devRef .tc r) := by
  obtain ⟨h0, h1, h2, h3, h4, h5, h6, h7, h8, h9, h10, h11, h12, h13, h14, h15, h16, h17, h18, h19, h20, h21, h22, h23, h24, h25⟩ := hr
  rw [after_ops, outOps_writes.kept _ h25, maskOps_writes.kept _ h24, layerThreeOps_writes.kept _ h23, layerTwoOps_writes.kept _ h22, swishOneOps_writes.kept _ h21, layerOneOps_writes.kept _ h20, pickMaskOps_writes.kept _ h19, pickValsOps_writes.kept _ h18, pickPairsOps_writes.kept _ h17, gridOps_writes.kept _ h16, scoreOps_writes.kept _ h15, unitOps_writes.kept _ h14, mix9Ops_writes.kept _ h13, mix8Ops_writes.kept _ h12, mix7Ops_writes.kept _ h11, mix6Ops_writes.kept _ h10, mix5Ops_writes.kept _ h9, mix4Ops_writes.kept _ h8, mix3Ops_writes.kept _ h7, mix2Ops_writes.kept _ h6, mix1Ops_writes.kept _ h5, mix0Ops_writes.kept _ h4, laneOps_writes.kept _ h3, drawOps_writes.kept _ h2, keyOps_writes.kept _ h1, nearOps_writes.kept _ h0]

/-- An argument of the reference: none of its operations writes it. -/
def IsArg (r : Ref sig .tc) : Prop := r ∉ nearOpsDst ∧ r ∉ keyOpsDst ∧ r ∉ drawOpsDst ∧ r ∉ laneOpsDst ∧ r ∉ mix0OpsDst ∧ r ∉ mix1OpsDst ∧ r ∉ mix2OpsDst ∧ r ∉ mix3OpsDst ∧ r ∉ mix4OpsDst ∧ r ∉ mix5OpsDst ∧ r ∉ mix6OpsDst ∧ r ∉ mix7OpsDst ∧ r ∉ mix8OpsDst ∧ r ∉ mix9OpsDst ∧ r ∉ unitOpsDst ∧ r ∉ scoreOpsDst ∧ r ∉ gridOpsDst ∧ r ∉ pickPairsOpsDst ∧ r ∉ pickValsOpsDst ∧ r ∉ pickMaskOpsDst ∧ r ∉ layerOneOpsDst ∧ r ∉ swishOneOpsDst ∧ r ∉ layerTwoOpsDst ∧ r ∉ layerThreeOpsDst ∧ r ∉ maskOpsDst ∧ r ∉ outOpsDst

theorem arg0_isArg : IsArg main_arg0 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg1_isArg : IsArg main_arg1 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg2_isArg : IsArg main_arg2 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg3_isArg : IsArg main_arg3 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg4_isArg : IsArg main_arg4 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg5_isArg : IsArg main_arg5 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg6_isArg : IsArg main_arg6 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg7_isArg : IsArg main_arg7 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg8_isArg : IsArg main_arg8 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg9_isArg : IsArg main_arg9 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg10_isArg : IsArg main_arg10 := by unfold IsArg; refine ⟨?_, ?_, ?_, ?_, ?_, ?_, ?_, ?_, ?_, ?_, ?_, ?_, ?_, ?_, ?_, ?_, ?_, ?_, ?_, ?_, ?_, ?_, ?_, ?_, ?_, ?_⟩ <;> decide

theorem arg_kept (V : Valuation τ sig (Elt F)) {r : Ref sig .tc} (hr : IsArg r) :
    after ops V (Proc.devRef .tc r) = V (Proc.devRef .tc r) := ops_kept V hr

/-- The reference runs, leaves its arguments as they were, and every semaphore at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun r h => ⟨fun c => ⟨(h c main_arg0).trans (arg_kept _ arg0_isArg),
      (h c main_arg1).trans (arg_kept _ arg1_isArg),
      (h c main_arg2).trans (arg_kept _ arg2_isArg),
      (h c main_arg3).trans (arg_kept _ arg3_isArg),
      (h c main_arg4).trans (arg_kept _ arg4_isArg),
      (h c main_arg5).trans (arg_kept _ arg5_isArg),
      (h c main_arg6).trans (arg_kept _ arg6_isArg),
      (h c main_arg7).trans (arg_kept _ arg7_isArg),
      (h c main_arg8).trans (arg_kept _ arg8_isArg),
      (h c main_arg9).trans (arg_kept _ arg9_isArg),
      (h c main_arg10).trans (arg_kept _ arg10_isArg)⟩,
    sem_eq_zero_of_no_sems (by decide) r.2⟩) (run m ρ)

end Cert.Proof.Ref

end
-- ==== Proof.Spec.lean ====
/-
The mathematics both programs compute, on extended reals: three layers with the activation x·(1/(1+e⁻ˣ)) give each pair of points
16 weights; a query point sums weight times feature over the points selected for it; a last layer maps the 1024 sums to 64 results.
-/
module

public import Idealize.ShloMosaic.Lib.Pointwise

@[expose] public section

noncomputable section

namespace Cert.Proof

open Idealize.ShloMosaic

/-- A real array of a shape, in the idealized reading. -/
abbrev Arr (s : Shape) : Type := s.Idx → EReal

/-- The activation. -/
def act (x : EReal) : EReal := x * Ideal.div 1 (1 + Ideal.exp (-x))

/-- One layer of the network, on one point. -/
def layer {k n : Nat} (W : Arr ⟨2, ![k, n]⟩) (b : Arr ⟨1, ![n]⟩) (x : Fin k → EReal) (i : Fin n) : EReal :=
  act ((∑ j, x j * W (ix2 j i)) + b (ix1 i))

/-- The parameters of the three layers. -/
structure Net where
  W1 : Arr ⟨2, ![3, 32]⟩
  b1 : Arr ⟨1, ![32]⟩
  W2 : Arr ⟨2, ![32, 32]⟩
  b2 : Arr ⟨1, ![32]⟩
  W3 : Arr ⟨2, ![32, 16]⟩
  b3 : Arr ⟨1, ![16]⟩

/-- The 16 weights of a pair with the given coordinates. -/
def Net.weight (w : Net) (x : Fin 3 → EReal) : Fin 16 → EReal := layer w.W3 w.b3 (layer w.W2 w.b2 (layer w.W1 w.b1 x))

/-- One result of a query point: over some points, features `v` times weights `w` summed, then the last layer. -/
def result {K : Type} [Fintype K] (Wl : Arr ⟨2, ![1024, 64]⟩) (bl : Arr ⟨1, ![64]⟩) (v : K → Fin 64 → EReal) (w : K → Fin 16 → EReal)
    (o : Fin 64) : EReal :=
  (∑ x : Fin 1024, (∑ k, v k ⟨x.val / 16, by omega⟩ * w k ⟨x.val % 16, by omega⟩) * Wl (ix2 x o)) + bl (ix1 o)

/-- The points of a pair are near each other. -/
def Near (x : Fin 3 → EReal) : Prop :=
  Ideal.sqrt ((∑ d, x d * x d) + Ideal.ofBits .f32 0x2B8CBCCC#32) < Ideal.ofBits .f32 0x40000000#32

end Cert.Proof

end
-- ==== Proof.KerTrip.lean ====
/-
What the loop over the sixteen groups of eight query points leaves in the scratch of partial sums: the trip of group g writes its 128 rows,
eight for each of the sixteen weights p, and row p·128 + g·8 + i of the scratch holds row p·8 + i of that trip.
-/
module

public import proofs.«01_k».proof.Proof.Gen.KernelIdeal.Value
public import proofs.«01_k».proof.Proof.Spec
public import Idealize.ShloMosaic.Lib.Pointwise
public import Idealize.ShloMosaic.Lib.Pipeline.ValueKit
public import Idealize.ShloMosaic.Lib.WholeRead

@[expose] public section

noncomputable section

namespace Cert.Proof.Ker

open Cert.KernelIdeal Cert.KernelIdeal.Gen Cert.KernelIdeal.Facts₀ Cert.KernelIdeal.Facts Idealize.ShloMosaic Idealize.ShloMosaic.TcCoe Idealize.SL.Sem Idealize.ShloMosaic.Pipeline

/-- The eight rows of weight `q`. -/
def slab (v : FVec Ideal S128x64 .f32) (q : Fin 16) : FVec Ideal S8x64 .f32 :=
  fun j => v (ix2 ⟨q.val * 8 + (j 0).val, by have := (j 0).isLt; have : (j 0).val < 8 := this; omega⟩ (j 1))

theorem slab_eq (v : FVec Ideal S128x64 .f32) (q : Fin 16) (off : Fin 2 → ℕ) (ho : off = ![8 * q.val, 0]) (h) (h') :
    shapeCast S8x64 (extractStridedSlice S8x64 off v h) h' = slab v q := by
  subst ho
  funext j
  rw [shapeCast_self]
  refine congrArg v (funext fun a => Fin.ext ?_)
  fin_cases a
  · exact congrArg (· + (j 0).val) (Nat.mul_comm 8 q.val)
  · exact Nat.zero_add _

/-- The rows weight `q` has in the scratch, in the trip of group `k`. -/
def piece (k : Fin k0_t2_loop.trips) (v : FVec Ideal S128x64 .f32) (q : Fin 16) : View.Piece (Elt Ideal) S2048x64 .f32 :=
  ⟨Rect.unit (k0_off3 k (BitVec.ofNat 32 (128 * q.val))) S8x64.size (Gen.k0_off3_inb k q), slab v q⟩

theorem cons_piece {k : Fin k0_t2_loop.trips} {v : FVec Ideal S128x64 .f32} (q : Fin 16) {inb} {w : FVec Ideal S8x64 .f32}
    {L L' : List (View.Piece (Elt Ideal) S2048x64 .f32)} (hw : w = slab v q) (hL : L' = L) :
    piece k v q :: L'
      = (⟨Rect.unit (k0_off3 k (BitVec.ofNat 32 (128 * q.val))) S8x64.size inb, w⟩ : View.Piece (Elt Ideal) S2048x64 .f32) :: L := by
  subst hw hL; rfl

/-- What the scratch holds once every trip has written. -/
def rows (v : Fin k0_t2_loop.trips → FVec Ideal S128x64 .f32) (y : S2048x64.Idx) : EReal :=
  v ⟨((y 0).val % 128) / 8, by have h : (y 0).val < 2048 := (y 0).isLt; show _ < 16; omega⟩
    (ix2 ⟨(y 0).val / 128 * 8 + (y 0).val % 8, by have h : (y 0).val < 2048 := (y 0).isLt; omega⟩ (y 1))

theorem off3 : ∀ (k : Fin k0_t2_loop.trips) (q : Fin 16), k0_off3 k (BitVec.ofNat 32 (128 * q.val)) 0 = q.val * 128 + k.val * 8
      ∧ k0_off3 k (BitVec.ofNat 32 (128 * q.val)) 1 = 0 := by
  decide +kernel

theorem piece_rows (v : Fin k0_t2_loop.trips → FVec Ideal S128x64 .f32) (k : Fin k0_t2_loop.trips) (q : Fin 16)
    (x : (piece k (v k) q).1.shape.Idx) : (piece k (v k) q).2 x = rows v ((piece k (v k) q).1.emb x) := by
  obtain ⟨h0, h1⟩ := off3 k q
  have hx : (x 0).val < 8 := (x 0).isLt
  have hk : k.val < 16 := k.isLt
  have e0 : ((piece k (v k) q).1.emb x 0).val = q.val * 128 + k.val * 8 + (x 0).val := by
    rw [← h0]; exact ValueKit.rect_emb_unit_val _ _ (Gen.k0_off3_inb k q) x 0
  have e1 : ((piece k (v k) q).1.emb x 1).val = (x 1).val := by
    refine (ValueKit.rect_emb_unit_val _ _ (Gen.k0_off3_inb k q) x 1).trans ?_
    rw [h1, Nat.zero_add]
  refine Eq.trans ?_ (congrArg₂ (fun g (i : S128x64.Idx) => v g i) (x := k) ?_ (y := ix2 ⟨q.val * 8 + (x 0).val, by omega⟩ (x 1)) ?_)
  · rfl
  · apply Fin.ext
    show k.val = ((piece k (v k) q).1.emb x 0).val % 128 / 8
    rw [e0]; omega
  · funext a
    apply Fin.ext
    fin_cases a
    · show q.val * 8 + (x 0).val = ((piece k (v k) q).1.emb x 0).val / 128 * 8 + ((piece k (v k) q).1.emb x 0).val % 8
      rw [e0]; omega
    · exact e1.symm

/-- Every place of the scratch is written by one trip. -/
theorem piece_mem (v : Fin k0_t2_loop.trips → FVec Ideal S128x64 .f32) (y : S2048x64.Idx) :
    ∃ (k : Fin k0_t2_loop.trips) (q : Fin 16), y ∈ (piece k (v k) q).1.set := by
  have hy : (y 0).val < 2048 := (y 0).isLt
  refine ⟨⟨(y 0).val % 128 / 8, by show _ < 16; omega⟩, ⟨(y 0).val / 128, by omega⟩, ?_⟩
  refine (Rect.mem_set_unit (inb := Gen.k0_off3_inb _ _)).2 fun a => ?_
  obtain ⟨h0, h1⟩ := off3 ⟨(y 0).val % 128 / 8, by show _ < 16; omega⟩ ⟨(y 0).val / 128, by omega⟩
  fin_cases a
  · refine ⟨h0.le.trans ?_, lt_of_lt_of_eq ?_ (congrArg (· + 8) h0.symm)⟩
    · show (y 0).val / 128 * 128 + (y 0).val % 128 / 8 * 8 ≤ (y 0).val
      omega
    · show (y 0).val < (y 0).val / 128 * 128 + (y 0).val % 128 / 8 * 8 + 8
      omega
  · refine ⟨h1.le.trans (Nat.zero_le _), lt_of_lt_of_eq (y 1).isLt (Eq.trans (Nat.zero_add 64).symm (congrArg (· + 64) h1.symm))⟩

/-- The pieces of the trips, added in front of one another, leave `rows`. -/
theorem canon_rows (v : Fin k0_t2_loop.trips → FVec Ideal S128x64 .f32) (L : ℕ → List (View.Piece (Elt Ideal) S2048x64 .f32))
    (h0 : L 0 = [])
    (hL : ∀ k : Fin k0_t2_loop.trips, L (k.val + 1) = [15, 14, 13, 12, 11, 10, 9, 8, 7, 6, 5, 4, 3, 2, 1, 0].map (piece k (v k)) ++ L k.val) :
    View.canon (L 16) = rows v := by
  have key : ∀ n, n ≤ 16 → (∀ p ∈ L n, ∃ (k : Fin k0_t2_loop.trips) (q : Fin 16), p = piece k (v k) q)
      ∧ ∀ (k : Fin k0_t2_loop.trips) (q : Fin 16), k.val < n → piece k (v k) q ∈ L n := by
    intro n
    induction n with
    | zero => exact fun _ => ⟨fun p hp => by simp [h0] at hp, fun k q hk => absurd hk (Nat.not_lt_zero _)⟩
    | succ n ih =>
      intro hn
      obtain ⟨ih1, ih2⟩ := ih (by omega)
      have e := hL ⟨n, hn⟩
      simp only at e
      rw [e]
      refine ⟨fun p hp => ?_, fun k q hk => ?_⟩
      · rcases List.mem_append.1 hp with hp | hp
        · obtain ⟨q, _, rfl⟩ := List.mem_map.1 hp
          exact ⟨_, q, rfl⟩
        · exact ih1 p hp
      · refine List.mem_append.2 ?_
        rcases Nat.lt_succ_iff_lt_or_eq.1 hk with h | h
        · exact Or.inr (ih2 k q h)
        · refine Or.inl (List.mem_map.2 ⟨q, by fin_cases q <;> decide, ?_⟩)
          have : k = ⟨n, hn⟩ := Fin.ext h
          rw [this]
  obtain ⟨h1, h2⟩ := key 16 le_rfl
  funext y
  refine View.canon_apply_of_pieces (Val := Elt Ideal) (e := .f32) (rows v) _ (fun p hp x => ?_) y ?_
  · obtain ⟨k, q, rfl⟩ := h1 p hp
    exact piece_rows v k q x
  · obtain ⟨k, q, hm⟩ := piece_mem v y
    exact ⟨_, h2 k q k.isLt, hm⟩

section Trip

variable (𝒱 : Variants) (c : Dev nD) (bd : Option 𝒱.V) (i : grid0.Coords) (arg2 : Memref sig .tc .vmem S1x16x8x1024 .f32) (harg2 : arg2.IsWhole) (arg3 : Memref sig .tc .vmem S1x16x8x1024 .f32) (harg3 : arg3.IsWhole) (arg4 : Memref sig .tc .vmem S1x16x8x1024 .f32) (harg4 : arg4.IsWhole) (arg5 : Memref sig .tc .vmem S1x16x8x1024 .f32) (harg5 : arg5.IsWhole) (arg6 : Memref sig .tc .vmem S1x1024x64 .f32) (harg6 : arg6.IsWhole) (arg7 : Memref sig .tc .vmem S256x24 .f32) (harg7 : arg7.IsWhole) (arg8 : Memref sig .tc .vmem S256x256 .f32) (harg8 : arg8.IsWhole) (arg9 : Memref sig .tc .vmem S128x256 .f32) (harg9 : arg9.IsWhole) (arg10 : Memref sig .tc .vmem S128x8 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S128x1 .f32) (harg13 : arg13.IsWhole) (arg14 : Memref sig .tc .vmem S16x64x64 .f32) (harg14 : arg14.IsWhole) (arg15 : Memref sig .tc .vmem S1x64 .f32) (harg15 : arg15.IsWhole) (arg16 : Memref sig .tc .vmem S1x128x64 .f32) (harg16 : arg16.IsWhole) (arg17 : Memref sig .tc .vmem S2048x64 .f32) (harg17 : arg17.IsWhole) (arg18 : Memref sig .tc .vmem S16x8x1024 .f32) (harg18 : arg18.IsWhole) (v20 : FVec Ideal S16x8x1024 .f32) (v29 : FVec Ideal S16x8x1 .f32) (v31 : FVec Ideal S16x8x1 .f32) (cst_21 : Ideal .f32) (c0_i32 : BitVec 32) (c26_i32 : BitVec 32) (v44 : Vec Ideal S256x24 .f32) (v46 : Vec Ideal S256x256 .f32) (v48 : Vec Ideal S128x256 .f32) (v50 : Vec Ideal S128x8 .f32) (v52 : Vec Ideal S256x1 .f32) (v54 : Vec Ideal S256x1 .f32) (v56 : Vec Ideal S128x1 .f32) (v58 : Vec Ideal S1x1024x64 .f32) (X_arg2 : BufTy.Contents (Elt Ideal) arg2.view.ty) (X_arg3 : BufTy.Contents (Elt Ideal) arg3.view.ty) (X_arg4 : BufTy.Contents (Elt Ideal) arg4.view.ty) (X_arg18 : BufTy.Contents (Elt Ideal) arg18.view.ty)
/-- What a trip writes, from the last store back to the first. -/
theorem trip_pieces (k : Fin k0_t2_loop.trips) : tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v29 v31 cst_21 c0_i32 c26_i32 v44 v46 v48 v50 v52 v54 v56 v58 X_arg2 X_arg3 X_arg4 X_arg18 k
    = [15, 14, 13, 12, 11, 10, 9, 8, 7, 6, 5, 4, 3, 2, 1, 0].map (piece k (trip_k0_t2.sl.r_2 arg2 arg3 arg4 arg18 v44 v46 v48 v50 v52 v54 v56 v58 X_arg2 X_arg3 X_arg4 X_arg18 k)) := by
  unfold tripL_k0_t2 trip_k0_t2
  dsimp only [List.map]
  symm
  simp only [trip_k0_t2.sl.v266, trip_k0_t2.sl.v265, trip_k0_t2.sl.v259, trip_k0_t2.sl.v253, trip_k0_t2.sl.v247, trip_k0_t2.sl.v241, trip_k0_t2.sl.v235, trip_k0_t2.sl.v229,
    trip_k0_t2.sl.v260, trip_k0_t2.sl.v254, trip_k0_t2.sl.v248, trip_k0_t2.sl.v242, trip_k0_t2.sl.v236, trip_k0_t2.sl.v230,
    trip_k0_t2.sl.r_3, k0_pay40, k0_pay39, k0_pay38, k0_pay37, k0_pay36, k0_pay10, k0_pay9, k0_pay8, k0_pay7, k0_pay6]
  iterate 16 refine cons_piece _ (slab_eq _ _ _ (by rfl) _ _) ?_
  rfl

/-- The scratch of partial sums after the loop. -/
theorem pb_rows : View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v29 v31 cst_21 c0_i32 c26_i32 v44 v46 v48 v50 v52 v54 v56 v58 X_arg2 X_arg3 X_arg4 X_arg18 16)
    = rows fun k => trip_k0_t2.sl.r_2 arg2 arg3 arg4 arg18 v44 v46 v48 v50 v52 v54 v56 v58 X_arg2 X_arg3 X_arg4 X_arg18 k :=
  canon_rows _ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v20 v29 v31 cst_21 c0_i32 c26_i32 v44 v46 v48 v50 v52 v54 v56 v58 X_arg2 X_arg3 X_arg4 X_arg18) rfl fun k => by
    rw [pb_k0_t2_succ, trip_pieces]

end Trip

end Cert.Proof.Ker
-- ==== Proof.KerBlock.lean ====
/-
What one grid point writes, as a function of its blocks: at row r and column o the sum over the sixteen weights p of row p·128 + r of the
scratch of partial sums against the p-th block of the last matrix, and the bias.
-/
module

public import proofs.«01_k».proof.Proof.KerTrip

@[expose] public section

noncomputable section

namespace Cert.Proof.Ker

open Cert.KernelIdeal Cert.KernelIdeal.Gen Cert.KernelIdeal.Facts₀ Cert.KernelIdeal.Facts Idealize.ShloMosaic Idealize.ShloMosaic.TcCoe Idealize.SL.Sem Idealize.ShloMosaic.Pipeline

theorem sum_sixteen (f : Fin 16 → EReal) : ∑ p, f p
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The sixteen products and the bias added up. -/
theorem accumulate (B : Fin 16 → FVec Ideal S128x64 .f32) (W : Fin 16 → Vec Ideal S1x64x64 .f32) (v : Vec Ideal S1x64 .f32)
    (r : Fin 128) (o : Fin 64) :
    k0_pay1 (k0_pay44 (k0_pay43 (k0_pay42 k0_pay41 (B 0) (W 0) (B 1) (W 1) (B 2) (W 2) (B 3) (W 3) (B 4) (W 4))
      (B 5) (W 5) (B 6) (W 6) (B 7) (W 7) (B 8) (W 8) (B 9) (W 9) (B 10) (W 10))
      (B 11) (W 11) (B 12) (W 12) (B 13) (W 13) (B 14) (W 14) (B 15) (W 15)) (k0_pay45 v) (ix3 0 r o)
      = (∑ p : Fin 16, ∑ c : Fin 64, B p (ix2 r c) * W p (ix3 0 c o)) + v (ix2 0 o) := by
  rw [sum_sixteen]
  pointwise [k0_pay1, k0_pay44, k0_pay43, k0_pay42, k0_pay41, k0_pay45]

/-- The lower and upper end after the bisection, from the scores and the first two ends. -/
def bisect (s : FVec Ideal S16x8x1024 .f32) (lo hi : FVec Ideal S16x8x1 .f32) : FVec Ideal S16x8x1 .f32 × FVec Ideal S16x8x1 .f32 :=
  Scf.fold (n := 26)
    (fun _ (b : FVec Ideal S16x8x1 .f32 × FVec Ideal S16x8x1 .f32) =>
      (k0_pay25 s (FloatOps.ofBits .f32 1107296256#32) b.1 b.2, k0_pay26 s (FloatOps.ofBits .f32 1107296256#32) b.1 b.2)) (lo, hi)

/-- The points the kernel selects, 1 and 0. -/
def chosen (x0 x1 x2 x3 : Vec Ideal S1x16x8x1024 .f32) : FVec Ideal S16x8x1024 .f32 :=
  k0_pay27 (k0_pay20 x0 x1 x2 x3) (bisect (k0_pay20 x0 x1 x2 x3) (k0_pay21 x0 x1 x2) (k0_pay22 x0 x1 x2)).1

/-- What the trip of group `k` computes from the blocks. -/
def group (x0 x1 x2 x3 : Vec Ideal S1x16x8x1024 .f32) (x4 : Vec Ideal S1x1024x64 .f32) (x5 : Vec Ideal S256x24 .f32)
    (x6 : Vec Ideal S256x256 .f32) (x7 : Vec Ideal S128x256 .f32) (x8 : Vec Ideal S128x8 .f32) (x9 x10 : Vec Ideal S256x1 .f32)
    (x11 : Vec Ideal S128x1 .f32) (k : Fin k0_t2_loop.trips) : FVec Ideal S128x64 .f32 :=
  k0_pay5 (k0_pay31 x8) (k0_pay35 x4)
    (k0_pay2 (k0_pay28 x5) (k0_pay29 x6) (k0_pay30 x7) (k0_pay32 x9) (k0_pay33 x10) (k0_pay34 x11)
      (View.ld x0 (Rect.unit (s := S1x16x8x1024) (k0_off1 k) S1x1x8x1024.size (Gen.k0_off1_inb k))) (View.ld x1 (Rect.unit (s := S1x16x8x1024) (k0_off1 k) S1x1x8x1024.size (Gen.k0_off1_inb k)))
      (View.ld x2 (Rect.unit (s := S1x16x8x1024) (k0_off1 k) S1x1x8x1024.size (Gen.k0_off1_inb k))))
    (k0_pay3 (k0_pay28 x5) (k0_pay29 x6) (k0_pay30 x7) (k0_pay32 x9) (k0_pay33 x10) (k0_pay34 x11)
      (View.ld x0 (Rect.unit (s := S1x16x8x1024) (k0_off1 k) S1x1x8x1024.size (Gen.k0_off1_inb k))) (View.ld x1 (Rect.unit (s := S1x16x8x1024) (k0_off1 k) S1x1x8x1024.size (Gen.k0_off1_inb k)))
      (View.ld x2 (Rect.unit (s := S1x16x8x1024) (k0_off1 k) S1x1x8x1024.size (Gen.k0_off1_inb k))))
    k0_pay4 (View.ld (chosen x0 x1 x2 x3) (Rect.unit (s := S16x8x1024) (k0_off2 k) S1x8x1024.size (Gen.k0_off2_inb k)))

theorem rows_inb (p : Fin 16) : ∀ a, (![128 * p.val, 0] : Fin 2 → ℕ) a + S128x64.size a ≤ S2048x64.size a := by
  revert p; decide

theorem last_inb (p : Fin 16) : ∀ a, (![p.val, 0, 0] : Fin 3 → ℕ) a + S1x64x64.size a ≤ S16x64x64.size a := by
  revert p; decide

theorem block_ld (c : Dev nD) (i : grid0.Coords) (arg2 : Memref sig .tc .vmem S1x16x8x1024 .f32) (harg2 : arg2.IsWhole) (arg3 : Memref sig .tc .vmem S1x16x8x1024 .f32) (harg3 : arg3.IsWhole) (arg4 : Memref sig .tc .vmem S1x16x8x1024 .f32) (harg4 : arg4.IsWhole) (arg5 : Memref sig .tc .vmem S1x16x8x1024 .f32) (harg5 : arg5.IsWhole) (arg6 : Memref sig .tc .vmem S1x1024x64 .f32) (harg6 : arg6.IsWhole) (arg7 : Memref sig .tc .vmem S256x24 .f32) (harg7 : arg7.IsWhole) (arg8 : Memref sig .tc .vmem S256x256 .f32) (harg8 : arg8.IsWhole) (arg9 : Memref sig .tc .vmem S128x256 .f32) (harg9 : arg9.IsWhole) (arg10 : Memref sig .tc .vmem S128x8 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S128x1 .f32) (harg13 : arg13.IsWhole) (arg14 : Memref sig .tc .vmem S16x64x64 .f32) (harg14 : arg14.IsWhole) (arg15 : Memref sig .tc .vmem S1x64 .f32) (harg15 : arg15.IsWhole) (arg16 : Memref sig .tc .vmem S1x128x64 .f32) (harg16 : arg16.IsWhole) (arg17 : Memref sig .tc .vmem S2048x64 .f32) (harg17 : arg17.IsWhole) (arg18 : Memref sig .tc .vmem S16x8x1024 .f32) (harg18 : arg18.IsWhole)
    (x0 : Vec Ideal S1x16x8x1024 .f32) (x1 : Vec Ideal S1x16x8x1024 .f32) (x2 : Vec Ideal S1x16x8x1024 .f32) (x3 : Vec Ideal S1x16x8x1024 .f32) (x4 : Vec Ideal S1x1024x64 .f32) (x5 : Vec Ideal S256x24 .f32) (x6 : Vec Ideal S256x256 .f32) (x7 : Vec Ideal S128x256 .f32) (x8 : Vec Ideal S128x8 .f32) (x9 : Vec Ideal S256x1 .f32) (x10 : Vec Ideal S256x1 .f32) (x11 : Vec Ideal S128x1 .f32) (x12 : Vec Ideal S16x64x64 .f32) (x13 : Vec Ideal S1x64 .f32) (r : Fin 128) (o : Fin 64) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix3 0 r o)
    = (∑ p : Fin 16, ∑ e : Fin 64, rows (group x0 x1 x2 x3 x4 x5 x6 x7 x8 x9 x10 x11) ((Rect.unit (s := S2048x64) ![128 * p.val, 0] S128x64.size (rows_inb p)).idx (ix2 r e))
        * View.ld x12 (Rect.unit (s := S16x64x64) ![p.val, 0, 0] S1x64x64.size (last_inb p)) (ix3 0 e o)) + x13 (ix2 0 o) := by
  unfold out0_A_14
  rw [View.read_writes_junk_eq_canon]
  unfold kernelRun0_A
  dsimp only
  rw [View.canon_unit_zero (by decide)]
  simp only [kernelRun0_A.sl.r_7, kernelRun0_A.sl.r_8, kernelRun0_A.sl.r_6, kernelRun0_A.sl.r_5, kernelRun0_A.sl.r_4, View.readCov_eq_canon']
  rw [show Scf.trips k0_t2_loop.lb k0_t2_loop.ub k0_t2_loop.st = 16 from by decide, pb_rows]
  simp (disch := decide) only [trip_k0_t2.sl.r_2, trip_k0_t2.sl.r_1, trip_k0_t2.sl.r, kernelRun0_A.sl.HS1_1, kernelRun0_A.sl.r, kernelRun0_A.sl.r_1, kernelRun0_A.sl.r_2,
    kernelRun0_A.sl.r_3, kernelRun0_A.sl.cst_21, View.readAt_eq_ld, Memref.IsWhole.read_unread, View.read_writes_junk_eq_canon,
    View.ld_unit_lit', View.canon_cons_unit_lit']
  exact accumulate (fun p j => rows (group x0 x1 x2 x3 x4 x5 x6 x7 x8 x9 x10 x11) ((Rect.unit (s := S2048x64) ![128 * p.val, 0] S128x64.size (rows_inb p)).idx j))
    (fun p => View.ld x12 (Rect.unit (s := S16x64x64) ![p.val, 0, 0] S1x64x64.size (last_inb p))) x13 r o

/-- Row p·128 + g·8 + i of the scratch. -/
theorem rows_at (T : Fin k0_t2_loop.trips → FVec Ideal S128x64 .f32) (p g : Fin 16) (i : Fin 8) (e : Fin 64) :
    rows T ((Rect.unit (s := S2048x64) ![128 * p.val, 0] S128x64.size (rows_inb p)).idx (ix2 ⟨g.val * 8 + i.val, by omega⟩ e))
      = T g (ix2 ⟨p.val * 8 + i.val, by omega⟩ e) := by
  have h0 : ((Rect.unit (s := S2048x64) ![128 * p.val, 0] S128x64.size (rows_inb p)).idx (ix2 ⟨g.val * 8 + i.val, by omega⟩ e) 0).val
      = 128 * p.val + (g.val * 8 + i.val) := ValueKit.rect_emb_unit_val _ _ (rows_inb p) _ 0
  have h1 : (Rect.unit (s := S2048x64) ![128 * p.val, 0] S128x64.size (rows_inb p)).idx (ix2 ⟨g.val * 8 + i.val, by omega⟩ e) 1
      = e := Fin.ext ((ValueKit.rect_emb_unit_val _ _ (rows_inb p) _ 1).trans (Nat.zero_add _))
  refine congrArg₂ (fun g (i : S128x64.Idx) => T g i) (Fin.ext ?_) (funext fun a => Fin.ext ?_)
  · show _ % 128 / 8 = _
    rw [h0]; omega
  · fin_cases a
    · show _ / 128 * 8 + _ % 8 = _
      rw [h0]
      show _ = p.val * 8 + i.val
      omega
    · exact congrArg Fin.val h1

/-- Block p of the last matrix. -/
theorem last_at (x : Vec Ideal S16x64x64 .f32) (p : Fin 16) (e o : Fin 64) :
    View.ld x (Rect.unit (s := S16x64x64) ![p.val, 0, 0] S1x64x64.size (last_inb p)) (ix3 0 e o) = x (ix3 p e o) := by
  refine congrArg x (funext fun a => Fin.ext ?_)
  refine (ValueKit.rect_emb_unit_val _ _ (last_inb p) _ a).trans ?_
  fin_cases a
  · exact Nat.add_zero _
  · exact Nat.zero_add _
  · exact Nat.zero_add _

/-- WHAT A GRID POINT WRITES at query point u of group g. -/
theorem block_at (c : Dev nD) (i : grid0.Coords) (arg2 : Memref sig .tc .vmem S1x16x8x1024 .f32) (harg2 : arg2.IsWhole) (arg3 : Memref sig .tc .vmem S1x16x8x1024 .f32) (harg3 : arg3.IsWhole) (arg4 : Memref sig .tc .vmem S1x16x8x1024 .f32) (harg4 : arg4.IsWhole) (arg5 : Memref sig .tc .vmem S1x16x8x1024 .f32) (harg5 : arg5.IsWhole) (arg6 : Memref sig .tc .vmem S1x1024x64 .f32) (harg6 : arg6.IsWhole) (arg7 : Memref sig .tc .vmem S256x24 .f32) (harg7 : arg7.IsWhole) (arg8 : Memref sig .tc .vmem S256x256 .f32) (harg8 : arg8.IsWhole) (arg9 : Memref sig .tc .vmem S128x256 .f32) (harg9 : arg9.IsWhole) (arg10 : Memref sig .tc .vmem S128x8 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S128x1 .f32) (harg13 : arg13.IsWhole) (arg14 : Memref sig .tc .vmem S16x64x64 .f32) (harg14 : arg14.IsWhole) (arg15 : Memref sig .tc .vmem S1x64 .f32) (harg15 : arg15.IsWhole) (arg16 : Memref sig .tc .vmem S1x128x64 .f32) (harg16 : arg16.IsWhole) (arg17 : Memref sig .tc .vmem S2048x64 .f32) (harg17 : arg17.IsWhole) (arg18 : Memref sig .tc .vmem S16x8x1024 .f32) (harg18 : arg18.IsWhole)
    (x0 : Vec Ideal S1x16x8x1024 .f32) (x1 : Vec Ideal S1x16x8x1024 .f32) (x2 : Vec Ideal S1x16x8x1024 .f32) (x3 : Vec Ideal S1x16x8x1024 .f32) (x4 : Vec Ideal S1x1024x64 .f32) (x5 : Vec Ideal S256x24 .f32) (x6 : Vec Ideal S256x256 .f32) (x7 : Vec Ideal S128x256 .f32) (x8 : Vec Ideal S128x8 .f32) (x9 : Vec Ideal S256x1 .f32) (x10 : Vec Ideal S256x1 .f32) (x11 : Vec Ideal S128x1 .f32) (x12 : Vec Ideal S16x64x64 .f32) (x13 : Vec Ideal S1x64 .f32) (g : Fin 16) (u : Fin 8) (o : Fin 64) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix3 0 ⟨g.val * 8 + u.val, by omega⟩ o)
    = (∑ p : Fin 16, ∑ e : Fin 64, group x0 x1 x2 x3 x4 x5 x6 x7 x8 x9 x10 x11 g (ix2 ⟨p.val * 8 + u.val, by omega⟩ e) * x12 (ix3 p e o)) + x13 (ix2 0 o) :=
  (block_ld c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 ⟨g.val * 8 + u.val, by omega⟩ o).trans (congrArg (· + x13 (ix2 0 o))
    (Finset.sum_congr rfl fun p _ => Finset.sum_congr rfl fun e _ => congrArg₂ (· * ·) (rows_at _ p g u e) (last_at x12 p e o)))

end Cert.Proof.Ker
-- ==== Proof.KerNet.lean ====
/-
What the trip of one group of eight query points computes, read at a place: the block diagonal copies of the weight matrices keep the eight
points apart, so each entry is the network of one pair of points, kept where that pair is selected, summed against the features.
-/
module

public import proofs.«01_k».proof.Proof.KerBlock

@[expose] public section

noncomputable section

namespace Cert.Proof.Ker

open Cert.KernelIdeal Cert.KernelIdeal.Gen Cert.KernelIdeal.Facts₀ Cert.KernelIdeal.Facts Idealize.ShloMosaic Idealize.ShloMosaic.Pipeline

/-- Row u of the eight rows of weight p; unit h of the 32 of point u; coordinate d of point u. -/
def row (p : Fin 16) (u : Fin 8) : Fin 128 := ⟨p.val * 8 + u.val, by omega⟩
def unit (u : Fin 8) (h : Fin 32) : Fin 256 := ⟨u.val * 32 + h.val, by omega⟩
def coord (d : Fin 3) (u : Fin 8) : Fin 24 := ⟨d.val * 8 + u.val, by omega⟩

/-- The weights as the kernel is given them: a copy for each of the eight points on the diagonal, nothing off it. -/
structure Packed (w : Net) (x5 : Vec Ideal S256x24 .f32) (x6 : Vec Ideal S256x256 .f32) (x7 : Vec Ideal S128x256 .f32)
    (x8 : Vec Ideal S128x8 .f32) (x9 x10 : Vec Ideal S256x1 .f32) (x11 : Vec Ideal S128x1 .f32) : Prop where
  W1 : ∀ u h d u', x5 (ix2 (unit u h) (coord d u')) = if u' = u then w.W1 (ix2 d h) else 0
  W2 : ∀ u h u' h', x6 (ix2 (unit u h) (unit u' h')) = if u' = u then w.W2 (ix2 h' h) else 0
  W3 : ∀ p u u' h', x7 (ix2 (row p u) (unit u' h')) = if u' = u then w.W3 (ix2 h' p) else 0
  E : ∀ p u u', x8 (ix2 (row p u) u') = if u' = u then 1 else 0
  b1 : ∀ u h, x9 (ix2 (unit u h) 0) = w.b1 (ix1 h)
  b2 : ∀ u h, x10 (ix2 (unit u h) 0) = w.b2 (ix1 h)
  b3 : ∀ p u, x11 (ix2 (row p u) 0) = w.b3 (ix1 p)

theorem sum_units (f : Fin 256 → EReal) : ∑ k, f k = ∑ u, ∑ h, f (unit u h) := by
  rw [← (finProdFinEquiv (m := 8) (n := 32)).sum_comp f, Fintype.sum_prod_type]
  exact Finset.sum_congr rfl fun u _ => Finset.sum_congr rfl fun h _ => congrArg f (Fin.ext (by
    show h.val + 32 * u.val = u.val * 32 + h.val
    omega))

theorem sum_coords (f : Fin 24 → EReal) : ∑ k, f k = ∑ d, ∑ u, f (coord d u) := by
  rw [← (finProdFinEquiv (m := 3) (n := 8)).sum_comp f, Fintype.sum_prod_type]
  exact Finset.sum_congr rfl fun d _ => Finset.sum_congr rfl fun u _ => congrArg f (Fin.ext (by
    show u.val + 8 * d.val = d.val * 8 + u.val
    omega))

/-- A row of a block diagonal matrix against a column. -/
theorem diag_units {A : Fin 256 → EReal} {w : Fin 32 → EReal} {u : Fin 8} (hA : ∀ u' h', A (unit u' h') = if u' = u then w h' else 0)
    (F : Fin 256 → EReal) : ∑ k, A k * F k = ∑ h, F (unit u h) * w h := by
  rw [sum_units, Finset.sum_eq_single u]
  · exact Finset.sum_congr rfl fun h _ => by rw [hA, if_pos rfl, mul_comm]
  · exact fun u' _ hu => Finset.sum_eq_zero fun h _ => by rw [hA, if_neg hu, zero_mul]
  · exact fun hu => absurd (Finset.mem_univ u) hu

theorem diag_coords {A : Fin 24 → EReal} {w : Fin 3 → EReal} {u : Fin 8} (hA : ∀ d u', A (coord d u') = if u' = u then w d else 0)
    (F : Fin 24 → EReal) : ∑ k, A k * F k = ∑ d, F (coord d u) * w d := by
  rw [sum_coords]
  refine Finset.sum_congr rfl fun d _ => ?_
  rw [Finset.sum_eq_single u]
  · rw [hA, if_pos rfl, mul_comm]
  · exact fun u' _ hu => by rw [hA, if_neg hu, zero_mul]
  · exact fun hu => absurd (Finset.mem_univ u) hu

theorem diag_points {A : Fin 8 → EReal} {u : Fin 8} (hA : ∀ u', A u' = if u' = u then 1 else 0) (F : Fin 8 → EReal) :
    ∑ k, A k * F k = F u := by
  rw [Finset.sum_eq_single u]
  · rw [hA, if_pos rfl, one_mul]
  · exact fun u' _ hu => by rw [hA, if_neg hu, zero_mul]
  · exact fun hu => absurd (Finset.mem_univ u) hu

section

variable {w : Net} {x5 : Vec Ideal S256x24 .f32} {x6 : Vec Ideal S256x256 .f32} {x7 : Vec Ideal S128x256 .f32}
  {x8 : Vec Ideal S128x8 .f32} {x9 x10 : Vec Ideal S256x1 .f32} {x11 : Vec Ideal S128x1 .f32}
  (P : Packed w x5 x6 x7 x8 x9 x10 x11)

include P

/-- The last layer before its activation. -/
theorem net_at (X Y Z : Vec Ideal S1x1x8x1024 .f32) (p : Fin 16) (u : Fin 8) (n : Fin 1024) (x : Fin 3 → EReal)
    (hX : X (ix4 0 0 u n) = x 0) (hY : Y (ix4 0 0 u n) = x 1) (hZ : Z (ix4 0 0 u n) = x 2) :
    act (k0_pay2 (k0_pay28 x5) (k0_pay29 x6) (k0_pay30 x7) (k0_pay32 x9) (k0_pay33 x10) (k0_pay34 x11) X Y Z (ix2 (row p u) n)) = w.weight x p := by
  refine congrArg act ?_
  pointwise [k0_pay2, k0_pay28, k0_pay29, k0_pay30, k0_pay32, k0_pay33, k0_pay34]
  simp only [zero_sub]
  rw [P.b3, diag_units (P.W3 p u)]
  refine congrArg (· + _) (Finset.sum_congr rfl fun h _ => congrArg (· * _) ?_)
  refine congrArg act ?_
  rw [P.b2, diag_units (P.W2 u h)]
  refine congrArg (· + _) (Finset.sum_congr rfl fun h' _ => congrArg (· * _) ?_)
  refine congrArg act ?_
  rw [P.b1, diag_coords (P.W1 u h')]
  refine congrArg (· + _) (Finset.sum_congr rfl fun d _ => congrArg (· * _) ?_)
  fin_cases d
  · exact (dif_pos (show (0 * 8 + u.val) < 8 by omega)).trans ((congrArg X (congrArg (ix4 0 0 · n) (Fin.ext (show 0 * 8 + u.val = u.val by omega)))).trans hX)
  · refine (dif_neg (show ¬(1 * 8 + u.val) < 8 by omega)).trans ((dif_pos (show (1 * 8 + u.val - 8) < 8 by omega)).trans ?_)
    exact (congrArg Y (congrArg (ix4 0 0 · n) (Fin.ext (show 1 * 8 + u.val - 8 = u.val by omega)))).trans hY
  · refine (dif_neg (show ¬(2 * 8 + u.val) < 8 by omega)).trans ((dif_neg (show ¬(2 * 8 + u.val - 8) < 8 by omega)).trans ?_)
    exact (congrArg Z (congrArg (ix4 0 0 · n) (Fin.ext (show 2 * 8 + u.val - 8 - 8 = u.val by omega)))).trans hZ

end

theorem weight_at (v51 : FVec Ideal S128x8 .f32) (v59 : Vec Ideal S1x1024x64 .f32) (v183 v186: FVec Ideal S128x1024 .f32) (s : Vec Ideal S1x8x1024 .f32) (p : Fin 128) (e : Fin 64) :
    k0_pay5 (k0_pay31 v51) (k0_pay35 v59) v183 v186 k0_pay4 s (ix2 p e)
      = ∑ n, (v183 (ix2 p n) * Ideal.div 1 (1 + v186 (ix2 p n)) * ∑ u, v51 (ix2 p u) * s (ix3 0 u n)) * v59 (ix3 0 n e) := by
  pointwise [k0_pay5, k0_pay4, k0_pay31, k0_pay35]

theorem exp_at (v45 : FVec Ideal S256x24 .f32) (v47 : FVec Ideal S256x256 .f32) (v49 : FVec Ideal S128x256 .f32) (v53 v55 : FVec Ideal S256x1 .f32) (v57 : FVec Ideal S128x1 .f32)
    (a b c : Vec Ideal S1x1x8x1024 .f32) (p : Fin 128) (n : Fin 1024) :
    k0_pay3 v45 v47 v49 v53 v55 v57 a b c (ix2 p n) = Ideal.exp (-(k0_pay2 v45 v47 v49 v53 v55 v57 a b c (ix2 p n))) := by
  pointwise [k0_pay3]
  rw [zero_sub]

theorem off1 : ∀ (g : Fin k0_t2_loop.trips), k0_off1 g 0 = 0 ∧ k0_off1 g 1 = g.val ∧ k0_off1 g 2 = 0 ∧ k0_off1 g 3 = 0 := by decide +kernel
theorem off2 : ∀ (g : Fin k0_t2_loop.trips), k0_off2 g 0 = g.val ∧ k0_off2 g 1 = 0 ∧ k0_off2 g 2 = 0 := by decide +kernel

theorem ld_group (x : Vec Ideal S1x16x8x1024 .f32) (g : Fin k0_t2_loop.trips) (u : Fin 8) (n : Fin 1024) :
    View.ld x (Rect.unit (s := S1x16x8x1024) (k0_off1 g) S1x1x8x1024.size (Gen.k0_off1_inb g)) (ix4 0 0 u n) = x (ix4 0 g u n) := by
  obtain ⟨h0, h1, h2, h3⟩ := off1 g
  refine congrArg x (funext fun a => Fin.ext ?_)
  refine (ValueKit.rect_emb_unit_val _ _ (Gen.k0_off1_inb g) _ a).trans ?_
  fin_cases a
  · exact (congrArg (· + 0) h0).trans rfl
  · exact (congrArg (· + 0) h1).trans rfl
  · exact (congrArg (· + u.val) h2).trans (Nat.zero_add _)
  · exact (congrArg (· + n.val) h3).trans (Nat.zero_add _)

theorem ld_chosen (x : Vec Ideal S16x8x1024 .f32) (g : Fin k0_t2_loop.trips) (u : Fin 8) (n : Fin 1024) :
    View.ld x (Rect.unit (s := S16x8x1024) (k0_off2 g) S1x8x1024.size (Gen.k0_off2_inb g)) (ix3 0 u n) = x (ix3 g u n) := by
  obtain ⟨h0, h1, h2⟩ := off2 g
  refine congrArg x (funext fun a => Fin.ext ?_)
  refine (ValueKit.rect_emb_unit_val _ _ (Gen.k0_off2_inb g) _ a).trans ?_
  fin_cases a
  · exact (congrArg (· + 0) h0).trans rfl
  · exact (congrArg (· + u.val) h1).trans (Nat.zero_add _)
  · exact (congrArg (· + n.val) h2).trans (Nat.zero_add _)

/-- What the trip of group g holds at row u of weight p. -/
theorem group_at {w : Net} {x5 : Vec Ideal S256x24 .f32} {x6 : Vec Ideal S256x256 .f32} {x7 : Vec Ideal S128x256 .f32}
    {x8 : Vec Ideal S128x8 .f32} {x9 x10 : Vec Ideal S256x1 .f32} {x11 : Vec Ideal S128x1 .f32}
    (P : Packed w x5 x6 x7 x8 x9 x10 x11) (x0 x1 x2 x3 : Vec Ideal S1x16x8x1024 .f32) (x4 : Vec Ideal S1x1024x64 .f32)
    (g : Fin k0_t2_loop.trips) (p : Fin 16) (u : Fin 8) (e : Fin 64) (x : Fin 1024 → Fin 3 → EReal)
    (hX : ∀ n, x0 (ix4 0 g u n) = x n 0) (hY : ∀ n, x1 (ix4 0 g u n) = x n 1) (hZ : ∀ n, x2 (ix4 0 g u n) = x n 2) :
    group x0 x1 x2 x3 x4 x5 x6 x7 x8 x9 x10 x11 g (ix2 (row p u) e)
      = ∑ n, w.weight (x n) p * chosen x0 x1 x2 x3 (ix3 g u n) * x4 (ix3 0 n e) := by
  unfold group
  rw [weight_at]
  refine Finset.sum_congr rfl fun n _ => congrArg (· * _) (congrArg₂ (· * ·) ?_ ?_)
  · refine Eq.trans ?_ (net_at P _ _ _ p u n (x n) ((ld_group x0 g u n).trans (hX n)) ((ld_group x1 g u n).trans (hY n)) ((ld_group x2 g u n).trans (hZ n)))
    unfold act
    refine congrArg (fun z => _ * Ideal.div 1 (1 + z)) ?_
    exact exp_at ..
  · rw [diag_points (P.E p u)]
    exact ld_chosen _ g u n

end Cert.Proof.Ker
-- ==== Proof.Draw.lean ====
/-
The end of the draw of the noise, as one function of the two mixed words: the upper 23 bits become the fraction of a number in
[1, 2), from which 1 is taken.
-/
module

public import proofs.«01_k».proof.Proof.Gen.On_decided

@[expose] public section

noncomputable section

namespace Cert.Proof

open Cert.On_decided Cert.On_decided.Facts Idealize.ShloMosaic

instance decidedFacts : Cert.On_decided.Facts := Cert.On_decided.Gen.facts

variable {F : FTy → Type} [FloatOps F]

/-- The number of a drawn word, between the bounds `lo` and `hi`. -/
def toUnit (lo hi : FVec F S1x1x1 .f32) (p : IVec S4x1024x1024 32 × IVec S4x1024x1024 32) : FVec F S4x1024x1024 .f32 :=
  let bits := ori (Host.shrui (xori p.1 p.2) (broadcastInDim S4x1024x1024 ![] bcast_S_S4x1024x1024 (constantI S_ 32 9#32)))
    (broadcastInDim S4x1024x1024 ![] bcast_S_S4x1024x1024 (constantI S_ 32 1065353216#32))
  let unit := subf (bitcastToFloat .f32 bits) (broadcastInDim S4x1024x1024 ![] bcast_S_S4x1024x1024 (constant S_ .f32 0x3F800000#32))
  let low := broadcastInDim S4x1024x1024 ![0, 1, 2] bcast_S1x1x1_S4x1024x1024_0_1_2 lo
  maximumf low (addf (mulf unit (broadcastInDim S4x1024x1024 ![0, 1, 2] bcast_S1x1x1_S4x1024x1024_0_1_2 (subf hi lo))) low)

theorem fn_uniform_part1_eq (v2 v3 : FVec F S1x1x1 .f32) (v5 v7 : IVec S_ 32) (v18 v19 : IVec S4x1024x1024 64) :
    On_decided.fn_uniform_part1 (F := F) v2 v3 v5 v7 v18 v19 = toUnit v2 v3
      (On_decided.fn_threefry2x32 (F := F) v5 v7 (trunci 32 (Host.shrui v18 v19) natLt_32_64) (trunci 32 v18 natLt_32_64)) := rfl

end Cert.Proof

end
-- ==== Proof.KerNoise.lean ====
/-
The noise of the kernel is the drawn array of the predicate's own text: `On_decided.fn_uniform` of the key and the bounds. Read stretch by stretch
from the last one back: what a stretch leaves, fed to the rest of the draw, is the draw from that stretch on.
-/
module

public import proofs.«01_k».proof.Proof.Gen.KernelIdeal.Launch
public import Idealize.ShloMosaic.Lib.StableHlo.Run
public import proofs.«01_k».proof.Proof.Draw

@[expose] public section

noncomputable section

namespace Cert.Proof.Ker

open Cert.KernelIdeal Cert.KernelIdeal.Gen Idealize.ShloMosaic Idealize.ShloMosaic.TcCoe Idealize.SL.Sem Idealize.ShloMosaic.StableHlo

variable {F : FTy → Type} [FloatOps F]

/-- Words at every pair of points, and numbers there. -/
abbrev Words : BufTy := ⟨S4x1024x1024, .i32⟩
abbrev Longs : BufTy := ⟨S4x1024x1024, .i64⟩
abbrev Nums : BufTy := ⟨S4x1024x1024, .f32⟩

/-- The counters of the draw. -/
def drawOps : List (HloOp τ sig (Elt F)) :=
  [ TRef.unary (.of main_cst : TRef sig ⟨S_, .f32⟩) (.of main_call0_v0 : TRef sig ⟨S_, .f32⟩) id,
    TRef.unary (.of main_cst_2 : TRef sig ⟨S_, .f32⟩) (.of main_call0_v1 : TRef sig ⟨S_, .f32⟩) id,
    TRef.unary (.of main_call0_v0 : TRef sig ⟨S_, .f32⟩) (.of main_call0_v2 : TRef sig ⟨S1x1x1, .f32⟩) (broadcastInDim S1x1x1 ![] bcast_S_S1x1x1),
    TRef.unary (.of main_call0_v1 : TRef sig ⟨S_, .f32⟩) (.of main_call0_v3 : TRef sig ⟨S1x1x1, .f32⟩) (broadcastInDim S1x1x1 ![] bcast_S_S1x1x1),
    TRef.unary (.of main_v6 : TRef sig ⟨S2, .i32⟩) (.of main_call0_v4 : TRef sig ⟨S1, .i32⟩) (extractStridedSlice S1 ![0] · slices_S2_S1_0),
    TRef.reshape (.of main_call0_v4 : TRef sig ⟨S1, .i32⟩) (.of main_call0_v5 : TRef sig ⟨S_, .i32⟩) (rfl : (.i32 : EltTy) = .i32) shapeCasts_S1_S_,
    TRef.unary (.of main_v6 : TRef sig ⟨S2, .i32⟩) (.of main_call0_v6 : TRef sig ⟨S1, .i32⟩) (extractStridedSlice S1 ![1] · slices_S2_S1_1),
    TRef.reshape (.of main_call0_v6 : TRef sig ⟨S1, .i32⟩) (.of main_call0_v7 : TRef sig ⟨S_, .i32⟩) (rfl : (.i32 : EltTy) = .i32) shapeCasts_S1_S_,
    TRef.nullary (.of main_call0_v8 : TRef sig Longs) (iotaInDim S4x1024x1024 64 0),
    TRef.nullary (.of main_call0_v9 : TRef sig Longs) (iotaInDim S4x1024x1024 64 1),
    TRef.nullary (.of main_call0_v10 : TRef sig Longs) (iotaInDim S4x1024x1024 64 2),
    TRef.nullary (.of main_call0_c : TRef sig ⟨S_, .i64⟩) (constantI S_ 64 1048576#64),
    TRef.unary (.of main_call0_c : TRef sig ⟨S_, .i64⟩) (.of main_call0_v11 : TRef sig Longs) (broadcastInDim S4x1024x1024 ![] bcast_S_S4x1024x1024),
    TRef.binary (.of main_call0_v11 : TRef sig Longs) (.of main_call0_v8 : TRef sig Longs) (.of main_call0_v12 : TRef sig Longs) muli,
    TRef.nullary (.of main_call0_c_0 : TRef sig ⟨S_, .i64⟩) (constantI S_ 64 1024#64),
    TRef.unary (.of main_call0_c_0 : TRef sig ⟨S_, .i64⟩) (.of main_call0_v13 : TRef sig Longs) (broadcastInDim S4x1024x1024 ![] bcast_S_S4x1024x1024),
    TRef.binary (.of main_call0_v13 : TRef sig Longs) (.of main_call0_v9 : TRef sig Longs) (.of main_call0_v14 : TRef sig Longs) muli,
    TRef.nullary (.of main_call0_c_1 : TRef sig ⟨S_, .i64⟩) (constantI S_ 64 1#64),
    TRef.unary (.of main_call0_c_1 : TRef sig ⟨S_, .i64⟩) (.of main_call0_v15 : TRef sig Longs) (broadcastInDim S4x1024x1024 ![] bcast_S_S4x1024x1024),
    TRef.binary (.of main_call0_v15 : TRef sig Longs) (.of main_call0_v10 : TRef sig Longs) (.of main_call0_v16 : TRef sig Longs) muli,
    TRef.binary (.of main_call0_v12 : TRef sig Longs) (.of main_call0_v14 : TRef sig Longs) (.of main_call0_v17 : TRef sig Longs) addi,
    TRef.binary (.of main_call0_v17 : TRef sig Longs) (.of main_call0_v16 : TRef sig Longs) (.of main_call0_v18 : TRef sig Longs) addi,
    TRef.nullary (.of main_call0_c_2 : TRef sig ⟨S_, .i64⟩) (constantI S_ 64 32#64),
    TRef.unary (.of main_call0_c_2 : TRef sig ⟨S_, .i64⟩) (.of main_call0_v19 : TRef sig Longs) (broadcastInDim S4x1024x1024 ![] bcast_S_S4x1024x1024) ]

/-- The counters as two words. -/
def laneOps : List (HloOp τ sig (Elt F)) :=
  [ TRef.binary (.of main_call0_v18 : TRef sig Longs) (.of main_call0_v19 : TRef sig Longs) (.of main_call0_v20 : TRef sig Longs) Host.shrui,
    TRef.unary (.of main_call0_v18 : TRef sig Longs) (.of main_call0_v21 : TRef sig Words) (trunci 32 · natLt_32_64),
    TRef.unary (.of main_call0_v20 : TRef sig Longs) (.of main_call0_v22 : TRef sig Words) (trunci 32 · natLt_32_64) ]

/-- Mixing rounds, stretch 0 of 9. -/
def mix0Ops : List (HloOp τ sig (Elt F)) :=
  [ TRef.binary (.of main_call0_v5 : TRef sig ⟨S_, .i32⟩) (.of main_call0_v7 : TRef sig ⟨S_, .i32⟩) (.of main_call0_call0_v0 : TRef sig ⟨S_, .i32⟩) xori,
    TRef.nullary (.of main_call0_call0_c : TRef sig ⟨S_, .i32⟩) (constantI S_ 32 466688986#32),
    TRef.binary (.of main_call0_call0_v0 : TRef sig ⟨S_, .i32⟩) (.of main_call0_call0_c : TRef sig ⟨S_, .i32⟩) (.of main_call0_call0_v1 : TRef sig ⟨S_, .i32⟩) xori,
    TRef.unary (.of main_call0_v5 : TRef sig ⟨S_, .i32⟩) (.of main_call0_call0_v2 : TRef sig Words) (broadcastInDim S4x1024x1024 ![] bcast_S_S4x1024x1024),
    TRef.binary (.of main_call0_v22 : TRef sig Words) (.of main_call0_call0_v2 : TRef sig Words) (.of main_call0_call0_v3 : TRef sig Words) addi,
    TRef.unary (.of main_call0_v7 : TRef sig ⟨S_, .i32⟩) (.of main_call0_call0_v4 : TRef sig Words) (broadcastInDim S4x1024x1024 ![] bcast_S_S4x1024x1024),
    TRef.binary (.of main_call0_v21 : TRef sig Words) (.of main_call0_call0_v4 : TRef sig Words) (.of main_call0_call0_v5 : TRef sig Words) addi,
    TRef.binary (.of main_call0_call0_v3 : TRef sig Words) (.of main_call0_call0_v5 : TRef sig Words) (.of main_call0_call0_v6 : TRef sig Words) addi,
    TRef.nullary (.of main_call0_call0_c_0 : TRef sig ⟨S_, .i32⟩) (constantI S_ 32 13#32),
    TRef.unary (.of main_call0_call0_c_0 : TRef sig ⟨S_, .i32⟩) (.of main_call0_call0_v7 : TRef sig Words) (broadcastInDim S4x1024x1024 ![] bcast_S_S4x1024x1024),
    TRef.binary (.of main_call0_call0_v5 : TRef sig Words) (.of main_call0_call0_v7 : TRef sig Words) (.of main_call0_call0_v8 : TRef sig Words) Host.shli,
    TRef.nullary (.of main_call0_call0_c_1 : TRef sig ⟨S_, .i32⟩) (constantI S_ 32 19#32),
    TRef.unary (.of main_call0_call0_c_1 : TRef sig ⟨S_, .i32⟩) (.of main_call0_call0_v9 : TRef sig Words) (broadcastInDim S4x1024x1024 ![] bcast_S_S4x1024x1024),
    TRef.binary (.of main_call0_call0_v5 : TRef sig Words) (.of main_call0_call0_v9 : TRef sig Words) (.of main_call0_call0_v10 : TRef sig Words) Host.shrui,
    TRef.binary (.of main_call0_call0_v8 : TRef sig Words) (.of main_call0_call0_v10 : TRef sig Words) (.of main_call0_call0_v11 : TRef sig Words) ori,
    TRef.binary (.of main_call0_call0_v6 : TRef sig Words) (.of main_call0_call0_v11 : TRef sig Words) (.of main_call0_call0_v12 : TRef sig Words) xori,
    TRef.binary (.of main_call0_call0_v6 : TRef sig Words) (.of main_call0_call0_v12 : TRef sig Words) (.of main_call0_call0_v13 : TRef sig Words) addi,
    TRef.nullary (.of main_call0_call0_c_2 : TRef sig ⟨S_, .i32⟩) (constantI S_ 32 15#32),
    TRef.unary (.of main_call0_call0_c_2 : TRef sig ⟨S_, .i32⟩) (.of main_call0_call0_v14 : TRef sig Words) (broadcastInDim S4x1024x1024 ![] bcast_S_S4x1024x1024),
    TRef.binary (.of main_call0_call0_v12 : TRef sig Words) (.of main_call0_call0_v14 : TRef sig Words) (.of main_call0_call0_v15 : TRef sig Words) Host.shli,
    TRef.nullary (.of main_call0_call0_c_3 : TRef sig ⟨S_, .i32⟩) (constantI S_ 32 17#32),
    TRef.unary (.of main_call0_call0_c_3 : TRef sig ⟨S_, .i32⟩) (.of main_call0_call0_v16 : TRef sig Words) (broadcastInDim S4x1024x1024 ![] bcast_S_S4x1024x1024),
    TRef.binary (.of main_call0_call0_v12 : TRef sig Words) (.of main_call0_call0_v16 : TRef sig Words) (.of main_call0_call0_v17 : TRef sig Words) Host.shrui,
    TRef.binary (.of main_call0_call0_v15 : TRef sig Words) (.of main_call0_call0_v17 : TRef sig Words) (.of main_call0_call0_v18 : TRef sig Words) ori ]

/-- Mixing rounds, stretch 1 of 9. -/
def mix1Ops : List (HloOp τ sig (Elt F)) :=
  [ TRef.binary (.of main_call0_call0_v13 : TRef sig Words) (.of main_call0_call0_v18 : TRef sig Words) (.of main_call0_call0_v19 : TRef sig Words) xori,
    TRef.binary (.of main_call0_call0_v13 : TRef sig Words) (.of main_call0_call0_v19 : TRef sig Words) (.of main_call0_call0_v20 : TRef sig Words) addi,
    TRef.nullary (.of main_call0_call0_c_4 : TRef sig ⟨S_, .i32⟩) (constantI S_ 32 26#32),
    TRef.unary (.of main_call0_call0_c_4 : TRef sig ⟨S_, .i32⟩) (.of main_call0_call0_v21 : TRef sig Words) (broadcastInDim S4x1024x1024 ![] bcast_S_S4x1024x1024),
    TRef.binary (.of main_call0_call0_v19 : TRef sig Words) (.of main_call0_call0_v21 : TRef sig Words) (.of main_call0_call0_v22 : TRef sig Words) Host.shli,
    TRef.nullary (.of main_call0_call0_c_5 : TRef sig ⟨S_, .i32⟩) (constantI S_ 32 6#32),
    TRef.unary (.of main_call0_call0_c_5 : TRef sig ⟨S_, .i32⟩) (.of main_call0_call0_v23 : TRef sig Words) (broadcastInDim S4x1024x1024 ![] bcast_S_S4x1024x1024),
    TRef.binary (.of main_call0_call0_v19 : TRef sig Words) (.of main_call0_call0_v23 : TRef sig Words) (.of main_call0_call0_v24 : TRef sig Words) Host.shrui,
    TRef.binary (.of main_call0_call0_v22 : TRef sig Words) (.of main_call0_call0_v24 : TRef sig Words) (.of main_call0_call0_v25 : TRef sig Words) ori,
    TRef.binary (.of main_call0_call0_v20 : TRef sig Words) (.of main_call0_call0_v25 : TRef sig Words) (.of main_call0_call0_v26 : TRef sig Words) xori,
    TRef.binary (.of main_call0_call0_v20 : TRef sig Words) (.of main_call0_call0_v26 : TRef sig Words) (.of main_call0_call0_v27 : TRef sig Words) addi,
    TRef.nullary (.of main_call0_call0_c_6 : TRef sig ⟨S_, .i32⟩) (constantI S_ 32 6#32),
    TRef.unary (.of main_call0_call0_c_6 : TRef sig ⟨S_, .i32⟩) (.of main_call0_call0_v28 : TRef sig Words) (broadcastInDim S4x1024x1024 ![] bcast_S_S4x1024x1024),
    TRef.binary (.of main_call0_call0_v26 : TRef sig Words) (.of main_call0_call0_v28 : TRef sig Words) (.of main_call0_call0_v29 : TRef sig Words) Host.shli,
    TRef.nullary (.of main_call0_call0_c_7 : TRef sig ⟨S_, .i32⟩) (constantI S_ 32 26#32),
    TRef.unary (.of main_call0_call0_c_7 : TRef sig ⟨S_, .i32⟩) (.of main_call0_call0_v30 : TRef sig Words) (broadcastInDim S4x1024x1024 ![] bcast_S_S4x1024x1024),
    TRef.binary (.of main_call0_call0_v26 : TRef sig Words) (.of main_call0_call0_v30 : TRef sig Words) (.of main_call0_call0_v31 : TRef sig Words) Host.shrui,
    TRef.binary (.of main_call0_call0_v29 : TRef sig Words) (.of main_call0_call0_v31 : TRef sig Words) (.of main_call0_call0_v32 : TRef sig Words) ori,
    TRef.binary (.of main_call0_call0_v27 : TRef sig Words) (.of main_call0_call0_v32 : TRef sig Words) (.of main_call0_call0_v33 : TRef sig Words) xori,
    TRef.unary (.of main_call0_v7 : TRef sig ⟨S_, .i32⟩) (.of main_call0_call0_v34 : TRef sig Words) (broadcastInDim S4x1024x1024 ![] bcast_S_S4x1024x1024),
    TRef.binary (.of main_call0_call0_v27 : TRef sig Words) (.of main_call0_call0_v34 : TRef sig Words) (.of main_call0_call0_v35 : TRef sig Words) addi,
    TRef.unary (.of main_call0_call0_v1 : TRef sig ⟨S_, .i32⟩) (.of main_call0_call0_v36 : TRef sig Words) (broadcastInDim S4x1024x1024 ![] bcast_S_S4x1024x1024),
    TRef.binary (.of main_call0_call0_v33 : TRef sig Words) (.of main_call0_call0_v36 : TRef sig Words) (.of main_call0_call0_v37 : TRef sig Words) addi,
    TRef.nullary (.of main_call0_call0_c_8 : TRef sig ⟨S_, .i32⟩) (constantI S_ 32 1#32) ]

/-- Mixing rounds, stretch 2 of 9. -/
def mix2Ops : List (HloOp τ sig (Elt F)) :=
  [ TRef.unary (.of main_call0_call0_c_8 : TRef sig ⟨S_, .i32⟩) (.of main_call0_call0_v38 : TRef sig Words) (broadcastInDim S4x1024x1024 ![] bcast_S_S4x1024x1024),
    TRef.binary (.of main_call0_call0_v37 : TRef sig Words) (.of main_call0_call0_v38 : TRef sig Words) (.of main_call0_call0_v39 : TRef sig Words) addi,
    TRef.binary (.of main_call0_call0_v35 : TRef sig Words) (.of main_call0_call0_v39 : TRef sig Words) (.of main_call0_call0_v40 : TRef sig Words) addi,
    TRef.nullary (.of main_call0_call0_c_9 : TRef sig ⟨S_, .i32⟩) (constantI S_ 32 17#32),
    TRef.unary (.of main_call0_call0_c_9 : TRef sig ⟨S_, .i32⟩) (.of main_call0_call0_v41 : TRef sig Words) (broadcastInDim S4x1024x1024 ![] bcast_S_S4x1024x1024),
    TRef.binary (.of main_call0_call0_v39 : TRef sig Words) (.of main_call0_call0_v41 : TRef sig Words) (.of main_call0_call0_v42 : TRef sig Words) Host.shli,
    TRef.nullary (.of main_call0_call0_c_10 : TRef sig ⟨S_, .i32⟩) (constantI S_ 32 15#32),
    TRef.unary (.of main_call0_call0_c_10 : TRef sig ⟨S_, .i32⟩) (.of main_call0_call0_v43 : TRef sig Words) (broadcastInDim S4x1024x1024 ![] bcast_S_S4x1024x1024),
    TRef.binary (.of main_call0_call0_v39 : TRef sig Words) (.of main_call0_call0_v43 : TRef sig Words) (.of main_call0_call0_v44 : TRef sig Words) Host.shrui,
    TRef.binary (.of main_call0_call0_v42 : TRef sig Words) (.of main_call0_call0_v44 : TRef sig Words) (.of main_call0_call0_v45 : TRef sig Words) ori,
    TRef.binary (.of main_call0_call0_v40 : TRef sig Words) (.of main_call0_call0_v45 : TRef sig Words) (.of main_call0_call0_v46 : TRef sig Words) xori,
    TRef.binary (.of main_call0_call0_v40 : TRef sig Words) (.of main_call0_call0_v46 : TRef sig Words) (.of main_call0_call0_v47 : TRef sig Words) addi,
    TRef.nullary (.of main_call0_call0_c_11 : TRef sig ⟨S_, .i32⟩) (constantI S_ 32 29#32),
    TRef.unary (.of main_call0_call0_c_11 : TRef sig ⟨S_, .i32⟩) (.of main_call0_call0_v48 : TRef sig Words) (broadcastInDim S4x1024x1024 ![] bcast_S_S4x1024x1024),
    TRef.binary (.of main_call0_call0_v46 : TRef sig Words) (.of main_call0_call0_v48 : TRef sig Words) (.of main_call0_call0_v49 : TRef sig Words) Host.shli,
    TRef.nullary (.of main_call0_call0_c_12 : TRef sig ⟨S_, .i32⟩) (constantI S_ 32 3#32),
    TRef.unary (.of main_call0_call0_c_12 : TRef sig ⟨S_, .i32⟩) (.of main_call0_call0_v50 : TRef sig Words) (broadcastInDim S4x1024x1024 ![] bcast_S_S4x1024x1024),
    TRef.binary (.of main_call0_call0_v46 : TRef sig Words) (.of main_call0_call0_v50 : TRef sig Words) (.of main_call0_call0_v51 : TRef sig Words) Host.shrui,
    TRef.binary (.of main_call0_call0_v49 : TRef sig Words) (.of main_call0_call0_v51 : TRef sig Words) (.of main_call0_call0_v52 : TRef sig Words) ori,
    TRef.binary (.of main_call0_call0_v47 : TRef sig Words) (.of main_call0_call0_v52 : TRef sig Words) (.of main_call0_call0_v53 : TRef sig Words) xori,
    TRef.binary (.of main_call0_call0_v47 : TRef sig Words) (.of main_call0_call0_v53 : TRef sig Words) (.of main_call0_call0_v54 : TRef sig Words) addi,
    TRef.nullary (.of main_call0_call0_c_13 : TRef sig ⟨S_, .i32⟩) (constantI S_ 32 16#32),
    TRef.unary (.of main_call0_call0_c_13 : TRef sig ⟨S_, .i32⟩) (.of main_call0_call0_v55 : TRef sig Words) (broadcastInDim S4x1024x1024 ![] bcast_S_S4x1024x1024),
    TRef.binary (.of main_call0_call0_v53 : TRef sig Words) (.of main_call0_call0_v55 : TRef sig Words) (.of main_call0_call0_v56 : TRef sig Words) Host.shli ]

/-- Mixing rounds, stretch 3 of 9. -/
def mix3Ops : List (HloOp τ sig (Elt F)) :=
  [ TRef.nullary (.of main_call0_call0_c_14 : TRef sig ⟨S_, .i32⟩) (constantI S_ 32 16#32),
    TRef.unary (.of main_call0_call0_c_14 : TRef sig ⟨S_, .i32⟩) (.of main_call0_call0_v57 : TRef sig Words) (broadcastInDim S4x1024x1024 ![] bcast_S_S4x1024x1024),
    TRef.binary (.of main_call0_call0_v53 : TRef sig Words) (.of main_call0_call0_v57 : TRef sig Words) (.of main_call0_call0_v58 : TRef sig Words) Host.shrui,
    TRef.binary (.of main_call0_call0_v56 : TRef sig Words) (.of main_call0_call0_v58 : TRef sig Words) (.of main_call0_call0_v59 : TRef sig Words) ori,
    TRef.binary (.of main_call0_call0_v54 : TRef sig Words) (.of main_call0_call0_v59 : TRef sig Words) (.of main_call0_call0_v60 : TRef sig Words) xori,
    TRef.binary (.of main_call0_call0_v54 : TRef sig Words) (.of main_call0_call0_v60 : TRef sig Words) (.of main_call0_call0_v61 : TRef sig Words) addi,
    TRef.nullary (.of main_call0_call0_c_15 : TRef sig ⟨S_, .i32⟩) (constantI S_ 32 24#32),
    TRef.unary (.of main_call0_call0_c_15 : TRef sig ⟨S_, .i32⟩) (.of main_call0_call0_v62 : TRef sig Words) (broadcastInDim S4x1024x1024 ![] bcast_S_S4x1024x1024),
    TRef.binary (.of main_call0_call0_v60 : TRef sig Words) (.of main_call0_call0_v62 : TRef sig Words) (.of main_call0_call0_v63 : TRef sig Words) Host.shli,
    TRef.nullary (.of main_call0_call0_c_16 : TRef sig ⟨S_, .i32⟩) (constantI S_ 32 8#32),
    TRef.unary (.of main_call0_call0_c_16 : TRef sig ⟨S_, .i32⟩) (.of main_call0_call0_v64 : TRef sig Words) (broadcastInDim S4x1024x1024 ![] bcast_S_S4x1024x1024),
    TRef.binary (.of main_call0_call0_v60 : TRef sig Words) (.of main_call0_call0_v64 : TRef sig Words) (.of main_call0_call0_v65 : TRef sig Words) Host.shrui,
    TRef.binary (.of main_call0_call0_v63 : TRef sig Words) (.of main_call0_call0_v65 : TRef sig Words) (.of main_call0_call0_v66 : TRef sig Words) ori,
    TRef.binary (.of main_call0_call0_v61 : TRef sig Words) (.of main_call0_call0_v66 : TRef sig Words) (.of main_call0_call0_v67 : TRef sig Words) xori,
    TRef.unary (.of main_call0_call0_v1 : TRef sig ⟨S_, .i32⟩) (.of main_call0_call0_v68 : TRef sig Words) (broadcastInDim S4x1024x1024 ![] bcast_S_S4x1024x1024),
    TRef.binary (.of main_call0_call0_v61 : TRef sig Words) (.of main_call0_call0_v68 : TRef sig Words) (.of main_call0_call0_v69 : TRef sig Words) addi,
    TRef.unary (.of main_call0_v5 : TRef sig ⟨S_, .i32⟩) (.of main_call0_call0_v70 : TRef sig Words) (broadcastInDim S4x1024x1024 ![] bcast_S_S4x1024x1024),
    TRef.binary (.of main_call0_call0_v67 : TRef sig Words) (.of main_call0_call0_v70 : TRef sig Words) (.of main_call0_call0_v71 : TRef sig Words) addi,
    TRef.nullary (.of main_call0_call0_c_17 : TRef sig ⟨S_, .i32⟩) (constantI S_ 32 2#32),
    TRef.unary (.of main_call0_call0_c_17 : TRef sig ⟨S_, .i32⟩) (.of main_call0_call0_v72 : TRef sig Words) (broadcastInDim S4x1024x1024 ![] bcast_S_S4x1024x1024),
    TRef.binary (.of main_call0_call0_v71 : TRef sig Words) (.of main_call0_call0_v72 : TRef sig Words) (.of main_call0_call0_v73 : TRef sig Words) addi,
    TRef.binary (.of main_call0_call0_v69 : TRef sig Words) (.of main_call0_call0_v73 : TRef sig Words) (.of main_call0_call0_v74 : TRef sig Words) addi,
    TRef.nullary (.of main_call0_call0_c_18 : TRef sig ⟨S_, .i32⟩) (constantI S_ 32 13#32),
    TRef.unary (.of main_call0_call0_c_18 : TRef sig ⟨S_, .i32⟩) (.of main_call0_call0_v75 : TRef sig Words) (broadcastInDim S4x1024x1024 ![] bcast_S_S4x1024x1024) ]

/-- Mixing rounds, stretch 4 of 9. -/
def mix4Ops : List (HloOp τ sig (Elt F)) :=
  [ TRef.binary (.of main_call0_call0_v73 : TRef sig Words) (.of main_call0_call0_v75 : TRef sig Words) (.of main_call0_call0_v76 : TRef sig Words) Host.shli,
    TRef.nullary (.of main_call0_call0_c_19 : TRef sig ⟨S_, .i32⟩) (constantI S_ 32 19#32),
    TRef.unary (.of main_call0_call0_c_19 : TRef sig ⟨S_, .i32⟩) (.of main_call0_call0_v77 : TRef sig Words) (broadcastInDim S4x1024x1024 ![] bcast_S_S4x1024x1024),
    TRef.binary (.of main_call0_call0_v73 : TRef sig Words) (.of main_call0_call0_v77 : TRef sig Words) (.of main_call0_call0_v78 : TRef sig Words) Host.shrui,
    TRef.binary (.of main_call0_call0_v76 : TRef sig Words) (.of main_call0_call0_v78 : TRef sig Words) (.of main_call0_call0_v79 : TRef sig Words) ori,
    TRef.binary (.of main_call0_call0_v74 : TRef sig Words) (.of main_call0_call0_v79 : TRef sig Words) (.of main_call0_call0_v80 : TRef sig Words) xori,
    TRef.binary (.of main_call0_call0_v74 : TRef sig Words) (.of main_call0_call0_v80 : TRef sig Words) (.of main_call0_call0_v81 : TRef sig Words) addi,
    TRef.nullary (.of main_call0_call0_c_20 : TRef sig ⟨S_, .i32⟩) (constantI S_ 32 15#32),
    TRef.unary (.of main_call0_call0_c_20 : TRef sig ⟨S_, .i32⟩) (.of main_call0_call0_v82 : TRef sig Words) (broadcastInDim S4x1024x1024 ![] bcast_S_S4x1024x1024),
    TRef.binary (.of main_call0_call0_v80 : TRef sig Words) (.of main_call0_call0_v82 : TRef sig Words) (.of main_call0_call0_v83 : TRef sig Words) Host.shli,
    TRef.nullary (.of main_call0_call0_c_21 : TRef sig ⟨S_, .i32⟩) (constantI S_ 32 17#32),
    TRef.unary (.of main_call0_call0_c_21 : TRef sig ⟨S_, .i32⟩) (.of main_call0_call0_v84 : TRef sig Words) (broadcastInDim S4x1024x1024 ![] bcast_S_S4x1024x1024),
    TRef.binary (.of main_call0_call0_v80 : TRef sig Words) (.of main_call0_call0_v84 : TRef sig Words) (.of main_call0_call0_v85 : TRef sig Words) Host.shrui,
    TRef.binary (.of main_call0_call0_v83 : TRef sig Words) (.of main_call0_call0_v85 : TRef sig Words) (.of main_call0_call0_v86 : TRef sig Words) ori,
    TRef.binary (.of main_call0_call0_v81 : TRef sig Words) (.of main_call0_call0_v86 : TRef sig Words) (.of main_call0_call0_v87 : TRef sig Words) xori,
    TRef.binary (.of main_call0_call0_v81 : TRef sig Words) (.of main_call0_call0_v87 : TRef sig Words) (.of main_call0_call0_v88 : TRef sig Words) addi,
    TRef.nullary (.of main_call0_call0_c_22 : TRef sig ⟨S_, .i32⟩) (constantI S_ 32 26#32),
    TRef.unary (.of main_call0_call0_c_22 : TRef sig ⟨S_, .i32⟩) (.of main_call0_call0_v89 : TRef sig Words) (broadcastInDim S4x1024x1024 ![] bcast_S_S4x1024x1024),
    TRef.binary (.of main_call0_call0_v87 : TRef sig Words) (.of main_call0_call0_v89 : TRef sig Words) (.of main_call0_call0_v90 : TRef sig Words) Host.shli,
    TRef.nullary (.of main_call0_call0_c_23 : TRef sig ⟨S_, .i32⟩) (constantI S_ 32 6#32),
    TRef.unary (.of main_call0_call0_c_23 : TRef sig ⟨S_, .i32⟩) (.of main_call0_call0_v91 : TRef sig Words) (broadcastInDim S4x1024x1024 ![] bcast_S_S4x1024x1024),
    TRef.binary (.of main_call0_call0_v87 : TRef sig Words) (.of main_call0_call0_v91 : TRef sig Words) (.of main_call0_call0_v92 : TRef sig Words) Host.shrui,
    TRef.binary (.of main_call0_call0_v90 : TRef sig Words) (.of main_call0_call0_v92 : TRef sig Words) (.of main_call0_call0_v93 : TRef sig Words) ori,
    TRef.binary (.of main_call0_call0_v88 : TRef sig Words) (.of main_call0_call0_v93 : TRef sig Words) (.of main_call0_call0_v94 : TRef sig Words) xori ]

/-- Mixing rounds, stretch 5 of 9. -/
def mix5Ops : List (HloOp τ sig (Elt F)) :=
  [ TRef.binary (.of main_call0_call0_v88 : TRef sig Words) (.of main_call0_call0_v94 : TRef sig Words) (.of main_call0_call0_v95 : TRef sig Words) addi,
    TRef.nullary (.of main_call0_call0_c_24 : TRef sig ⟨S_, .i32⟩) (constantI S_ 32 6#32),
    TRef.unary (.of main_call0_call0_c_24 : TRef sig ⟨S_, .i32⟩) (.of main_call0_call0_v96 : TRef sig Words) (broadcastInDim S4x1024x1024 ![] bcast_S_S4x1024x1024),
    TRef.binary (.of main_call0_call0_v94 : TRef sig Words) (.of main_call0_call0_v96 : TRef sig Words) (.of main_call0_call0_v97 : TRef sig Words) Host.shli,
    TRef.nullary (.of main_call0_call0_c_25 : TRef sig ⟨S_, .i32⟩) (constantI S_ 32 26#32),
    TRef.unary (.of main_call0_call0_c_25 : TRef sig ⟨S_, .i32⟩) (.of main_call0_call0_v98 : TRef sig Words) (broadcastInDim S4x1024x1024 ![] bcast_S_S4x1024x1024),
    TRef.binary (.of main_call0_call0_v94 : TRef sig Words) (.of main_call0_call0_v98 : TRef sig Words) (.of main_call0_call0_v99 : TRef sig Words) Host.shrui,
    TRef.binary (.of main_call0_call0_v97 : TRef sig Words) (.of main_call0_call0_v99 : TRef sig Words) (.of main_call0_call0_v100 : TRef sig Words) ori,
    TRef.binary (.of main_call0_call0_v95 : TRef sig Words) (.of main_call0_call0_v100 : TRef sig Words) (.of main_call0_call0_v101 : TRef sig Words) xori,
    TRef.unary (.of main_call0_v5 : TRef sig ⟨S_, .i32⟩) (.of main_call0_call0_v102 : TRef sig Words) (broadcastInDim S4x1024x1024 ![] bcast_S_S4x1024x1024),
    TRef.binary (.of main_call0_call0_v95 : TRef sig Words) (.of main_call0_call0_v102 : TRef sig Words) (.of main_call0_call0_v103 : TRef sig Words) addi,
    TRef.unary (.of main_call0_v7 : TRef sig ⟨S_, .i32⟩) (.of main_call0_call0_v104 : TRef sig Words) (broadcastInDim S4x1024x1024 ![] bcast_S_S4x1024x1024),
    TRef.binary (.of main_call0_call0_v101 : TRef sig Words) (.of main_call0_call0_v104 : TRef sig Words) (.of main_call0_call0_v105 : TRef sig Words) addi,
    TRef.nullary (.of main_call0_call0_c_26 : TRef sig ⟨S_, .i32⟩) (constantI S_ 32 3#32),
    TRef.unary (.of main_call0_call0_c_26 : TRef sig ⟨S_, .i32⟩) (.of main_call0_call0_v106 : TRef sig Words) (broadcastInDim S4x1024x1024 ![] bcast_S_S4x1024x1024),
    TRef.binary (.of main_call0_call0_v105 : TRef sig Words) (.of main_call0_call0_v106 : TRef sig Words) (.of main_call0_call0_v107 : TRef sig Words) addi,
    TRef.binary (.of main_call0_call0_v103 : TRef sig Words) (.of main_call0_call0_v107 : TRef sig Words) (.of main_call0_call0_v108 : TRef sig Words) addi,
    TRef.nullary (.of main_call0_call0_c_27 : TRef sig ⟨S_, .i32⟩) (constantI S_ 32 17#32),
    TRef.unary (.of main_call0_call0_c_27 : TRef sig ⟨S_, .i32⟩) (.of main_call0_call0_v109 : TRef sig Words) (broadcastInDim S4x1024x1024 ![] bcast_S_S4x1024x1024),
    TRef.binary (.of main_call0_call0_v107 : TRef sig Words) (.of main_call0_call0_v109 : TRef sig Words) (.of main_call0_call0_v110 : TRef sig Words) Host.shli,
    TRef.nullary (.of main_call0_call0_c_28 : TRef sig ⟨S_, .i32⟩) (constantI S_ 32 15#32),
    TRef.unary (.of main_call0_call0_c_28 : TRef sig ⟨S_, .i32⟩) (.of main_call0_call0_v111 : TRef sig Words) (broadcastInDim S4x1024x1024 ![] bcast_S_S4x1024x1024),
    TRef.binary (.of main_call0_call0_v107 : TRef sig Words) (.of main_call0_call0_v111 : TRef sig Words) (.of main_call0_call0_v112 : TRef sig Words) Host.shrui,
    TRef.binary (.of main_call0_call0_v110 : TRef sig Words) (.of main_call0_call0_v112 : TRef sig Words) (.of main_call0_call0_v113 : TRef sig Words) ori ]

/-- Mixing rounds, stretch 6 of 9. -/
def mix6Ops : List (HloOp τ sig (Elt F)) :=
  [ TRef.binary (.of main_call0_call0_v108 : TRef sig Words) (.of main_call0_call0_v113 : TRef sig Words) (.of main_call0_call0_v114 : TRef sig Words) xori,
    TRef.binary (.of main_call0_call0_v108 : TRef sig Words) (.of main_call0_call0_v114 : TRef sig Words) (.of main_call0_call0_v115 : TRef sig Words) addi,
    TRef.nullary (.of main_call0_call0_c_29 : TRef sig ⟨S_, .i32⟩) (constantI S_ 32 29#32),
    TRef.unary (.of main_call0_call0_c_29 : TRef sig ⟨S_, .i32⟩) (.of main_call0_call0_v116 : TRef sig Words) (broadcastInDim S4x1024x1024 ![] bcast_S_S4x1024x1024),
    TRef.binary (.of main_call0_call0_v114 : TRef sig Words) (.of main_call0_call0_v116 : TRef sig Words) (.of main_call0_call0_v117 : TRef sig Words) Host.shli,
    TRef.nullary (.of main_call0_call0_c_30 : TRef sig ⟨S_, .i32⟩) (constantI S_ 32 3#32),
    TRef.unary (.of main_call0_call0_c_30 : TRef sig ⟨S_, .i32⟩) (.of main_call0_call0_v118 : TRef sig Words) (broadcastInDim S4x1024x1024 ![] bcast_S_S4x1024x1024),
    TRef.binary (.of main_call0_call0_v114 : TRef sig Words) (.of main_call0_call0_v118 : TRef sig Words) (.of main_call0_call0_v119 : TRef sig Words) Host.shrui,
    TRef.binary (.of main_call0_call0_v117 : TRef sig Words) (.of main_call0_call0_v119 : TRef sig Words) (.of main_call0_call0_v120 : TRef sig Words) ori,
    TRef.binary (.of main_call0_call0_v115 : TRef sig Words) (.of main_call0_call0_v120 : TRef sig Words) (.of main_call0_call0_v121 : TRef sig Words) xori,
    TRef.binary (.of main_call0_call0_v115 : TRef sig Words) (.of main_call0_call0_v121 : TRef sig Words) (.of main_call0_call0_v122 : TRef sig Words) addi,
    TRef.nullary (.of main_call0_call0_c_31 : TRef sig ⟨S_, .i32⟩) (constantI S_ 32 16#32),
    TRef.unary (.of main_call0_call0_c_31 : TRef sig ⟨S_, .i32⟩) (.of main_call0_call0_v123 : TRef sig Words) (broadcastInDim S4x1024x1024 ![] bcast_S_S4x1024x1024),
    TRef.binary (.of main_call0_call0_v121 : TRef sig Words) (.of main_call0_call0_v123 : TRef sig Words) (.of main_call0_call0_v124 : TRef sig Words) Host.shli,
    TRef.nullary (.of main_call0_call0_c_32 : TRef sig ⟨S_, .i32⟩) (constantI S_ 32 16#32),
    TRef.unary (.of main_call0_call0_c_32 : TRef sig ⟨S_, .i32⟩) (.of main_call0_call0_v125 : TRef sig Words) (broadcastInDim S4x1024x1024 ![] bcast_S_S4x1024x1024),
    TRef.binary (.of main_call0_call0_v121 : TRef sig Words) (.of main_call0_call0_v125 : TRef sig Words) (.of main_call0_call0_v126 : TRef sig Words) Host.shrui,
    TRef.binary (.of main_call0_call0_v124 : TRef sig Words) (.of main_call0_call0_v126 : TRef sig Words) (.of main_call0_call0_v127 : TRef sig Words) ori,
    TRef.binary (.of main_call0_call0_v122 : TRef sig Words) (.of main_call0_call0_v127 : TRef sig Words) (.of main_call0_call0_v128 : TRef sig Words) xori,
    TRef.binary (.of main_call0_call0_v122 : TRef sig Words) (.of main_call0_call0_v128 : TRef sig Words) (.of main_call0_call0_v129 : TRef sig Words) addi,
    TRef.nullary (.of main_call0_call0_c_33 : TRef sig ⟨S_, .i32⟩) (constantI S_ 32 24#32),
    TRef.unary (.of main_call0_call0_c_33 : TRef sig ⟨S_, .i32⟩) (.of main_call0_call0_v130 : TRef sig Words) (broadcastInDim S4x1024x1024 ![] bcast_S_S4x1024x1024),
    TRef.binary (.of main_call0_call0_v128 : TRef sig Words) (.of main_call0_call0_v130 : TRef sig Words) (.of main_call0_call0_v131 : TRef sig Words) Host.shli,
    TRef.nullary (.of main_call0_call0_c_34 : TRef sig ⟨S_, .i32⟩) (constantI S_ 32 8#32) ]

/-- Mixing rounds, stretch 7 of 9. -/
def mix7Ops : List (HloOp τ sig (Elt F)) :=
  [ TRef.unary (.of main_call0_call0_c_34 : TRef sig ⟨S_, .i32⟩) (.of main_call0_call0_v132 : TRef sig Words) (broadcastInDim S4x1024x1024 ![] bcast_S_S4x1024x1024),
    TRef.binary (.of main_call0_call0_v128 : TRef sig Words) (.of main_call0_call0_v132 : TRef sig Words) (.of main_call0_call0_v133 : TRef sig Words) Host.shrui,
    TRef.binary (.of main_call0_call0_v131 : TRef sig Words) (.of main_call0_call0_v133 : TRef sig Words) (.of main_call0_call0_v134 : TRef sig Words) ori,
    TRef.binary (.of main_call0_call0_v129 : TRef sig Words) (.of main_call0_call0_v134 : TRef sig Words) (.of main_call0_call0_v135 : TRef sig Words) xori,
    TRef.unary (.of main_call0_v7 : TRef sig ⟨S_, .i32⟩) (.of main_call0_call0_v136 : TRef sig Words) (broadcastInDim S4x1024x1024 ![] bcast_S_S4x1024x1024),
    TRef.binary (.of main_call0_call0_v129 : TRef sig Words) (.of main_call0_call0_v136 : TRef sig Words) (.of main_call0_call0_v137 : TRef sig Words) addi,
    TRef.unary (.of main_call0_call0_v1 : TRef sig ⟨S_, .i32⟩) (.of main_call0_call0_v138 : TRef sig Words) (broadcastInDim S4x1024x1024 ![] bcast_S_S4x1024x1024),
    TRef.binary (.of main_call0_call0_v135 : TRef sig Words) (.of main_call0_call0_v138 : TRef sig Words) (.of main_call0_call0_v139 : TRef sig Words) addi,
    TRef.nullary (.of main_call0_call0_c_35 : TRef sig ⟨S_, .i32⟩) (constantI S_ 32 4#32),
    TRef.unary (.of main_call0_call0_c_35 : TRef sig ⟨S_, .i32⟩) (.of main_call0_call0_v140 : TRef sig Words) (broadcastInDim S4x1024x1024 ![] bcast_S_S4x1024x1024),
    TRef.binary (.of main_call0_call0_v139 : TRef sig Words) (.of main_call0_call0_v140 : TRef sig Words) (.of main_call0_call0_v141 : TRef sig Words) addi,
    TRef.binary (.of main_call0_call0_v137 : TRef sig Words) (.of main_call0_call0_v141 : TRef sig Words) (.of main_call0_call0_v142 : TRef sig Words) addi,
    TRef.nullary (.of main_call0_call0_c_36 : TRef sig ⟨S_, .i32⟩) (constantI S_ 32 13#32),
    TRef.unary (.of main_call0_call0_c_36 : TRef sig ⟨S_, .i32⟩) (.of main_call0_call0_v143 : TRef sig Words) (broadcastInDim S4x1024x1024 ![] bcast_S_S4x1024x1024),
    TRef.binary (.of main_call0_call0_v141 : TRef sig Words) (.of main_call0_call0_v143 : TRef sig Words) (.of main_call0_call0_v144 : TRef sig Words) Host.shli,
    TRef.nullary (.of main_call0_call0_c_37 : TRef sig ⟨S_, .i32⟩) (constantI S_ 32 19#32),
    TRef.unary (.of main_call0_call0_c_37 : TRef sig ⟨S_, .i32⟩) (.of main_call0_call0_v145 : TRef sig Words) (broadcastInDim S4x1024x1024 ![] bcast_S_S4x1024x1024),
    TRef.binary (.of main_call0_call0_v141 : TRef sig Words) (.of main_call0_call0_v145 : TRef sig Words) (.of main_call0_call0_v146 : TRef sig Words) Host.shrui,
    TRef.binary (.of main_call0_call0_v144 : TRef sig Words) (.of main_call0_call0_v146 : TRef sig Words) (.of main_call0_call0_v147 : TRef sig Words) ori,
    TRef.binary (.of main_call0_call0_v142 : TRef sig Words) (.of main_call0_call0_v147 : TRef sig Words) (.of main_call0_call0_v148 : TRef sig Words) xori,
    TRef.binary (.of main_call0_call0_v142 : TRef sig Words) (.of main_call0_call0_v148 : TRef sig Words) (.of main_call0_call0_v149 : TRef sig Words) addi,
    TRef.nullary (.of main_call0_call0_c_38 : TRef sig ⟨S_, .i32⟩) (constantI S_ 32 15#32),
    TRef.unary (.of main_call0_call0_c_38 : TRef sig ⟨S_, .i32⟩) (.of main_call0_call0_v150 : TRef sig Words) (broadcastInDim S4x1024x1024 ![] bcast_S_S4x1024x1024),
    TRef.binary (.of main_call0_call0_v148 : TRef sig Words) (.of main_call0_call0_v150 : TRef sig Words) (.of main_call0_call0_v151 : TRef sig Words) Host.shli ]

/-- Mixing rounds, stretch 8 of 9. -/
def mix8Ops : List (HloOp τ sig (Elt F)) :=
  [ TRef.nullary (.of main_call0_call0_c_39 : TRef sig ⟨S_, .i32⟩) (constantI S_ 32 17#32),
    TRef.unary (.of main_call0_call0_c_39 : TRef sig ⟨S_, .i32⟩) (.of main_call0_call0_v152 : TRef sig Words) (broadcastInDim S4x1024x1024 ![] bcast_S_S4x1024x1024),
    TRef.binary (.of main_call0_call0_v148 : TRef sig Words) (.of main_call0_call0_v152 : TRef sig Words) (.of main_call0_call0_v153 : TRef sig Words) Host.shrui,
    TRef.binary (.of main_call0_call0_v151 : TRef sig Words) (.of main_call0_call0_v153 : TRef sig Words) (.of main_call0_call0_v154 : TRef sig Words) ori,
    TRef.binary (.of main_call0_call0_v149 : TRef sig Words) (.of main_call0_call0_v154 : TRef sig Words) (.of main_call0_call0_v155 : TRef sig Words) xori,
    TRef.binary (.of main_call0_call0_v149 : TRef sig Words) (.of main_call0_call0_v155 : TRef sig Words) (.of main_call0_call0_v156 : TRef sig Words) addi,
    TRef.nullary (.of main_call0_call0_c_40 : TRef sig ⟨S_, .i32⟩) (constantI S_ 32 26#32),
    TRef.unary (.of main_call0_call0_c_40 : TRef sig ⟨S_, .i32⟩) (.of main_call0_call0_v157 : TRef sig Words) (broadcastInDim S4x1024x1024 ![] bcast_S_S4x1024x1024),
    TRef.binary (.of main_call0_call0_v155 : TRef sig Words) (.of main_call0_call0_v157 : TRef sig Words) (.of main_call0_call0_v158 : TRef sig Words) Host.shli,
    TRef.nullary (.of main_call0_call0_c_41 : TRef sig ⟨S_, .i32⟩) (constantI S_ 32 6#32),
    TRef.unary (.of main_call0_call0_c_41 : TRef sig ⟨S_, .i32⟩) (.of main_call0_call0_v159 : TRef sig Words) (broadcastInDim S4x1024x1024 ![] bcast_S_S4x1024x1024),
    TRef.binary (.of main_call0_call0_v155 : TRef sig Words) (.of main_call0_call0_v159 : TRef sig Words) (.of main_call0_call0_v160 : TRef sig Words) Host.shrui,
    TRef.binary (.of main_call0_call0_v158 : TRef sig Words) (.of main_call0_call0_v160 : TRef sig Words) (.of main_call0_call0_v161 : TRef sig Words) ori,
    TRef.binary (.of main_call0_call0_v156 : TRef sig Words) (.of main_call0_call0_v161 : TRef sig Words) (.of main_call0_call0_v162 : TRef sig Words) xori,
    TRef.binary (.of main_call0_call0_v156 : TRef sig Words) (.of main_call0_call0_v162 : TRef sig Words) (.of main_call0_call0_v163 : TRef sig Words) addi,
    TRef.nullary (.of main_call0_call0_c_42 : TRef sig ⟨S_, .i32⟩) (constantI S_ 32 6#32),
    TRef.unary (.of main_call0_call0_c_42 : TRef sig ⟨S_, .i32⟩) (.of main_call0_call0_v164 : TRef sig Words) (broadcastInDim S4x1024x1024 ![] bcast_S_S4x1024x1024),
    TRef.binary (.of main_call0_call0_v162 : TRef sig Words) (.of main_call0_call0_v164 : TRef sig Words) (.of main_call0_call0_v165 : TRef sig Words) Host.shli,
    TRef.nullary (.of main_call0_call0_c_43 : TRef sig ⟨S_, .i32⟩) (constantI S_ 32 26#32),
    TRef.unary (.of main_call0_call0_c_43 : TRef sig ⟨S_, .i32⟩) (.of main_call0_call0_v166 : TRef sig Words) (broadcastInDim S4x1024x1024 ![] bcast_S_S4x1024x1024),
    TRef.binary (.of main_call0_call0_v162 : TRef sig Words) (.of main_call0_call0_v166 : TRef sig Words) (.of main_call0_call0_v167 : TRef sig Words) Host.shrui,
    TRef.binary (.of main_call0_call0_v165 : TRef sig Words) (.of main_call0_call0_v167 : TRef sig Words) (.of main_call0_call0_v168 : TRef sig Words) ori,
    TRef.binary (.of main_call0_call0_v163 : TRef sig Words) (.of main_call0_call0_v168 : TRef sig Words) (.of main_call0_call0_v169 : TRef sig Words) xori,
    TRef.unary (.of main_call0_call0_v1 : TRef sig ⟨S_, .i32⟩) (.of main_call0_call0_v170 : TRef sig Words) (broadcastInDim S4x1024x1024 ![] bcast_S_S4x1024x1024) ]

/-- The last mixing additions. -/
def mix9Ops : List (HloOp τ sig (Elt F)) :=
  [ TRef.binary (.of main_call0_call0_v163 : TRef sig Words) (.of main_call0_call0_v170 : TRef sig Words) (.of main_call0_v23_0 : TRef sig Words) addi,
    TRef.unary (.of main_call0_v5 : TRef sig ⟨S_, .i32⟩) (.of main_call0_call0_v172 : TRef sig Words) (broadcastInDim S4x1024x1024 ![] bcast_S_S4x1024x1024),
    TRef.binary (.of main_call0_call0_v169 : TRef sig Words) (.of main_call0_call0_v172 : TRef sig Words) (.of main_call0_call0_v173 : TRef sig Words) addi,
    TRef.nullary (.of main_call0_call0_c_44 : TRef sig ⟨S_, .i32⟩) (constantI S_ 32 5#32),
    TRef.unary (.of main_call0_call0_c_44 : TRef sig ⟨S_, .i32⟩) (.of main_call0_call0_v174 : TRef sig Words) (broadcastInDim S4x1024x1024 ![] bcast_S_S4x1024x1024),
    TRef.binary (.of main_call0_call0_v173 : TRef sig Words) (.of main_call0_call0_v174 : TRef sig Words) (.of main_call0_v23_1 : TRef sig Words) addi ]

/-- The mixed words as numbers in [0, 1). -/
def unitOps : List (HloOp τ sig (Elt F)) :=
  [ TRef.binary (.of main_call0_v23_0 : TRef sig Words) (.of main_call0_v23_1 : TRef sig Words) (.of main_call0_v24 : TRef sig Words) xori,
    TRef.nullary (.of main_call0_c_3 : TRef sig ⟨S_, .i32⟩) (constantI S_ 32 9#32),
    TRef.unary (.of main_call0_c_3 : TRef sig ⟨S_, .i32⟩) (.of main_call0_v25 : TRef sig Words) (broadcastInDim S4x1024x1024 ![] bcast_S_S4x1024x1024),
    TRef.binary (.of main_call0_v24 : TRef sig Words) (.of main_call0_v25 : TRef sig Words) (.of main_call0_v26 : TRef sig Words) Host.shrui,
    TRef.nullary (.of main_call0_c_4 : TRef sig ⟨S_, .i32⟩) (constantI S_ 32 1065353216#32),
    TRef.unary (.of main_call0_c_4 : TRef sig ⟨S_, .i32⟩) (.of main_call0_v27 : TRef sig Words) (broadcastInDim S4x1024x1024 ![] bcast_S_S4x1024x1024),
    TRef.binary (.of main_call0_v26 : TRef sig Words) (.of main_call0_v27 : TRef sig Words) (.of main_call0_v28 : TRef sig Words) ori,
    TRef.unary (.of main_call0_v28 : TRef sig Words) (.of main_call0_v29 : TRef sig Nums) (bitcastToFloat .f32),
    TRef.nullary (.of main_call0_cst : TRef sig ⟨S_, .f32⟩) (constant S_ .f32 0x3F800000#32),
    TRef.unary (.of main_call0_cst : TRef sig ⟨S_, .f32⟩) (.of main_call0_v30 : TRef sig Nums) (broadcastInDim S4x1024x1024 ![] bcast_S_S4x1024x1024),
    TRef.binary (.of main_call0_v29 : TRef sig Nums) (.of main_call0_v30 : TRef sig Nums) (.of main_call0_v31 : TRef sig Nums) subf,
    TRef.binary (.of main_call0_v3 : TRef sig ⟨S1x1x1, .f32⟩) (.of main_call0_v2 : TRef sig ⟨S1x1x1, .f32⟩) (.of main_call0_v32 : TRef sig ⟨S1x1x1, .f32⟩) subf,
    TRef.unary (.of main_call0_v32 : TRef sig ⟨S1x1x1, .f32⟩) (.of main_call0_v33 : TRef sig Nums) (broadcastInDim S4x1024x1024 ![0, 1, 2] bcast_S1x1x1_S4x1024x1024_0_1_2),
    TRef.binary (.of main_call0_v31 : TRef sig Nums) (.of main_call0_v33 : TRef sig Nums) (.of main_call0_v34 : TRef sig Nums) mulf,
    TRef.unary (.of main_call0_v2 : TRef sig ⟨S1x1x1, .f32⟩) (.of main_call0_v35 : TRef sig Nums) (broadcastInDim S4x1024x1024 ![0, 1, 2] bcast_S1x1x1_S4x1024x1024_0_1_2),
    TRef.binary (.of main_call0_v34 : TRef sig Nums) (.of main_call0_v35 : TRef sig Nums) (.of main_call0_v36 : TRef sig Nums) addf,
    TRef.unary (.of main_call0_v2 : TRef sig ⟨S1x1x1, .f32⟩) (.of main_call0_v37 : TRef sig Nums) (broadcastInDim S4x1024x1024 ![0, 1, 2] bcast_S1x1x1_S4x1024x1024_0_1_2),
    TRef.binary (.of main_call0_v37 : TRef sig Nums) (.of main_call0_v36 : TRef sig Nums) (.of main_v7 : TRef sig Nums) maximumf ]

set_option maxRecDepth 8192 in
set_option maxHeartbeats 4000000 in
theorem hostOps0_1_eq : (hostOps0_1 : List (HloOp τ sig (Elt F))) =
    drawOps ++ (laneOps ++ (mix0Ops ++ (mix1Ops ++ (mix2Ops ++ (mix3Ops ++ (mix4Ops ++ (mix5Ops ++ (mix6Ops ++ (mix7Ops ++ (mix8Ops ++ (mix9Ops ++ (unitOps)))))))))))) := rfl

/-- The draw from stretch 0 of the mixing on. -/
abbrev from0 (V : Valuation τ sig (Elt F)) : FVec F S4x1024x1024 .f32 :=
  toUnit (V (Proc.devRef .tc main_call0_v2)) (V (Proc.devRef .tc main_call0_v3))
    (On_decided.fn_threefry2x32 (F := F) (V (Proc.devRef .tc main_call0_v5)) (V (Proc.devRef .tc main_call0_v7)) (V (Proc.devRef .tc main_call0_v22)) (V (Proc.devRef .tc main_call0_v21)))

/-- The draw from stretch 1 of the mixing on. -/
abbrev from1 (V : Valuation τ sig (Elt F)) : FVec F S4x1024x1024 .f32 :=
  toUnit (V (Proc.devRef .tc main_call0_v2)) (V (Proc.devRef .tc main_call0_v3))
    (On_decided.fn_threefry2x32_part1 (F := F) (V (Proc.devRef .tc main_call0_v5)) (V (Proc.devRef .tc main_call0_v7)) (V (Proc.devRef .tc main_call0_call0_v1)) (V (Proc.devRef .tc main_call0_call0_v13)) (V (Proc.devRef .tc main_call0_call0_v18)))

/-- The draw from stretch 2 of the mixing on. -/
abbrev from2 (V : Valuation τ sig (Elt F)) : FVec F S4x1024x1024 .f32 :=
  toUnit (V (Proc.devRef .tc main_call0_v2)) (V (Proc.devRef .tc main_call0_v3))
    (On_decided.fn_threefry2x32_part2 (F := F) (V (Proc.devRef .tc main_call0_v5)) (V (Proc.devRef .tc main_call0_v7)) (V (Proc.devRef .tc main_call0_call0_v1)) (V (Proc.devRef .tc main_call0_call0_v35)) (V (Proc.devRef .tc main_call0_call0_v37)) (V (Proc.devRef .tc main_call0_call0_c_8)))

/-- The draw from stretch 3 of the mixing on. -/
abbrev from3 (V : Valuation τ sig (Elt F)) : FVec F S4x1024x1024 .f32 :=
  toUnit (V (Proc.devRef .tc main_call0_v2)) (V (Proc.devRef .tc main_call0_v3))
    (On_decided.fn_threefry2x32_part3 (F := F) (V (Proc.devRef .tc main_call0_v5)) (V (Proc.devRef .tc main_call0_v7)) (V (Proc.devRef .tc main_call0_call0_v1)) (V (Proc.devRef .tc main_call0_call0_v53)) (V (Proc.devRef .tc main_call0_call0_v54)) (V (Proc.devRef .tc main_call0_call0_v56)))

/-- The draw from stretch 4 of the mixing on. -/
abbrev from4 (V : Valuation τ sig (Elt F)) : FVec F S4x1024x1024 .f32 :=
  toUnit (V (Proc.devRef .tc main_call0_v2)) (V (Proc.devRef .tc main_call0_v3))
    (On_decided.fn_threefry2x32_part4 (F := F) (V (Proc.devRef .tc main_call0_v5)) (V (Proc.devRef .tc main_call0_v7)) (V (Proc.devRef .tc main_call0_call0_v1)) (V (Proc.devRef .tc main_call0_call0_v73)) (V (Proc.devRef .tc main_call0_call0_v74)) (V (Proc.devRef .tc main_call0_call0_v75)))

/-- The draw from stretch 5 of the mixing on. -/
abbrev from5 (V : Valuation τ sig (Elt F)) : FVec F S4x1024x1024 .f32 :=
  toUnit (V (Proc.devRef .tc main_call0_v2)) (V (Proc.devRef .tc main_call0_v3))
    (On_decided.fn_threefry2x32_part5 (F := F) (V (Proc.devRef .tc main_call0_v5)) (V (Proc.devRef .tc main_call0_v7)) (V (Proc.devRef .tc main_call0_call0_v1)) (V (Proc.devRef .tc main_call0_call0_v88)) (V (Proc.devRef .tc main_call0_call0_v94)))

/-- The draw from stretch 6 of the mixing on. -/
abbrev from6 (V : Valuation τ sig (Elt F)) : FVec F S4x1024x1024 .f32 :=
  toUnit (V (Proc.devRef .tc main_call0_v2)) (V (Proc.devRef .tc main_call0_v3))
    (On_decided.fn_threefry2x32_part6 (F := F) (V (Proc.devRef .tc main_call0_v5)) (V (Proc.devRef .tc main_call0_v7)) (V (Proc.devRef .tc main_call0_call0_v1)) (V (Proc.devRef .tc main_call0_call0_v108)) (V (Proc.devRef .tc main_call0_call0_v113)))

/-- The draw from stretch 7 of the mixing on. -/
abbrev from7 (V : Valuation τ sig (Elt F)) : FVec F S4x1024x1024 .f32 :=
  toUnit (V (Proc.devRef .tc main_call0_v2)) (V (Proc.devRef .tc main_call0_v3))
    (On_decided.fn_threefry2x32_part7 (F := F) (V (Proc.devRef .tc main_call0_v5)) (V (Proc.devRef .tc main_call0_v7)) (V (Proc.devRef .tc main_call0_call0_v1)) (V (Proc.devRef .tc main_call0_call0_v128)) (V (Proc.devRef .tc main_call0_call0_v129)) (V (Proc.devRef .tc main_call0_call0_v131)) (V (Proc.devRef .tc main_call0_call0_c_34)))

/-- The draw from stretch 8 of the mixing on. -/
abbrev from8 (V : Valuation τ sig (Elt F)) : FVec F S4x1024x1024 .f32 :=
  toUnit (V (Proc.devRef .tc main_call0_v2)) (V (Proc.devRef .tc main_call0_v3))
    (On_decided.fn_threefry2x32_part8 (F := F) (V (Proc.devRef .tc main_call0_v5)) (V (Proc.devRef .tc main_call0_call0_v1)) (V (Proc.devRef .tc main_call0_call0_v148)) (V (Proc.devRef .tc main_call0_call0_v149)) (V (Proc.devRef .tc main_call0_call0_v151)))

/-- The draw from stretch 9 of the mixing on. -/
abbrev from9 (V : Valuation τ sig (Elt F)) : FVec F S4x1024x1024 .f32 :=
  toUnit (V (Proc.devRef .tc main_call0_v2)) (V (Proc.devRef .tc main_call0_v3))
    (On_decided.fn_threefry2x32_part9 (F := F) (V (Proc.devRef .tc main_call0_v5)) (V (Proc.devRef .tc main_call0_call0_v163)) (V (Proc.devRef .tc main_call0_call0_v169)) (V (Proc.devRef .tc main_call0_call0_v170)))

/-- The draw from the mixed words on. -/
abbrev fromMixed (V : Valuation τ sig (Elt F)) : FVec F S4x1024x1024 .f32 :=
  toUnit (V (Proc.devRef .tc main_call0_v2)) (V (Proc.devRef .tc main_call0_v3)) ((V (Proc.devRef .tc main_call0_v23_0)), (V (Proc.devRef .tc main_call0_v23_1)))

/-- The draw from the counters on. -/
abbrev fromLane (V : Valuation τ sig (Elt F)) : FVec F S4x1024x1024 .f32 :=
  On_decided.fn_uniform_part1 (F := F) (V (Proc.devRef .tc main_call0_v2)) (V (Proc.devRef .tc main_call0_v3)) (V (Proc.devRef .tc main_call0_v5)) (V (Proc.devRef .tc main_call0_v7)) (V (Proc.devRef .tc main_call0_v18)) (V (Proc.devRef .tc main_call0_v19))

set_option maxRecDepth 8192 in
theorem unit_step (V : Valuation τ sig (Elt F)) : after unitOps V (Proc.devRef .tc main_v7) = fromMixed V := by
  simp only [fromMixed, unitOps, TRef.ternary, TRef.binary, TRef.nullary, TRef.unary, TRef.reshape, TRef.toBuf, TRef.ofBuf, cast_eq]
  after_results_simp
  rfl

set_option maxRecDepth 8192 in
theorem mix9_step (V : Valuation τ sig (Elt F)) : fromMixed (after mix9Ops V) = from9 V := by
  simp only [fromMixed, from9, mix9Ops, TRef.ternary, TRef.binary, TRef.nullary, TRef.unary, TRef.reshape, TRef.toBuf, TRef.ofBuf, cast_eq]
  after_results_simp
  rfl

set_option maxRecDepth 8192 in
theorem mix8_step (V : Valuation τ sig (Elt F)) : from9 (after mix8Ops V) = from8 V := by
  simp only [from8, from9, mix8Ops, TRef.ternary, TRef.binary, TRef.nullary, TRef.unary, TRef.reshape, TRef.toBuf, TRef.ofBuf, cast_eq]
  after_results_simp
  rfl

set_option maxRecDepth 8192 in
theorem mix7_step (V : Valuation τ sig (Elt F)) : from8 (after mix7Ops V) = from7 V := by
  simp only [from7, from8, mix7Ops, TRef.ternary, TRef.binary, TRef.nullary, TRef.unary, TRef.reshape, TRef.toBuf, TRef.ofBuf, cast_eq]
  after_results_simp
  rfl

set_option maxRecDepth 8192 in
theorem mix6_step (V : Valuation τ sig (Elt F)) : from7 (after mix6Ops V) = from6 V := by
  simp only [from6, from7, mix6Ops, TRef.ternary, TRef.binary, TRef.nullary, TRef.unary, TRef.reshape, TRef.toBuf, TRef.ofBuf, cast_eq]
  after_results_simp
  rfl

set_option maxRecDepth 8192 in
theorem mix5_step (V : Valuation τ sig (Elt F)) : from6 (after mix5Ops V) = from5 V := by
  simp only [from5, from6, mix5Ops, TRef.ternary, TRef.binary, TRef.nullary, TRef.unary, TRef.reshape, TRef.toBuf, TRef.ofBuf, cast_eq]
  after_results_simp
  rfl

set_option maxRecDepth 8192 in
theorem mix4_step (V : Valuation τ sig (Elt F)) : from5 (after mix4Ops V) = from4 V := by
  simp only [from4, from5, mix4Ops, TRef.ternary, TRef.binary, TRef.nullary, TRef.unary, TRef.reshape, TRef.toBuf, TRef.ofBuf, cast_eq]
  after_results_simp
  rfl

set_option maxRecDepth 8192 in
theorem mix3_step (V : Valuation τ sig (Elt F)) : from4 (after mix3Ops V) = from3 V := by
  simp only [from3, from4, mix3Ops, TRef.ternary, TRef.binary, TRef.nullary, TRef.unary, TRef.reshape, TRef.toBuf, TRef.ofBuf, cast_eq]
  after_results_simp
  rfl

set_option maxRecDepth 8192 in
theorem mix2_step (V : Valuation τ sig (Elt F)) : from3 (after mix2Ops V) = from2 V := by
  simp only [from2, from3, mix2Ops, TRef.ternary, TRef.binary, TRef.nullary, TRef.unary, TRef.reshape, TRef.toBuf, TRef.ofBuf, cast_eq]
  after_results_simp
  rfl

set_option maxRecDepth 8192 in
theorem mix1_step (V : Valuation τ sig (Elt F)) : from2 (after mix1Ops V) = from1 V := by
  simp only [from1, from2, mix1Ops, TRef.ternary, TRef.binary, TRef.nullary, TRef.unary, TRef.reshape, TRef.toBuf, TRef.ofBuf, cast_eq]
  after_results_simp
  rfl

set_option maxRecDepth 8192 in
theorem mix0_step (V : Valuation τ sig (Elt F)) : from1 (after mix0Ops V) = from0 V := by
  simp only [from0, from1, mix0Ops, TRef.ternary, TRef.binary, TRef.nullary, TRef.unary, TRef.reshape, TRef.toBuf, TRef.ofBuf, cast_eq]
  after_results_simp
  rfl

set_option maxRecDepth 8192 in
theorem lane_step (V : Valuation τ sig (Elt F)) : from0 (after laneOps V) = fromLane V := by
  simp only [from0, fromLane, laneOps, TRef.ternary, TRef.binary, TRef.nullary, TRef.unary, TRef.reshape, TRef.toBuf, TRef.ofBuf, cast_eq]
  after_results_simp
  rfl

set_option maxRecDepth 8192 in
theorem draw_step (V : Valuation τ sig (Elt F)) : fromLane (after drawOps V) =
    On_decided.fn_uniform (F := F) (V (Proc.devRef .tc main_v6)) (V (Proc.devRef .tc main_cst)) (V (Proc.devRef .tc main_cst_2)) := by
  simp only [fromLane, drawOps, TRef.ternary, TRef.binary, TRef.nullary, TRef.unary, TRef.reshape, TRef.toBuf, TRef.ofBuf, cast_eq]
  after_results_simp
  rfl

/-- The noise is the draw from the key and the bounds. -/
theorem noise (V : Valuation τ sig (Elt F)) :
    after unitOps (after mix9Ops (after mix8Ops (after mix7Ops (after mix6Ops (after mix5Ops (after mix4Ops (after mix3Ops (after mix2Ops (after mix1Ops (after mix0Ops (after laneOps (after drawOps V)))))))))))) (Proc.devRef .tc main_v7) =
    On_decided.fn_uniform (F := F) (V (Proc.devRef .tc main_v6)) (V (Proc.devRef .tc main_cst)) (V (Proc.devRef .tc main_cst_2)) := by
  rw [unit_step, mix9_step, mix8_step, mix7_step, mix6_step, mix5_step, mix4_step, mix3_step, mix2_step, mix1_step, mix0_step, lane_step, draw_step]

end Cert.Proof.Ker

end
-- ==== Proof.Select.lean ====
/-
The selection, as mathematics. Scores are real numbers on the grid of multiples of 2⁻²³. The kernel halves an interval 26 times so
that at least 32 scores reach its lower end and fewer than 32 its upper end; the reference sorts. Where no 33rd score shares the
32nd place above 1, the scores above 1 that reach the lower end are those among the 32 first of the sort.
-/
module

public import Idealize.ShloMosaic.Lib.IdealHost

@[expose] public section

namespace Cert.Proof.Select

open Finset

variable {N : ℕ}

/-- How many scores reach `t`, as the kernel counts them: a sum of ones. -/
noncomputable def reach (s : Fin N → ℝ) (t : EReal) : EReal := ∑ n, if t ≤ (s n : EReal) then (1 : EReal) else 0

theorem sum_ones {ι : Type} [Fintype ι] (p : ι → Prop) [DecidablePred p] :
    (∑ n, if p n then (1 : EReal) else 0) = (((univ.filter p).card : ℝ) : EReal) := by
  rw [← Finset.sum_filter, Finset.sum_const, nsmul_one]
  simp

theorem reach_eq (s : Fin N → ℝ) (t : ℝ) : reach s (t : EReal) = (((univ.filter fun n => t ≤ s n).card : ℝ) : EReal) := by
  rw [← sum_ones]
  exact Finset.sum_congr rfl fun n _ => by simp only [EReal.coe_le_coe_iff]

/-- One halving: the lower end moves up to the middle if 32 scores reach it, else the upper end down. -/
noncomputable def halve (s : Fin N → ℝ) (p : EReal × EReal) : EReal × EReal :=
  let mid := ((1 / 2 : ℝ) : EReal) * (p.1 + p.2)
  if ((32 : ℝ) : EReal) ≤ reach s mid then (mid, p.2) else (p.1, mid)

/-- What holds of the interval throughout: its ends are `w` apart, 32 scores reach the lower and fewer the upper. -/
def Straddles (s : Fin N → ℝ) (w : ℝ) (p : EReal × EReal) : Prop :=
  ∃ a : ℝ, p = ((a : EReal), ((a + w : ℝ) : EReal)) ∧ 32 ≤ (univ.filter fun n => a ≤ s n).card
    ∧ (univ.filter fun n => a + w ≤ s n).card < 32

theorem Straddles.halve {s : Fin N → ℝ} {w : ℝ} {p : EReal × EReal} (h : Straddles s w p) : Straddles s (w / 2) (halve s p) := by
  obtain ⟨a, rfl, h1, h2⟩ := h
  have hm : ((1 / 2 : ℝ) : EReal) * ((a : EReal) + ((a + w : ℝ) : EReal)) = ((a + w / 2 : ℝ) : EReal) := by
    rw [← EReal.coe_add, ← EReal.coe_mul]; congr 1; ring
  unfold Select.halve
  simp only [hm, reach_eq, EReal.coe_le_coe_iff, Nat.ofNat_le_cast]
  split
  · rename_i hc
    refine ⟨a + w / 2, by congr 2; ring, hc, ?_⟩
    rwa [show a + w / 2 + w / 2 = a + w by ring]
  · rename_i hc
    exact ⟨a, rfl, h1, not_le.mp hc⟩

theorem Straddles.iterate {s : Fin N → ℝ} {p : EReal × EReal} (h : Straddles s 1 p) (k : ℕ) :
    Straddles s ((1 / 2) ^ k) ((Select.halve s)^[k] p) := by
  induction k with
  | zero => simpa using h
  | succ k ih =>
    rw [Function.iterate_succ_apply', pow_succ, mul_one_div]
    exact ih.halve

/-- A score is 1 (in the ball) or 0, plus a noise from [0, 1) on the grid. -/
structure Scores (s u : Fin N → ℝ) (near : Fin N → Prop) [DecidablePred near] : Prop where
  eq : ∀ n, s n = (if near n then 1 else 0) + u n
  grid : ∀ n, ∃ k : ℕ, u n = k / 2 ^ 23 ∧ k < 2 ^ 23

variable {s u : Fin N → ℝ} {near : Fin N → Prop} [DecidablePred near]

theorem Scores.unit (h : Scores s u near) (n : Fin N) : 0 ≤ u n ∧ u n < 1 := by
  obtain ⟨k, hk, hl⟩ := h.grid n
  rw [hk]
  refine ⟨by positivity, ?_⟩
  rw [div_lt_one (by positivity)]
  exact_mod_cast hl

theorem Scores.one_le (h : Scores s u near) (n : Fin N) : 1 ≤ s n ↔ near n := by
  have hu := h.unit n
  rw [h.eq n]
  split
  · rename_i hn; simp only [hn, iff_true]; linarith
  · rename_i hn; simp only [hn, iff_false, not_le]; linarith

theorem Scores.nat (h : Scores s u near) (n : Fin N) : ∃ k : ℕ, s n = k / 2 ^ 23 := by
  obtain ⟨k, hk, _⟩ := h.grid n
  rw [h.eq n, hk]
  split
  · exact ⟨2 ^ 23 + k, by push_cast; field_simp; norm_num⟩
  · exact ⟨k, by ring⟩

/-- The first interval: [1, 2] if 32 points are in the ball, else [0, 1]. -/
theorem Scores.start (h : Scores s u near) (hN : 32 ≤ N) (lo : ℝ)
    (hlo : lo = if 32 ≤ (univ.filter near).card then 1 else 0) : Straddles s 1 ((lo : EReal), (lo : EReal) + 1) := by
  have hf : (univ.filter fun n => (1 : ℝ) ≤ s n) = univ.filter near := Finset.filter_congr fun n _ => h.one_le n
  refine ⟨lo, by push_cast; rfl, ?_, ?_⟩ <;> subst hlo <;> split
  · rename_i hc; rwa [hf]
  · have : (univ.filter fun n => (0 : ℝ) ≤ s n) = univ := Finset.filter_true_of_mem fun n _ => by
      rw [h.eq n]; have := (h.unit n).1; split <;> linarith
    rw [this, card_univ, Fintype.card_fin]; exact hN
  · have : (univ.filter fun n => (1 : ℝ) + 1 ≤ s n) = ∅ := Finset.filter_false_of_mem fun n _ => by
      rw [h.eq n, not_le]; have := (h.unit n).2; split <;> linarith
    rw [this]; simp
  · rename_i hc; rw [zero_add, hf]; omega

/-- The sort's first 32: distinct points in falling order of score, none left out above the last. -/
structure First (s : Fin N → ℝ) (idx : Fin 32 → Fin N) : Prop where
  inj : Function.Injective idx
  last : ∀ i, s (idx 31) ≤ s (idx i)
  rest : ∀ n, (∀ i, idx i ≠ n) → s n ≤ s (idx 31)

/-- The two selections agree above 1. -/
theorem selected_iff (h : Scores s u near) {idx : Fin 32 → Fin N} (hi : First s idx)
    (hn : s (idx 31) ≤ 1 ∨ (univ.filter fun n => s (idx 31) ≤ s n).card ≤ 32) {a w : ℝ} (hw : w < 1 / 2 ^ 23)
    (h1 : 32 ≤ (univ.filter fun n => a ≤ s n).card) (h2 : (univ.filter fun n => a + w ≤ s n).card < 32) (n : Fin N) :
    (a ≤ s n ∧ 1 < s n) ↔ ((∃ i, idx i = n) ∧ 1 < s n) := by
  have himg : (univ.image idx).card = 32 := by rw [card_image_of_injective _ hi.inj, card_univ, Fintype.card_fin]
  constructor
  · rintro ⟨ha, hs⟩
    refine ⟨?_, hs⟩
    by_contra hno
    have hno' : ∀ i, idx i ≠ n := fun i hi => hno ⟨i, hi⟩
    have hk := hi.rest n hno'
    have hcard : (univ.filter fun n => s (idx 31) ≤ s n).card ≤ 32 := hn.resolve_left (by linarith)
    have hkw : s (idx 31) < a + w := by
      by_contra hge
      have hsub : univ.image idx ⊆ univ.filter fun n => a + w ≤ s n := by
        intro x hx
        obtain ⟨i, _, rfl⟩ := mem_image.mp hx
        exact mem_filter.mpr ⟨mem_univ _, (not_lt.mp hge).trans (hi.last i)⟩
      have := card_le_card hsub
      omega
    have hle : s (idx 31) ≤ s n := by
      obtain ⟨k, hk'⟩ := h.nat (idx 31)
      obtain ⟨l, hl'⟩ := h.nat n
      have : s (idx 31) - s n < 1 / 2 ^ 23 := by linarith
      rw [hk', hl', ← sub_div, div_lt_div_iff_of_pos_right (by positivity)] at this
      have hkl : k ≤ l := by
        by_contra hc
        have h' : (l : ℝ) + 1 ≤ k := by exact_mod_cast (not_le.mp hc)
        linarith
      rw [hk', hl']
      exact div_le_div_of_nonneg_right (by exact_mod_cast hkl) (by positivity)
    have hsub : insert n (univ.image idx) ⊆ univ.filter fun n => s (idx 31) ≤ s n := by
      intro x hx
      rcases mem_insert.mp hx with rfl | hx
      · exact mem_filter.mpr ⟨mem_univ _, hle⟩
      · obtain ⟨i, _, rfl⟩ := mem_image.mp hx
        exact mem_filter.mpr ⟨mem_univ _, hi.last i⟩
    have hins : (insert n (univ.image idx)).card = 33 := by
      rw [card_insert_of_notMem, himg]
      intro hx
      obtain ⟨i, _, hi'⟩ := mem_image.mp hx
      exact hno' i hi'
    have := card_le_card hsub
    omega
  · rintro ⟨⟨i, rfl⟩, hs⟩
    refine ⟨?_, hs⟩
    refine le_trans ?_ (hi.last i)
    by_contra hlt
    have hsub : (univ.filter fun n => a ≤ s n) ⊆ (univ.image idx).erase (idx 31) := by
      intro x hx
      have hx' := (mem_filter.mp hx).2
      have hgt : s (idx 31) < s x := lt_of_lt_of_le (not_le.mp hlt) hx'
      refine mem_erase.mpr ⟨fun he => by rw [he] at hgt; exact lt_irrefl _ hgt, ?_⟩
      by_contra hx''
      exact absurd (hi.rest x fun i hi' => hx'' (mem_image.mpr ⟨i, mem_univ _, hi'⟩)) (not_le.mpr hgt)
    have := card_le_card hsub
    rw [card_erase_of_mem (mem_image_of_mem _ (mem_univ _)), himg] at this
    omega

/-- So a sum over the sort's first 32 that counts scores above 1 is the sum over all points selected by the interval's lower end. -/
theorem sum_selected (h : Scores s u near) (hN : 32 ≤ N) {idx : Fin 32 → Fin N} (hi : First s idx)
    (hn : s (idx 31) ≤ 1 ∨ (univ.filter fun n => s (idx 31) ≤ s n).card ≤ 32) (lo : ℝ)
    (hlo : lo = if 32 ≤ (univ.filter near).card then 1 else 0) (f : Fin N → EReal) :
    (∑ k, if (1 : ℝ) < s (idx k) then f (idx k) else 0)
      = ∑ n, if ((halve s)^[26] ((lo : EReal), (lo : EReal) + 1)).1 ≤ (s n : EReal) ∧ 1 < s n then f n else 0 := by
  obtain ⟨a, ha, h1, h2⟩ := (h.start hN lo hlo).iterate 26
  rw [ha]
  have hw : ((1 : ℝ) / 2) ^ 26 < 1 / 2 ^ 23 := by norm_num
  have hsel : ∀ n, ((a : EReal) ≤ (s n : EReal) ∧ 1 < s n) ↔ ((∃ i, idx i = n) ∧ 1 < s n) := fun n => by
    rw [EReal.coe_le_coe_iff]; exact selected_iff h hi hn hw h1 h2 n
  rw [← sum_image (f := fun n => if (1 : ℝ) < s n then f n else 0) (s := univ) (g := idx) fun _ _ _ _ h => hi.inj h]
  refine (sum_subset_zero_on_sdiff (subset_univ _) ?_ ?_)
  · intro n hn'
    rw [if_neg]
    rw [hsel]
    rintro ⟨⟨i, rfl⟩, _⟩
    exact (mem_sdiff.mp hn').2 (mem_image_of_mem _ (mem_univ _))
  · intro n hn'
    obtain ⟨i, _, rfl⟩ := mem_image.mp hn'
    have : ((a : EReal) ≤ (s (idx i) : EReal) ∧ 1 < s (idx i)) ↔ 1 < s (idx i) :=
      (hsel _).trans ⟨fun h => h.2, fun h => ⟨⟨i, rfl⟩, h⟩⟩
    simp only [this]

end Cert.Proof.Select

end
-- ==== Proof.TopK.lean ====
/-
The 32 first of a row of scores, as the host's top-k gives them: 32 distinct columns, in falling order of score, none left out
above the last.
-/
module

public import proofs.«01_k».proof.Proof.Draw
public import proofs.«01_k».proof.Proof.Select
public import Idealize.ShloMosaic.Lib.SortFacts
public import Idealize.ShloMosaic.Lib.Pointwise

@[expose] public section

noncomputable section

namespace Cert.Proof

open Cert.On_decided Cert.On_decided.Facts Idealize.ShloMosaic

/-- The column the sort puts at place `k` of row (b, m). -/
def placed (x : FVec Ideal S4x1024x1024 .f32) (b : Fin 4) (m : Fin 1024) (k : Fin 1024) : Fin 1024 :=
  sortedFrom (fun l r => Ideal.cmp .ogt (x (ix3 b m l)) (x (ix3 b m r)) == 1#1) k

/-- The column at place `k` among the first 32. -/
def chosen (x : FVec Ideal S4x1024x1024 .f32) (b : Fin 4) (m : Fin 1024) (k : Fin 32) : Fin 1024 :=
  placed x b m ⟨k.val, by omega⟩

theorem chosen_eq (x : FVec Ideal S4x1024x1024 .f32) (b : Fin 4) (m : Fin 1024) (k : Fin 32) (k' : Fin 1024) (h : k.val = k'.val) :
    chosen x b m k = placed x b m k' := by
  unfold chosen
  congr 1
  exact Fin.ext h

theorem along_last (b : Fin 4) (m : Fin 1024) (k : Fin 1024) (l : Fin 1024) :
    Shape.Idx.along (s := S4x1024x1024) (ix3 b m k) (2 : Fin 3) l = ix3 b m l := by
  funext a; fin_cases a <;> rfl

attribute [local irreducible] sortedFrom

theorem sliced {α : Type} (y : S4x1024x1024.Idx → α) (h : S4x1024x1024.Slices (fun _ => 0) S4x1024x32) (b : Fin 4) (m : Fin 1024)
    (k : Fin 32) : extractStridedSlice S4x1024x32 (fun _ => 0) y h (ix3 b m k) = y (ix3 b m ⟨k.val, by omega⟩) := by
  unfold extractStridedSlice
  congr 1; funext a; fin_cases a <;> (apply Fin.ext; simp [ix3])

theorem topK_fst (x : FVec Ideal S4x1024x1024 .f32) (h : S4x1024x1024.Slices (fun _ => 0) S4x1024x32) (b : Fin 4) (m : Fin 1024)
    (k : Fin 32) : (Host.topK S4x1024x32 2 (FloatOps.cmpfTotal (F := Ideal) (φ := .f32) .gt) x h).1 (ix3 b m k) = x (ix3 b m (chosen x b m k)) := by
  have hk : (k.val : ℕ) < 1024 := by omega
  unfold Host.topK Host.sort2
  simp only
  rw [sliced, dif_pos (by decide)]
  exact congrArg (fun (g : Fin 1024 → S4x1024x1024.Idx) => x (g (sortedFrom (n := 1024)
    (fun l r => FloatOps.cmpfTotal (F := Ideal) (φ := .f32) .gt (x (g l)) (x (g r)) == 1#1) ⟨k.val, hk⟩))) (funext (along_last b m ⟨k.val, hk⟩))

theorem topK_snd (x : FVec Ideal S4x1024x1024 .f32) (h : S4x1024x1024.Slices (fun _ => 0) S4x1024x32) (b : Fin 4) (m : Fin 1024)
    (k : Fin 32) : (Host.topK S4x1024x32 2 (FloatOps.cmpfTotal (F := Ideal) (φ := .f32) .gt) x h).2 (ix3 b m k) = BitVec.ofNat 32 (chosen x b m k).val := by
  have hk : (k.val : ℕ) < 1024 := by omega
  unfold Host.topK Host.sort2
  simp only
  rw [sliced, dif_pos (by decide)]
  exact congrArg (fun (g : Fin 1024 → S4x1024x1024.Idx) => iotaInDim S4x1024x1024 32 ⟨2, by decide⟩ (g (sortedFrom (n := 1024)
    (fun l r => FloatOps.cmpfTotal (F := Ideal) (φ := .f32) .gt (x (g l)) (x (g r)) == 1#1) ⟨k.val, hk⟩))) (funext (along_last b m ⟨k.val, hk⟩))

theorem placed_desc (x : FVec Ideal S4x1024x1024 .f32) (b : Fin 4) (m : Fin 1024) (i j : Fin 1024) (h : i ≤ j) :
    x (ix3 b m (placed x b m j)) ≤ x (ix3 b m (placed x b m i)) := by
  rcases h.lt_or_eq with h | rfl
  · have := sortedFrom_noInversion (fun l r => Ideal.cmp .ogt (x (ix3 b m l)) (x (ix3 b m r)) == 1#1)
      (fun l r => Ideal.cmp .ogt (x (ix3 b m l)) (x (ix3 b m r)) == 1#1)
      (fun l r hlr => by
        simp only [Ideal.cmp, beq_iff_eq, beq_eq_false_iff_ne] at hlr ⊢
        simp only [ne_eq]
        by_contra hc
        have h1 : x (ix3 b m r) < x (ix3 b m l) := by by_contra hn; simp [hn] at hlr
        have h2 : x (ix3 b m l) < x (ix3 b m r) := by by_contra hn; simp [hn] at hc
        exact lt_asymm h1 h2)
      (fun _ _ h => h)
      (fun l r t hlr hrt => by
        simp only [Ideal.cmp, beq_eq_false_iff_ne, ne_eq] at hlr hrt ⊢
        have h1 : x (ix3 b m l) ≤ x (ix3 b m r) := by by_contra hn; exact hlr (by simp [not_le.mp hn])
        have h2 : x (ix3 b m r) ≤ x (ix3 b m t) := by by_contra hn; exact hrt (by simp [not_le.mp hn])
        simp [not_lt.mpr (h1.trans h2)])
      i j h
    exact not_lt.mp fun hn => Bool.noConfusion (this.symm.trans (by
      rw [beq_iff_eq]
      exact congrArg BitVec.ofBool (decide_eq_true hn)))
  · exact le_rfl

/-- Of real scores, the chosen columns are the sort's first 32. -/
theorem chosen_first (x : FVec Ideal S4x1024x1024 .f32) (b : Fin 4) (m : Fin 1024) (s : Fin 1024 → ℝ)
    (hs : ∀ n, x (ix3 b m n) = (s n : EReal)) : Select.First s (chosen x b m) where
  inj := fun i j h => by
    unfold chosen placed at h
    have := Fin.val_eq_of_eq (sortedFrom_injective _ h)
    exact Fin.ext this
  last := fun i => by
    have := placed_desc x b m ⟨i.val, by omega⟩ ⟨31, by omega⟩ (by rw [Fin.le_def]; show i.val ≤ 31; omega)
    rw [← chosen_eq x b m 31 ⟨31, by omega⟩ rfl, ← chosen_eq x b m i ⟨i.val, by omega⟩ rfl, hs, hs, EReal.coe_le_coe_iff] at this
    exact this
  rest := fun n hn => by
    obtain ⟨j, hj⟩ := sortedFrom_surjective (fun l r => Ideal.cmp .ogt (x (ix3 b m l)) (x (ix3 b m r)) == 1#1) n
    change placed x b m j = n at hj
    have hj' : 31 ≤ j.val := by
      by_contra hc
      exact hn ⟨j.val, by omega⟩ ((chosen_eq x b m ⟨j.val, by omega⟩ j rfl).trans hj)
    have := placed_desc x b m ⟨31, by omega⟩ j hj'
    rw [← chosen_eq x b m 31 ⟨31, by omega⟩ rfl, hj, hs, hs, EReal.coe_le_coe_iff] at this
    exact this

end Cert.Proof

end
-- ==== Proof.Grid.lean ====
/-
The noise lies on a grid: a number drawn between 0 and 1 is a multiple of 2⁻²³ below 1.
-/
module

public import proofs.«01_k».proof.Proof.Draw
public import Idealize.ShloMosaic.Lib.ValueIdx

@[expose] public section

noncomputable section

namespace Cert.Proof

open Cert.On_decided Cert.On_decided.Facts Idealize.ShloMosaic

theorem one_bits : Ideal.ofBits .f32 0x3F800000#32 = ((1 : ℝ) : EReal) := by simp [Ideal.ofBits, Ideal.ieee, -EReal.coe_mul]; norm_num

theorem zero_bits : Ideal.ofBits .f32 0x00000000#32 = ((0 : ℝ) : EReal) := by simp [Ideal.ofBits, Ideal.ieee, -EReal.coe_mul]

/-- A word with the exponent of 1 and 23 free bits is 1 plus their multiple of 2⁻²³. -/
theorem unit_bits (w : BitVec 32) :
    Ideal.ofBits .f32 ((w >>> 9) ||| 1065353216#32) = ((1 + ((w >>> 9).toNat : ℝ) / 2 ^ 23 : ℝ) : EReal) := by
  have hlt : (w >>> 9).toNat < 2 ^ 23 := by
    rw [BitVec.toNat_ushiftRight, Nat.shiftRight_eq_div_pow]; have := w.isLt; omega
  have hex : (((w >>> 9) ||| 1065353216#32).extractLsb' 23 8).toNat = 127 := by
    have : ((w >>> 9) ||| 1065353216#32).extractLsb' 23 8 = 127#8 := by
      ext i hi
      have : i = 0 ∨ i = 1 ∨ i = 2 ∨ i = 3 ∨ i = 4 ∨ i = 5 ∨ i = 6 ∨ i = 7 := by omega
      rcases this with rfl | rfl | rfl | rfl | rfl | rfl | rfl | rfl <;> simp
    rw [this]; rfl
  have hsg : ((w >>> 9) ||| 1065353216#32).extractLsb' 31 1 = 0#1 := by
    ext i hi
    have : i = 0 := by omega
    subst this; simp
  have hfr : (((w >>> 9) ||| 1065353216#32).extractLsb' 0 23).toNat = (w >>> 9).toNat := by
    have h0 : (1065353216#32).extractLsb' 0 23 = 0#23 := by decide
    rw [BitVec.extractLsb'_or, h0, BitVec.or_zero, BitVec.extractLsb'_toNat, Nat.shiftRight_zero, Nat.mod_eq_of_lt hlt]
  show Ideal.ieee 8 23 _ = _
  unfold Ideal.ieee
  simp only [hex, hfr, hsg]
  norm_num [-EReal.coe_mul, -EReal.coe_add]
  field_simp

/-- So the end of the draw gives a multiple of 2⁻²³ below 1. -/
theorem toUnit_grid (p : IVec S4x1024x1024 32 × IVec S4x1024x1024 32) (lo hi : FVec Ideal S1x1x1 .f32)
    (hlo : ∀ i, lo i = ((0 : ℝ) : EReal)) (hhi : ∀ i, hi i = ((1 : ℝ) : EReal)) (j : S4x1024x1024.Idx) :
    ∃ k : ℕ, toUnit lo hi p j = ((k / 2 ^ 23 : ℝ) : EReal) ∧ k < 2 ^ 23 := by
  refine ⟨((p.1 j ^^^ p.2 j) >>> 9).toNat, ?_, ?_⟩
  · have h : toUnit lo hi p j = max ((0 : ℝ) : EReal) ((Ideal.ofBits .f32 (((p.1 j ^^^ p.2 j) >>> 9) ||| 1065353216#32)
        - Ideal.ofBits .f32 0x3F800000#32) * (((1 : ℝ) : EReal) - ((0 : ℝ) : EReal)) + ((0 : ℝ) : EReal)) := by
      unfold toUnit
      simp only [maximumf, addf, mulf, subf, broadcastInDim, hlo, hhi]
      rfl
    rw [h, unit_bits, one_bits, ← EReal.coe_sub, ← EReal.coe_sub, ← EReal.coe_mul, ← EReal.coe_add, ← EReal.coe_strictMono.monotone.map_max]
    congr 1
    rw [max_eq_right]
    · ring
    · have : (0 : ℝ) ≤ ((((p.1 j ^^^ p.2 j) >>> 9).toNat : ℕ) : ℝ) / 2 ^ 23 := by positivity
      linarith
  · rw [BitVec.toNat_ushiftRight, Nat.shiftRight_eq_div_pow]; have := (p.1 j ^^^ p.2 j).isLt; omega

/-- The drawn noise between 0 and 1. -/
theorem noise_grid (key : IVec S2 32) (lo hi : FVec Ideal S_ .f32) (hlo : ∀ i, lo i = ((0 : ℝ) : EReal))
    (hhi : ∀ i, hi i = ((1 : ℝ) : EReal)) (j : S4x1024x1024.Idx) :
    ∃ k : ℕ, On_decided.fn_uniform (F := Ideal) key lo hi j = ((k / 2 ^ 23 : ℝ) : EReal) ∧ k < 2 ^ 23 := by
  unfold On_decided.fn_uniform
  simp only [fn_uniform_part1_eq]
  exact toUnit_grid _ _ _ (fun i => by simp only [broadcastInDim, id, hlo]) (fun i => by simp only [broadcastInDim, id, hhi]) j

end Cert.Proof

end
-- ==== Proof.Decided.lean ====
/-
What the predicate of the claim says of a row of results that it selects, in the vocabulary of the selection: the query point is not
masked out, every point near it is not masked out, and no 33rd score shares the 32nd place above 1.
-/
module

public import proofs.«01_k».proof.Proof.TopK
public import proofs.«01_k».proof.Proof.Grid
public import proofs.«01_k».proof.Proof.Spec

@[expose] public section

noncomputable section

namespace Cert.Proof

open Cert.On_decided Cert.On_decided.Facts Idealize.ShloMosaic

instance (x : Fin 3 → EReal) : Decidable (Near x) := inferInstanceAs (Decidable (_ < _))

/-- The coordinates of a pair of points. -/
def pair (P : Arr S4x1024x1024x3) (b : Fin 4) (m n : Fin 1024) (d : Fin 3) : EReal := P (ix4 b m n d)

/-- The key 42 as two words. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The noise both programs draw. -/
def noiseArr : FVec Ideal S4x1024x1024 .f32 :=
  On_decided.fn_uniform (F := Ideal) key (constant S_ .f32 0x00000000#32) (constant S_ .f32 0x3F800000#32)

/-- It as a real number. -/
def noiseAt (b : Fin 4) (m n : Fin 1024) : ℝ := (noiseArr (ix3 b m n)).toReal

theorem noise_real (b : Fin 4) (m n : Fin 1024) :
    ∃ k : ℕ, noiseArr (ix3 b m n) = ((k / 2 ^ 23 : ℝ) : EReal) ∧ k < 2 ^ 23 :=
  noise_grid _ _ _ (fun _ => zero_bits) (fun _ => one_bits) _

theorem noiseArr_eq (b : Fin 4) (m n : Fin 1024) : noiseArr (ix3 b m n) = (noiseAt b m n : EReal) := by
  obtain ⟨k, hk, _⟩ := noise_real b m n
  rw [noiseAt, hk]; rfl

/-- The score of a pair: 1 if the points are near each other, plus the noise. -/
def scoreAt (P : Arr S4x1024x1024x3) (b : Fin 4) (m n : Fin 1024) : ℝ := (if Near (pair P b m n) then 1 else 0) + noiseAt b m n

theorem scores (P : Arr S4x1024x1024x3) (b : Fin 4) (m : Fin 1024) :
    Select.Scores (scoreAt P b m) (noiseAt b m) fun n => Near (pair P b m n) where
  eq := fun _ => rfl
  grid := fun n => by
    obtain ⟨k, hk, hl⟩ := noise_real b m n
    exact ⟨k, by rw [noiseAt, hk]; rfl, hl⟩

theorem bit_real (p : Prop) [Decidable p] : FloatOps.uitofp (F := Ideal) .f32 (BitVec.ofBool (decide p)) = ((if p then (1 : ℝ) else 0 : ℝ) : EReal) := by
  show (((BitVec.ofBool (decide p)).toNat : ℝ) : EReal) = _
  by_cases h : p <;> simp [h]

/-- Bits that say which points are near give the score. -/
theorem score_eq (w : BitVec 1) (P : Arr S4x1024x1024x3) (b : Fin 4) (m n : Fin 1024) (h : w = BitVec.ofBool (decide (Near (pair P b m n)))) :
    FloatOps.uitofp (F := Ideal) .f32 w + noiseArr (ix3 b m n) = (scoreAt P b m n : EReal) := by
  rw [h, bit_real, noiseArr_eq, ← EReal.coe_add]; rfl

theorem chosen_congr (x y : FVec Ideal S4x1024x1024 .f32) (b : Fin 4) (m : Fin 1024) (h : ∀ n, x (ix3 b m n) = y (ix3 b m n)) :
    chosen x b m = chosen y b m := by
  funext k
  unfold chosen placed
  simp only [h]

/-- The scores of all pairs. -/
def scoreArr (P : Arr S4x1024x1024x3) : FVec Ideal S4x1024x1024 .f32 := fun j => (scoreAt P (j 0) (j 1) (j 2) : EReal)

/-- The column at a place among the first 32 of the scores' sort. -/
def first (P : Arr S4x1024x1024x3) (b : Fin 4) (m : Fin 1024) : Fin 32 → Fin 1024 := chosen (scoreArr P) b m

theorem first_first (P : Arr S4x1024x1024x3) (b : Fin 4) (m : Fin 1024) : Select.First (scoreAt P b m) (first P b m) :=
  chosen_first _ b m _ fun _ => rfl

/-- What holds of a selected row. -/
structure Selected (P : Arr S4x1024x1024x3) (mask : IVec S4x1024 1) (b : Fin 4) (m : Fin 1024) : Prop where
  self : mask (ix2 b m) = 1#1
  seen : ∀ n, mask (ix2 b n) = 1#1 ∨ ¬ Near (pair P b m n)
  noTie : scoreAt P b m (first P b m 31) ≤ 1 ∨ (Finset.univ.filter fun n => scoreAt P b m (first P b m 31) ≤ scoreAt P b m n).card ≤ 32

theorem and_one {a b : BitVec 1} (h : IntOp.andi a b = 1#1) : a = 1#1 ∧ b = 1#1 := by revert a b; decide

theorem or_one {a b : BitVec 1} (h : IntOp.ori a b = 1#1) : a = 1#1 ∨ b = 1#1 := by revert a b; decide

theorem bool_one {p : Prop} [Decidable p] (h : BitVec.ofBool (decide p) = 1#1) : p := by
  by_contra hp
  rw [decide_eq_false hp] at h
  exact absurd h (by decide)

theorem not_bool_one {p : Prop} [Decidable p] (h : ~~~(BitVec.ofBool (decide p)) = 1#1) : ¬ p := by
  intro hp
  rw [decide_eq_true hp] at h
  exact absurd h (by decide)

theorem fold_and {n : Nat} (f : Fin n → BitVec 1) (h : Finset.fold IntOp.andi 1#1 f Finset.univ = 1#1) (i : Fin n) : f i = 1#1 := by
  have : ∀ s : Finset (Fin n), Finset.fold IntOp.andi 1#1 f s = 1#1 → ∀ i ∈ s, f i = 1#1 := by
    intro s
    induction s using Finset.induction_on with
    | empty => intro _ i hi; exact absurd hi (Finset.notMem_empty i)
    | insert a s ha ih =>
      intro h i hi
      rw [Finset.fold_insert ha] at h
      rcases Finset.mem_insert.mp hi with rfl | hi
      · exact (and_one h).1
      · exact ih (and_one h).2 i hi
  exact this _ h i (Finset.mem_univ i)

theorem thirtytwo : Ideal.ofBits .f32 0x42000000#32 = ((32 : ℝ) : EReal) := by simp [Ideal.ofBits, Ideal.ieee, -EReal.coe_mul]; norm_num

/-- No tie, as the predicate puts it. -/
theorem noTie_of (x : FVec Ideal S4x1024x1024 .f32) (s : Fin 1024 → ℝ) (b : Fin 4) (m : Fin 1024) (t : EReal) (k : Fin 1024)
    (hx : ∀ n, x (ix3 b m n) = (s n : EReal)) (ht : t = (s k : EReal))
    (h : IntOp.ori (BitVec.ofBool (decide (t ≤ 1)))
      (BitVec.ofBool (decide ((∑ n, FloatOps.uitofp (F := Ideal) .f32 (BitVec.ofBool (decide (t ≤ x (ix3 b m n))))) ≤ Ideal.ofBits .f32 0x42000000#32))) = 1#1) :
    s k ≤ 1 ∨ (Finset.univ.filter fun n => s k ≤ s n).card ≤ 32 := by
  subst ht
  rcases or_one h with h | h
  · have := bool_one h
    exact Or.inl (by exact_mod_cast this)
  · have := bool_one h
    refine Or.inr ?_
    simp only [hx, bit_real, EReal.coe_le_coe_iff, thirtytwo] at this
    have hs := Select.sum_ones fun n => s k ≤ s n
    have he : (∑ n, (((if s k ≤ s n then (1 : ℝ) else 0 : ℝ)) : EReal)) = ∑ n, if s k ≤ s n then (1 : EReal) else 0 :=
      Finset.sum_congr rfl fun n _ => by split <;> rfl
    rw [he, hs] at this
    exact_mod_cast this

/-- The second half of the predicate: no tie. -/
theorem part_selected (near : IVec S4x1024x1024 1) (seen : IVec S4x1024 1) (s : Fin 1024 → ℝ) (b : Fin 4) (m : Fin 1024) (o : Fin 64)
    (u : FVec Ideal S4x1024x1024 .f32)
    (hu : On_decided.fn_uniform (F := Ideal) key (constant S_ .f32 0x00000000#32) (constant S_ .f32 0x3F800000#32) = u)
    (hx : ∀ n, addf (F := Ideal) (uitofp .f32 near) u (ix3 b m n) = (s n : EReal))
    (h : On_decided.fn_part1 (F := Ideal) near seen
      (broadcastInDim S1 ![] bcast_S_S1 (id (Host.shrui (constantI S_ 32 42#32) (constantI S_ 32 32#32))))
      (andi (constantI S_ 32 42#32) (constantI S_ 32 4294967295#32)) (ix3 b m o) = 1#1) :
    seen (ix2 b m) = 1#1 ∧ (s (chosen (addf (F := Ideal) (uitofp .f32 near) u) b m 31) ≤ 1
      ∨ (Finset.univ.filter fun n => s (chosen (addf (F := Ideal) (uitofp .f32 near) u) b m 31) ≤ s n).card ≤ 32) := by
  unfold On_decided.fn_part1 On_decided.fn_part2 at h
  unfold key at hu
  simp only [id_eq, hu] at h
  generalize addf (F := Ideal) (uitofp .f32 near) u = x at h hx ⊢
  pointwise at h
  exact ⟨(and_one h).1, noTie_of x s b m _ _ hx ((topK_fst _ _ _ _ _).trans (hx _)) (and_one h).2⟩

/-- The bits of the predicate that say which points are near. -/
def nearBits (P : Arr S4x1024x1024x3) : IVec S4x1024x1024 1 :=
  cmpf (F := Ideal) (φ := .f32) .olt
    (Host.sqrt (addf (Host.reduceAdd (mulf (F := Ideal) (φ := .f32) P P) (constant S_ .f32 0x00000000#32) reducesTo_S4x1024x1024x3_S4x1024x1024_d3 h_S_)
      (broadcastInDim S4x1024x1024 ![] bcast_S_S4x1024x1024 (constant S_ .f32 0x2B8CBCCC#32))))
    (broadcastInDim S4x1024x1024 ![] bcast_S_S4x1024x1024 (constant S_ .f32 0x40000000#32))

theorem nearBits_eq (P : Arr S4x1024x1024x3) (b : Fin 4) (m n : Fin 1024) :
    nearBits P (ix3 b m n) = BitVec.ofBool (decide (Near (pair P b m n))) := by
  unfold nearBits
  pointwise
  rfl

/-- Its bits that say which query points count and see no masked-out point near them. -/
def seenBits (P : Arr S4x1024x1024x3) (mask : IVec S4x1024 1) : IVec S4x1024 1 :=
  andi mask (Host.reduce IntOp.andi
    (ori (broadcastInDim S4x1024x1024 ![0, 1, 2] bcast_S4x1x1024_S4x1024x1024_0_1_2
        (broadcastInDim S4x1x1024 ![0, 2] bcast_S4x1024_S4x1x1024_0_2 mask)) (noti (nearBits P)))
    (constantI S_ 1 1#1) reducesTo_S4x1024x1024_S4x1024_d2 h_S_)

theorem seen_of (P : Arr S4x1024x1024x3) (mask : IVec S4x1024 1) (b : Fin 4) (m : Fin 1024) (h : seenBits P mask (ix2 b m) = 1#1) :
    mask (ix2 b m) = 1#1 ∧ ∀ n, mask (ix2 b n) = 1#1 ∨ ¬ Near (pair P b m n) := by
  unfold seenBits at h
  pointwise at h
  refine ⟨(and_one h).1, fun n => ?_⟩
  have h2 := fold_and _ (and_one h).2 n
  simp only [nearBits_eq] at h2
  exact (or_one h2).imp id not_bool_one

theorem add_at (w : IVec S4x1024x1024 1) (u : FVec Ideal S4x1024x1024 .f32) (s : Fin 1024 → ℝ) (b : Fin 4) (m : Fin 1024)
    (h : ∀ n, FloatOps.uitofp (F := Ideal) .f32 (w (ix3 b m n)) + u (ix3 b m n) = (s n : EReal)) (n : Fin 1024) :
    addf (F := Ideal) (uitofp .f32 w) u (ix3 b m n) = (s n : EReal) := by
  have := h n
  pointwise
  exact this

theorem noise_eq : On_decided.fn_uniform (F := Ideal) key (constant S_ .f32 0x00000000#32) (constant S_ .f32 0x3F800000#32) = noiseArr :=
  noiseArr.eq_1.symm

/-- The rows of the predicate are the selected rows. -/
theorem selected (P : Arr S4x1024x1024x3) (a1 : Arr S4x1024x64) (mask : IVec S4x1024 1) (a3 : Arr S3x32) (a4 : Arr S32) (a5 : Arr S32x32)
    (a6 : Arr S32) (a7 : Arr S32x16) (a8 : Arr S16) (a9 : Arr S1024x64) (a10 : Arr S64) (b : Fin 4) (m : Fin 1024) (o : Fin 64)
    (h : On_decided.fn (F := Ideal) P a1 mask a3 a4 a5 a6 a7 a8 a9 a10 (ix3 b m o) = 1#1) : Selected P mask b m := by
  have hn : ∀ n, addf (F := Ideal) (uitofp .f32 (nearBits P)) noiseArr (ix3 b m n) = (scoreAt P b m n : EReal) :=
    add_at _ _ _ b m fun n => score_eq (nearBits P (ix3 b m n)) P b m n (nearBits_eq P b m n)
  unfold On_decided.fn at h
  have h' : On_decided.fn_part1 (F := Ideal) (nearBits P) (seenBits P mask)
      (broadcastInDim S1 ![] bcast_S_S1 (id (Host.shrui (constantI S_ 32 42#32) (constantI S_ 32 32#32))))
      (andi (constantI S_ 32 42#32) (constantI S_ 32 4294967295#32)) (ix3 b m o) = 1#1 := h
  obtain ⟨h1, h2⟩ := part_selected (nearBits P) (seenBits P mask) (scoreAt P b m) b m o noiseArr noise_eq hn h'
  rw [chosen_congr _ (scoreArr P) b m hn] at h2
  exact ⟨(seen_of P mask b m h1).1, (seen_of P mask b m h1).2, h2⟩

end Cert.Proof

end
-- ==== Proof.KerHost.lean ====
/-
The arrays the region finds, element by element: the coordinates of the pairs and the noise by query tile, and the network's matrices
spread over the eight rows of a tile.
-/
module

public import proofs.«01_k».proof.Proof.KerNet
public import proofs.«01_k».proof.Proof.KerNoise
public import proofs.«01_k».proof.Proof.Decided
public import Idealize.ShloMosaic.Lib.StableHlo.ReadAt

@[expose] public section

noncomputable section

namespace Cert.Proof.Ker

open Cert.KernelIdeal Cert.KernelIdeal.Gen Idealize.ShloMosaic Idealize.ShloMosaic.TcCoe Idealize.ShloMosaic.StableHlo

variable (V : Valuation τ sig (Elt Ideal))

/-- The row of eight a query point lies in, and its place there. -/
def query (t : Fin 128) (u : Fin 8) : Fin 1024 := ⟨t.val * 8 + u.val, by omega⟩

/-- A diagonal entry is 1, the others 0. -/
theorem eye (a b : ℕ) (u u' : Fin 8) (ha : a = u.val) (hb : b = u'.val) :
    FloatOps.uitofp (F := Ideal) FTy.f32 (IntOp.cmpi CmpIPredicate.eq (IntOp.addi (BitVec.ofNat 32 a) 0#32) (BitVec.ofNat 32 b))
      = if u' = u then (1 : EReal) else 0 := by
  subst ha hb
  have e : ∀ u u' : Fin 8, IntOp.cmpi CmpIPredicate.eq (IntOp.addi (BitVec.ofNat 32 u.val) 0#32) (BitVec.ofNat 32 u'.val)
      = if u' = u then 1#1 else 0#1 := by decide
  rw [e]
  show (((if u' = u then 1#1 else 0#1 : BitVec 1).toNat : ℝ) : EReal) = _
  split <;> simp

/-- A weight times a diagonal entry. -/
theorem mul_eye (x y e : EReal) (u u' : Fin 8) (h : x = y) (he : e = if u' = u then (1 : EReal) else 0) : x * e = if u' = u then y else 0 := by
  rw [h, he, mul_ite, mul_one, mul_zero]

set_option maxRecDepth 8192 in
theorem x_at (b : Fin 4) (t : Fin 128) (u : Fin 8) (n : Fin 1024) :
    (after hostOps0_2 V (Proc.devRef .tc main_v11) : FVec Ideal S4x128x8x1024 .f32) (ix4 b t u n)
      = (V (Proc.devRef .tc main_arg0) : FVec Ideal S4x1024x1024x3 .f32) (ix4 b (query t u) n 0) := by
  after_reads_at
  rfl

set_option maxRecDepth 8192 in
theorem y_at (b : Fin 4) (t : Fin 128) (u : Fin 8) (n : Fin 1024) :
    (after hostOps0_2 V (Proc.devRef .tc main_v14) : FVec Ideal S4x128x8x1024 .f32) (ix4 b t u n)
      = (V (Proc.devRef .tc main_arg0) : FVec Ideal S4x1024x1024x3 .f32) (ix4 b (query t u) n 1) := by
  after_reads_at
  rfl

set_option maxRecDepth 8192 in
theorem z_at (b : Fin 4) (t : Fin 128) (u : Fin 8) (n : Fin 1024) :
    (after hostOps0_2 V (Proc.devRef .tc main_v17) : FVec Ideal S4x128x8x1024 .f32) (ix4 b t u n)
      = (V (Proc.devRef .tc main_arg0) : FVec Ideal S4x1024x1024x3 .f32) (ix4 b (query t u) n 2) := by
  after_reads_at
  rfl

set_option maxRecDepth 8192 in
theorem noise_at (b : Fin 4) (t : Fin 128) (u : Fin 8) (n : Fin 1024) :
    (after hostOps0_2 V (Proc.devRef .tc main_v18) : FVec Ideal S4x128x8x1024 .f32) (ix4 b t u n)
      = (V (Proc.devRef .tc main_v7) : FVec Ideal S4x1024x1024 .f32) (ix3 b (query t u) n) := by
  after_reads_at
  rfl

/-- The network's matrices and biases. -/
def netOf (V : Valuation τ sig (Elt Ideal)) : Net :=
  ⟨V (Proc.devRef .tc main_arg3), V (Proc.devRef .tc main_arg4), V (Proc.devRef .tc main_arg5), V (Proc.devRef .tc main_arg6),
    V (Proc.devRef .tc main_arg7), V (Proc.devRef .tc main_arg8)⟩

theorem unit_mod (u : Fin 8) (h : Fin 32) : (unit u h).val % 32 = h.val := by unfold unit; simp only; omega
theorem unit_div (u : Fin 8) (h : Fin 32) : (unit u h).val / 32 = u.val := by unfold unit; simp only; omega
theorem coord_mod (d : Fin 3) (u : Fin 8) : (coord d u).val % 8 = u.val := by unfold coord; simp only; omega
theorem coord_div (d : Fin 3) (u : Fin 8) : (coord d u).val / 8 = d.val := by unfold coord; simp only; omega
theorem row_mod (p : Fin 16) (u : Fin 8) : (row p u).val % 8 = u.val := by unfold row; simp only; omega
theorem row_div (p : Fin 16) (u : Fin 8) : (row p u).val / 8 = p.val := by unfold row; simp only; omega

set_option maxRecDepth 8192 in
theorem w1_at (u : Fin 8) (h : Fin 32) (d : Fin 3) (u' : Fin 8) :
    (after hostOps0_2 V (Proc.devRef .tc main_v31) : FVec Ideal S256x24 .f32) (ix2 (unit u h) (coord d u'))
      = (if u' = u then (netOf V).W1 (ix2 d h) else 0 : EReal) := by
  after_reads_at
  refine mul_eye _ _ _ _ _ (congrArg₂ (fun a b => (netOf V).W1 (ix2 a b)) (Fin.ext ?_) (Fin.ext ?_)) (eye _ _ _ _ ?_ ?_)
  exacts [coord_div d u', unit_mod u h, unit_div u h, coord_mod d u']

set_option maxRecDepth 8192 in
theorem w2_at (u : Fin 8) (h : Fin 32) (u' : Fin 8) (h' : Fin 32) :
    (after hostOps0_2 V (Proc.devRef .tc main_v38) : FVec Ideal S256x256 .f32) (ix2 (unit u h) (unit u' h'))
      = (if u' = u then (netOf V).W2 (ix2 h' h) else 0 : EReal) := by
  after_reads_at
  refine mul_eye _ _ _ _ _ (congrArg₂ (fun a b => (netOf V).W2 (ix2 a b)) (Fin.ext ?_) (Fin.ext ?_)) (eye _ _ _ _ ?_ ?_)
  exacts [unit_mod u' h', unit_mod u h, unit_div u h, unit_div u' h']

set_option maxRecDepth 8192 in
theorem w3_at (p : Fin 16) (u : Fin 8) (u' : Fin 8) (h' : Fin 32) :
    (after hostOps0_2 V (Proc.devRef .tc main_v45) : FVec Ideal S128x256 .f32) (ix2 (row p u) (unit u' h'))
      = (if u' = u then (netOf V).W3 (ix2 h' p) else 0 : EReal) := by
  after_reads_at
  refine mul_eye _ _ _ _ _ (congrArg₂ (fun a b => (netOf V).W3 (ix2 a b)) (Fin.ext ?_) (Fin.ext ?_)) (eye _ _ _ _ ?_ ?_)
  exacts [unit_mod u' h', row_div p u, row_mod p u, unit_div u' h']

set_option maxRecDepth 8192 in
theorem e_at (p : Fin 16) (u : Fin 8) (u' : Fin 8) :
    (after hostOps0_2 V (Proc.devRef .tc main_v48) : FVec Ideal S128x8 .f32) (ix2 (row p u) u')
      = (if u' = u then 1 else 0 : EReal) := by
  after_reads_at
  exact eye _ _ _ _ (row_mod p u) rfl

set_option maxRecDepth 8192 in
theorem b1_at (u : Fin 8) (h : Fin 32) :
    (after hostOps0_2 V (Proc.devRef .tc main_v52) : FVec Ideal S256x1 .f32) (ix2 (unit u h) 0) = (netOf V).b1 (ix1 h) := by
  after_reads_at
  exact congrArg (fun a => (netOf V).b1 (ix1 a)) (Fin.ext (unit_mod u h))

set_option maxRecDepth 8192 in
theorem b2_at (u : Fin 8) (h : Fin 32) :
    (after hostOps0_2 V (Proc.devRef .tc main_v56) : FVec Ideal S256x1 .f32) (ix2 (unit u h) 0) = (netOf V).b2 (ix1 h) := by
  after_reads_at
  exact congrArg (fun a => (netOf V).b2 (ix1 a)) (Fin.ext (unit_mod u h))

set_option maxRecDepth 8192 in
theorem b3_at (p : Fin 16) (u : Fin 8) :
    (after hostOps0_2 V (Proc.devRef .tc main_v59) : FVec Ideal S128x1 .f32) (ix2 (row p u) 0) = (netOf V).b3 (ix1 p) := by
  after_reads_at
  exact congrArg (fun a => (netOf V).b3 (ix1 a)) (Fin.ext (row_div p u))

/-- The network's arrays hold a copy for each of the eight points. -/
theorem packed : Packed (netOf V) (after hostOps0_2 V (Proc.devRef .tc main_v31)) (after hostOps0_2 V (Proc.devRef .tc main_v38))
    (after hostOps0_2 V (Proc.devRef .tc main_v45)) (after hostOps0_2 V (Proc.devRef .tc main_v48)) (after hostOps0_2 V (Proc.devRef .tc main_v52))
    (after hostOps0_2 V (Proc.devRef .tc main_v56)) (after hostOps0_2 V (Proc.devRef .tc main_v59)) where
  W1 := w1_at V
  W2 := w2_at V
  W3 := w3_at V
  E := e_at V
  b1 := b1_at V
  b2 := b2_at V
  b3 := b3_at V

set_option maxRecDepth 8192 in
theorem wl_at (p : Fin 16) (e o : Fin 64) :
    (after hostOps0_2 V (Proc.devRef .tc main_v61) : FVec Ideal S16x64x64 .f32) (ix3 p e o)
      = (V (Proc.devRef .tc main_arg9) : FVec Ideal S1024x64 .f32) (ix2 ⟨e.val * 16 + p.val, by omega⟩ o) := by
  after_reads_at

set_option maxRecDepth 8192 in
theorem bl_at (o : Fin 64) :
    (after hostOps0_2 V (Proc.devRef .tc main_v62) : FVec Ideal S1x64 .f32) (ix2 0 o)
      = (V (Proc.devRef .tc main_arg10) : FVec Ideal S64 .f32) (ix1 o) := by
  after_reads_at

end Cert.Proof.Ker

end
-- ==== Proof.KerEntry.lean ====
/-
The memory the region is entered with: the noise is drawn, the arguments are as launched, and what the last stretch of host operations
makes of them is read element by element.
-/
module

public import proofs.«01_k».proof.Proof.KerHost
public import proofs.«01_k».proof.Proof.Gen.KernelIdeal.Value

@[expose] public section

noncomputable section

namespace Cert.Proof.Ker

open Cert.KernelIdeal Cert.KernelIdeal.Gen Idealize.ShloMosaic Idealize.ShloMosaic.TcCoe Idealize.ShloMosaic.StableHlo

/-- The buffers the last stretch writes. -/
def lastDst : List (Ref sig .tc) :=
  [main_v8, main_v9, main_v10, main_v11, main_v12, main_v13, main_v14, main_v15, main_v16, main_v17, main_v18, main_v19, main_v20, main_c_3, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62]

set_option maxRecDepth 8192 in
theorem last_writes : (hostOps0_2 : List (HloOp τ sig (Elt Ideal))).Forall fun op => op.writes ⊆ (lastDst.map (Proc.devRef (τ := τ) .tc)).toFinset :=
  forall_writes_sub_of_map rfl

theorem last_kept (V : Valuation τ sig (Elt Ideal)) {r : Ref sig .tc} (hr : r ∉ lastDst) :
    after hostOps0_2 V (Proc.devRef .tc r) = V (Proc.devRef .tc r) := after_of_writes_sub _ V last_writes hr

variable (m : (ℓ : Loc nD τ sig) → Buf (Elt Ideal) ℓ) (c : Dev nD)

/-- The memory before the last stretch. -/
def entry : Valuation τ sig (Elt Ideal) := after hostOps0_1 (after hostOps0 fun b => m (c, b))

theorem region (r : Ref sig .tc) : V m c r = after hostOps0_2 (entry m c) (Proc.devRef .tc r) := by
  unfold entry V
  rw [List.flatten_cons, List.flatten_cons, List.flatten_cons, List.flatten_nil, List.append_nil, after_append, after_append]

theorem entry_arg {r : Ref sig .tc} (hr : r ∉ lastDst) (h : V m c r = m ((c : Thread nD τ).loc r)) :
    entry m c (Proc.devRef .tc r) = m ((c : Thread nD τ).loc r) := by
  rw [← h, region, last_kept _ hr]

set_option maxRecDepth 8192 in
theorem key_v6 (V : Valuation τ sig (Elt Ideal)) : after hostOps0 V (Proc.devRef .tc main_v6) = key := by
  after_results_simp
  rfl

set_option maxRecDepth 8192 in
theorem key_cst (V : Valuation τ sig (Elt Ideal)) : after hostOps0 V (Proc.devRef .tc main_cst) = (constant S_ .f32 0x00000000#32 : FVec Ideal S_ .f32) := by
  after_results_simp

set_option maxRecDepth 8192 in
theorem key_cst_2 (V : Valuation τ sig (Elt Ideal)) : after hostOps0 V (Proc.devRef .tc main_cst_2) = (constant S_ .f32 0x3F800000#32 : FVec Ideal S_ .f32) := by
  after_results_simp

/-- The noise is the one the reference draws. -/
theorem entry_noise : entry m c (Proc.devRef .tc main_v7) = noiseArr := by
  unfold entry
  rw [hostOps0_1_eq, after_append, after_append, after_append, after_append, after_append, after_append, after_append, after_append,
    after_append, after_append, after_append, after_append, noise, key_v6, key_cst, key_cst_2, noise_eq]

end Cert.Proof.Ker

end
-- ==== Proof.KerGrid.lean ====
/-
Where the blocks of the grid points sit in the arrays: batch by batch, eight tiles of sixteen groups of eight rows.
-/
module

public import proofs.«01_k».proof.Proof.KerHost
public import proofs.«01_k».proof.Proof.Gen.KernelIdeal.Value

@[expose] public section

noncomputable section

namespace Cert.Proof.Ker

open Cert.KernelIdeal Cert.KernelIdeal.Gen Idealize.ShloMosaic Idealize.ShloMosaic.TcCoe Idealize.ShloMosaic.Pipeline

/-- There are 32 grid points. -/
theorem points : cfg0.N = 32 := by decide

/-- The batch of a grid point. -/
def batch (t : Fin cfg0.N) : Fin 4 := ⟨t.val / 8, by have := t.isLt.trans_eq points; omega⟩
/-- The g-th group of eight rows of a grid point, among the 128 of its batch. -/
def group8 (t : Fin cfg0.N) (g : Fin 16) : Fin 128 := ⟨t.val % 8 * 16 + g.val, by omega⟩

/-- The block of pairs at a grid point, along each axis. -/
theorem pairs_index : ∀ t : Fin cfg0.N, win0_0.index t 0 = t.val / 8 ∧ win0_0.index t 1 = t.val % 8 ∧ win0_0.index t 2 = 0 ∧ win0_0.index t 3 = 0 :=
  (by decide +kernel : ∀ t : Fin grid0.N, win0_0.index t 0 = t.val / 8 ∧ win0_0.index t 1 = t.val % 8 ∧ win0_0.index t 2 = 0 ∧ win0_0.index t 3 = 0)

/-- The block of features at a grid point. -/
theorem feat_index : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- The block of results at a grid point. -/
theorem out_index : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)

/-- Two indices with the same four coordinates are the same. -/
theorem ext4 (y z : S4x128x8x1024.Idx) (h0 : (y 0 : ℕ) = z 0) (h1 : (y 1 : ℕ) = z 1) (h2 : (y 2 : ℕ) = z 2) (h3 : (y 3 : ℕ) = z 3) : y = z := by
  funext a
  fin_cases a
  exacts [Fin.ext h0, Fin.ext h1, Fin.ext h2, Fin.ext h3]

/-- Two indices with the same three coordinates are the same. -/
theorem ext3 (y z : S4x1024x64.Idx) (h0 : (y 0 : ℕ) = z 0) (h1 : (y 1 : ℕ) = z 1) (h2 : (y 2 : ℕ) = z 2) : y = z := by
  funext a
  fin_cases a
  exacts [Fin.ext h0, Fin.ext h1, Fin.ext h2]

theorem first_block (a b : ℕ) (h : a = b) : a * 1 + 0 = b := by omega
theorem only_block (a k n : ℕ) (h : a = 0) : a * k + n = n := by rw [h, Nat.zero_mul, Nat.zero_add]
theorem tile_row (q g u : ℕ) : q * 128 + (g * 8 + u) = (q * 16 + g) * 8 + u := by omega

/-- Where an element of a block of pairs sits. -/
theorem pairs_place (t : Fin cfg0.N) (g : Fin 16) (u : Fin 8) (n : Fin 1024) :
    ((win0_0.blk t).view.emb (ix4 0 g u n) : S4x128x8x1024.Idx) = ix4 (batch t) (group8 t g) u n := by
  obtain ⟨h0, h1, h2, h3⟩ := pairs_index t
  exact ext4 _ _ ((win0_0.rect_emb_val t (ix4 0 g u n) (0 : Fin 4)).trans (first_block _ _ h0))
    ((win0_0.rect_emb_val t (ix4 0 g u n) (1 : Fin 4)).trans (congrArg (· * 16 + g.val) h1))
    ((win0_0.rect_emb_val t (ix4 0 g u n) (2 : Fin 4)).trans (only_block _ _ _ h2))
    ((win0_0.rect_emb_val t (ix4 0 g u n) (3 : Fin 4)).trans (only_block _ _ _ h3))

/-- Where an element of a block of features sits. -/
theorem feat_place (t : Fin cfg0.N) (n : Fin 1024) (e : Fin 64) :
    ((win0_4.blk t).view.emb (ix3 0 n e) : S4x1024x64.Idx) = ix3 (batch t) n e := by
  obtain ⟨h0, h1, h2⟩ := feat_index t
  exact ext3 _ _ ((win0_4.rect_emb_val t (ix3 0 n e) (0 : Fin 3)).trans (first_block _ _ h0))
    ((win0_4.rect_emb_val t (ix3 0 n e) (1 : Fin 3)).trans (only_block _ _ _ h1))
    ((win0_4.rect_emb_val t (ix3 0 n e) (2 : Fin 3)).trans (only_block _ _ _ h2))

/-- Where a result of a block sits. -/
theorem out_place (t : Fin cfg0.N) (g : Fin 16) (u : Fin 8) (o : Fin 64) :
    ((win0_14.blk t).view.emb (ix3 0 ⟨g.val * 8 + u.val, by omega⟩ o) : S4x1024x64.Idx) = ix3 (batch t) (query (group8 t g) u) o := by
  obtain ⟨h0, h1, h2⟩ := out_index t
  exact ext3 _ _ ((win0_14.rect_emb_val t (ix3 0 ⟨g.val * 8 + u.val, by omega⟩ o) (0 : Fin 3)).trans (first_block _ _ h0))
    ((win0_14.rect_emb_val t (ix3 0 ⟨g.val * 8 + u.val, by omega⟩ o) (1 : Fin 3)).trans
      ((congrArg (· * 128 + (g.val * 8 + u.val)) h1).trans (tile_row _ _ _)))
    ((win0_14.rect_emb_val t (ix3 0 ⟨g.val * 8 + u.val, by omega⟩ o) (2 : Fin 3)).trans (only_block _ _ _ h2))

/-- A block of first coordinates, read out of its array; the other coordinates and the noise lie alike. -/
theorem x_read (A : FVec Ideal S4x128x8x1024 .f32) (t : Fin cfg0.N) (g : Fin 16) (u : Fin 8) (n : Fin 1024) :
    ((cfg0.win 0).blk t).view.read (Elt Ideal) A (ix4 0 g u n) = A (ix4 (batch t) (group8 t g) u n) := congrArg A (pairs_place t g u n)

theorem y_read (A : FVec Ideal S4x128x8x1024 .f32) (t : Fin cfg0.N) (g : Fin 16) (u : Fin 8) (n : Fin 1024) :
    ((cfg0.win 1).blk t).view.read (Elt Ideal) A (ix4 0 g u n) = A (ix4 (batch t) (group8 t g) u n) := congrArg A (pairs_place t g u n)

theorem z_read (A : FVec Ideal S4x128x8x1024 .f32) (t : Fin cfg0.N) (g : Fin 16) (u : Fin 8) (n : Fin 1024) :
    ((cfg0.win 2).blk t).view.read (Elt Ideal) A (ix4 0 g u n) = A (ix4 (batch t) (group8 t g) u n) := congrArg A (pairs_place t g u n)

theorem noise_read (A : FVec Ideal S4x128x8x1024 .f32) (t : Fin cfg0.N) (g : Fin 16) (u : Fin 8) (n : Fin 1024) :
    ((cfg0.win 3).blk t).view.read (Elt Ideal) A (ix4 0 g u n) = A (ix4 (batch t) (group8 t g) u n) := congrArg A (pairs_place t g u n)

theorem feat_read (A : FVec Ideal S4x1024x64 .f32) (t : Fin cfg0.N) (n : Fin 1024) (e : Fin 64) :
    ((cfg0.win 4).blk t).view.read (Elt Ideal) A (ix3 0 n e) = A (ix3 (batch t) n e) := congrArg A (feat_place t n e)

/-- A window whose block is its whole array reads the array. -/
theorem whole_place (w : Window sig grid0) (t : Fin grid0.N) (h : ∀ a, w.index t a = 0) (y : (w.xblock (grid0.coords t)).Idx) (a : Fin w.shape.rank) :
    ((w.rect t).emb y a : ℕ) = y a := w.rect_emb_val_of_index_zero t a (h a) y

/-- Nought at both axes, nought at each; likewise for three. -/
theorem zero2 (f : Fin 2 → ℕ) (h0 : f 0 = 0) (h1 : f 1 = 0) (a : Fin 2) : f a = 0 := by
  fin_cases a
  exacts [h0, h1]

theorem zero3 (f : Fin 3 → ℕ) (h0 : f 0 = 0) (h1 : f 1 = 0) (h2 : f 2 = 0) (a : Fin 3) : f a = 0 := by
  fin_cases a
  exacts [h0, h1, h2]

/-- The weights and biases are staged whole. -/
theorem w1_read (A : FVec Ideal S256x24 .f32) (t : Fin cfg0.N) : ((cfg0.win 5).blk t).view.read (Elt Ideal) A = A :=
  funext fun y => congrArg A (funext fun a => Fin.ext (whole_place win0_5 t (zero2 _ rfl rfl) y a))

theorem w2_read (A : FVec Ideal S256x256 .f32) (t : Fin cfg0.N) : ((cfg0.win 6).blk t).view.read (Elt Ideal) A = A :=
  funext fun y => congrArg A (funext fun a => Fin.ext (whole_place win0_6 t (zero2 _ rfl rfl) y a))

theorem w3_read (A : FVec Ideal S128x256 .f32) (t : Fin cfg0.N) : ((cfg0.win 7).blk t).view.read (Elt Ideal) A = A :=
  funext fun y => congrArg A (funext fun a => Fin.ext (whole_place win0_7 t (zero2 _ rfl rfl) y a))

theorem e_read (A : FVec Ideal S128x8 .f32) (t : Fin cfg0.N) : ((cfg0.win 8).blk t).view.read (Elt Ideal) A = A :=
  funext fun y => congrArg A (funext fun a => Fin.ext (whole_place win0_8 t (zero2 _ rfl rfl) y a))

theorem b1_read (A : FVec Ideal S256x1 .f32) (t : Fin cfg0.N) : ((cfg0.win 9).blk t).view.read (Elt Ideal) A = A :=
  funext fun y => congrArg A (funext fun a => Fin.ext (whole_place win0_9 t (zero2 _ rfl rfl) y a))

theorem b2_read (A : FVec Ideal S256x1 .f32) (t : Fin cfg0.N) : ((cfg0.win 10).blk t).view.read (Elt Ideal) A = A :=
  funext fun y => congrArg A (funext fun a => Fin.ext (whole_place win0_10 t (zero2 _ rfl rfl) y a))

theorem b3_read (A : FVec Ideal S128x1 .f32) (t : Fin cfg0.N) : ((cfg0.win 11).blk t).view.read (Elt Ideal) A = A :=
  funext fun y => congrArg A (funext fun a => Fin.ext (whole_place win0_11 t (zero2 _ rfl rfl) y a))

theorem bl_read (A : FVec Ideal S1x64 .f32) (t : Fin cfg0.N) : ((cfg0.win 13).blk t).view.read (Elt Ideal) A = A :=
  funext fun y => congrArg A (funext fun a => Fin.ext (whole_place win0_13 t (zero2 _ rfl rfl) y a))

theorem wl_read (A : FVec Ideal S16x64x64 .f32) (t : Fin cfg0.N) : ((cfg0.win 12).blk t).view.read (Elt Ideal) A = A :=
  funext fun y => congrArg A (funext fun a => Fin.ext (whole_place win0_12 t (zero3 _ rfl rfl rfl) y a))

end Cert.Proof.Ker

end
-- ==== Proof.Target.lean ====
/-
The common value of a result of a selected row: which points the row takes, and the sums over them.
-/
module

public import proofs.«01_k».proof.Proof.Decided

@[expose] public section

noncomputable section

namespace Cert.Proof

open Cert.On_decided Idealize.ShloMosaic

open scoped Classical in
/-- The lower end of the interval of scores the kernel starts from. -/
def low (P : Arr S4x1024x1024x3) (b : Fin 4) (m : Fin 1024) : ℝ :=
  if 32 ≤ (Finset.univ.filter fun n => Near (pair P b m n)).card then 1 else 0

/-- The points a query point takes: their score reaches the last lower end, and is above 1. -/
def Taken (P : Arr S4x1024x1024x3) (b : Fin 4) (m n : Fin 1024) : Prop :=
  ((Select.halve (scoreAt P b m))^[26] ((low P b m : EReal), (low P b m : EReal) + 1)).1 ≤ (scoreAt P b m n : EReal) ∧ 1 < scoreAt P b m n

open scoped Classical in
/-- One result of a selected row. -/
def target (P : Arr S4x1024x1024x3) (feat : Arr S4x1024x64) (w : Net) (Wl : Arr S1024x64) (bl : Arr S64) (b : Fin 4) (m : Fin 1024) (o : Fin 64) : EReal :=
  result Wl bl (fun n c => feat (ix3 b n c)) (fun n p => if Taken P b m n then w.weight (pair P b m n) p else 0) o

open scoped Classical in
/-- The sums over the 32 chosen points, those with a score above 1 counted, are the sums over the points taken. -/
theorem result_chosen (P : Arr S4x1024x1024x3) (feat : Arr S4x1024x64) (w : Net) (Wl : Arr S1024x64) (bl : Arr S64) (mask : IVec S4x1024 1)
    (b : Fin 4) (m : Fin 1024) (o : Fin 64) (h : Selected P mask b m) (v : Fin 32 → Fin 64 → EReal) (u : Fin 32 → Fin 16 → EReal)
    (hv : ∀ k c, v k c = if 1 < scoreAt P b m (first P b m k) then feat (ix3 b (first P b m k) c) else 0)
    (hu : ∀ k p, u k p = if 1 < scoreAt P b m (first P b m k) then w.weight (pair P b m (first P b m k)) p else 0) :
    result Wl bl v u o = target P feat w Wl bl b m o := by
  unfold target result
  refine congrArg (· + _) (Finset.sum_congr rfl fun x _ => congrArg (· * _) ?_)
  have hs := Select.sum_selected (scores P b m) (by norm_num) (first_first P b m) h.noTie (low P b m) (by unfold low; congr)
    fun n => feat (ix3 b n ⟨x.val / 16, by omega⟩) * w.weight (pair P b m n) ⟨x.val % 16, by omega⟩
  refine Eq.trans (Finset.sum_congr rfl fun k _ => ?_) (hs.trans (Finset.sum_congr rfl fun n _ => ?_))
  · rw [hv, hu]
    split
    · rfl
    · exact mul_zero _
  · unfold Taken
    split
    · rename_i hh
      simp only [if_pos hh]
    · rename_i hh
      simp only [if_neg hh, mul_zero]

end Cert.Proof

end
-- ==== Proof.KerSelect.lean ====
/-
The kernel's selection at one query point: the scores, the interval it starts from, its 26 halvings, and the points chosen.
-/
module

public import proofs.«01_k».proof.Proof.KerBlock
public import proofs.«01_k».proof.Proof.Target
public import Idealize.ShloMosaic.Lib.Pointwise

@[expose] public section

noncomputable section

namespace Cert.Proof.Ker

open Cert.KernelIdeal Cert.KernelIdeal.Gen Idealize.ShloMosaic Idealize.ShloMosaic.TcCoe

theorem bit_bool (p : Prop) [Decidable p] : FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

theorem half_bits : Ideal.ofBits .f32 0x3F000000#32 = ((1 / 2 : ℝ) : EReal) := by
  simp [Ideal.ofBits, Ideal.ieee, -EReal.coe_mul]; norm_num

/-- Which points are near. -/
theorem pay19_at (x0 x1 x2 : Vec Ideal S1x16x8x1024 .f32) (g : Fin 16) (u : Fin 8) (n : Fin 1024) (x : Fin 3 → EReal)
    (hX : x0 (ix4 0 g u n) = x 0) (hY : x1 (ix4 0 g u n) = x 1) (hZ : x2 (ix4 0 g u n) = x 2) :
    k0_pay19 x0 x1 x2 (ix3 g u n) = BitVec.ofBool (decide (Near x)) := by
  pointwise [k0_pay19]
  have e : (x 0 * x 0 + x 1 * x 1 + x 2 * x 2) = ∑ d, x d * x d := (Fin.sum_univ_three fun d => x d * x d).symm
  refine congrArg BitVec.ofBool (decide_eq_decide.mpr ?_)
  rw [hX, hY, hZ, e]
  rfl

theorem pay20_at (x0 x1 x2 x3 : Vec Ideal S1x16x8x1024 .f32) (g : Fin 16) (u : Fin 8) (n : Fin 1024) :
    k0_pay20 x0 x1 x2 x3 (ix3 g u n) = FloatOps.uitofp FTy.f32 (k0_pay19 x0 x1 x2 (ix3 g u n)) + x3 (ix4 0 g u n) := by
  pointwise [k0_pay20]
  refine congrArg (· + _) ?_
  generalize k0_pay19 x0 x1 x2 (ix3 g u n) = w
  show (((BitVec.setWidth 32 w).toInt : ℝ) : EReal) = ((w.toNat : ℝ) : EReal)
  have e : ∀ w : BitVec 1, (BitVec.setWidth 32 w).toInt = (w.toNat : ℤ) := by decide
  rw [e]
  simp

/-- The lower end of the first interval. -/
theorem pay21_at (x0 x1 x2 : Vec Ideal S1x16x8x1024 .f32) (g : Fin 16) (u : Fin 8) (near : Fin 1024 → Prop) [DecidablePred near]
    (h : ∀ n, k0_pay19 x0 x1 x2 (ix3 g u n) = BitVec.ofBool (decide (near n))) :
    k0_pay21 x0 x1 x2 (ix3 g u 0) = (((if 32 ≤ (Finset.univ.filter near).card then 1 else 0 : ℝ)) : EReal) := by
  pointwise [k0_pay21]
  simp only [h, bit_bool, Select.sum_ones, thirtytwo, EReal.coe_le_coe_iff, Nat.ofNat_le_cast]
  split <;> simp

theorem pay22_at (x0 x1 x2 : Vec Ideal S1x16x8x1024 .f32) (g : Fin 16) (u : Fin 8) :
    k0_pay22 x0 x1 x2 (ix3 g u 0) = k0_pay21 x0 x1 x2 (ix3 g u 0) + 1 := by
  pointwise [k0_pay22]

theorem pay23_at (a b : FVec Ideal S16x8x1 .f32) (g : Fin 16) (u : Fin 8) :
    k0_pay23 a b (ix3 g u 0) = ((1 / 2 : ℝ) : EReal) * (a (ix3 g u 0) + b (ix3 g u 0)) := by
  pointwise [k0_pay23]
  rw [half_bits]

section

variable (s : FVec Ideal S16x8x1024 .f32) (g : Fin 16) (u : Fin 8) (r : Fin 1024 → ℝ) (hs : ∀ n, s (ix3 g u n) = (r n : EReal))

include hs

theorem pay24_at (a b : FVec Ideal S16x8x1 .f32) :
    k0_pay24 s (FloatOps.ofBits .f32 1107296256#32) a b (ix3 g u 0)
      = BitVec.ofBool (decide (((32 : ℝ) : EReal) ≤ Select.reach r (k0_pay23 a b (ix3 g u 0)))) := by
  pointwise [k0_pay24]
  refine congrArg BitVec.ofBool (decide_eq_decide.mpr ?_)
  have e : (∑ n, FloatOps.sitofp (F := Ideal) FTy.f32 (BitVec.setWidth 32 (BitVec.ofBool (decide (k0_pay23 a b (ix3 g u 0) ≤ s (ix3 g u n))))) : EReal)
      = Select.reach r (k0_pay23 a b (ix3 g u 0)) := by
    unfold Select.reach
    refine Finset.sum_congr rfl fun n _ => ?_
    rw [bit_bool, hs]
  exact (congrArg₂ (· ≤ ·) thirtytwo e).to_iff

/-- One trip of the first loop is one halving. -/
theorem step_at (a b : FVec Ideal S16x8x1 .f32) :
    (k0_pay25 s (FloatOps.ofBits .f32 1107296256#32) a b (ix3 g u 0), k0_pay26 s (FloatOps.ofBits .f32 1107296256#32) a b (ix3 g u 0))
      = Select.halve r (a (ix3 g u 0), b (ix3 g u 0)) := by
  have h := pay24_at s g u r hs a b
  have e : ∀ (c : BitVec 1) (p : Prop) [Decidable p] (x y z : EReal), c = BitVec.ofBool (decide p) →
      (Scalar.select c z x, Scalar.select c y z) = if p then (z, y) else (x, z) := by
    intro c p _ x y z hc
    by_cases hp : p <;> simp [hc, hp, Scalar.select]
  rw [pay23_at] at h
  exact Eq.trans (by rw [← pay23_at]; rfl) (e _ _ _ _ _ h)

theorem bisect_at (lo hi : FVec Ideal S16x8x1 .f32) :
    ((bisect s lo hi).1 (ix3 g u 0), (bisect s lo hi).2 (ix3 g u 0)) = (Select.halve r)^[26] (lo (ix3 g u 0), hi (ix3 g u 0)) := by
  unfold bisect
  rw [Scf.fold_eq]
  have key : ∀ (l : List (Fin 26)) (lo hi : FVec Ideal S16x8x1 .f32),
      let q := l.foldl (fun (b : FVec Ideal S16x8x1 .f32 × FVec Ideal S16x8x1 .f32) (_ : Fin 26) =>
        (k0_pay25 s (FloatOps.ofBits .f32 1107296256#32) b.1 b.2, k0_pay26 s (FloatOps.ofBits .f32 1107296256#32) b.1 b.2)) (lo, hi)
      (q.1 (ix3 g u 0), q.2 (ix3 g u 0)) = (Select.halve r)^[l.length] (lo (ix3 g u 0), hi (ix3 g u 0)) := by
    intro l
    induction l with
    | nil => intro lo hi; rfl
    | cons k l ih =>
      intro lo hi
      rw [List.length_cons, Function.iterate_succ_apply, ← step_at s g u r hs]
      exact ih _ _
  simpa only [List.length_finRange] using key (List.finRange 26) lo hi

theorem pay27_at (a : FVec Ideal S16x8x1 .f32) (n : Fin 1024) :
    k0_pay27 s a (ix3 g u n) = if a (ix3 g u 0) ≤ (r n : EReal) ∧ 1 < r n then 1 else 0 := by
  pointwise [k0_pay27]
  rw [hs]
  have e : ∀ (p q : Prop) [Decidable p] [Decidable q], IntOp.andi (BitVec.ofBool (decide p)) (BitVec.ofBool (decide q)) = BitVec.ofBool (decide (p ∧ q)) := by
    intro p q _ _; by_cases hp : p <;> by_cases hq : q <;> simp [hp, hq] <;> rfl
  rw [e, bit_bool]
  have h1 : (1 : EReal) < (r n : EReal) ↔ 1 < r n := by rw [← EReal.coe_one, EReal.coe_lt_coe_iff]
  simp only [h1]

end

open scoped Classical in
/-- The points chosen are the points taken. -/
theorem chosen_at (P : Arr S4x1024x1024x3) (b : Fin 4) (m : Fin 1024) (x0 x1 x2 x3 : Vec Ideal S1x16x8x1024 .f32) (g : Fin 16) (u : Fin 8)
    (hX : ∀ n, x0 (ix4 0 g u n) = pair P b m n 0) (hY : ∀ n, x1 (ix4 0 g u n) = pair P b m n 1) (hZ : ∀ n, x2 (ix4 0 g u n) = pair P b m n 2)
    (hN : ∀ n, x3 (ix4 0 g u n) = noiseArr (ix3 b m n)) (n : Fin 1024) :
    chosen x0 x1 x2 x3 (ix3 g u n) = if Taken P b m n then 1 else 0 := by
  have hn : ∀ n, k0_pay19 x0 x1 x2 (ix3 g u n) = BitVec.ofBool (decide (Near (pair P b m n))) :=
    fun n => pay19_at x0 x1 x2 g u n _ (hX n) (hY n) (hZ n)
  have hs : ∀ n, k0_pay20 x0 x1 x2 x3 (ix3 g u n) = (scoreAt P b m n : EReal) := fun n => by
    rw [pay20_at, hN]
    refine score_eq _ P b m n ((hn n).trans ?_)
    congr
  have hl : k0_pay21 x0 x1 x2 (ix3 g u 0) = (low P b m : EReal) := pay21_at x0 x1 x2 g u _ hn |>.trans (by unfold low; congr)
  unfold chosen Taken
  rw [pay27_at _ g u (scoreAt P b m) hs]
  have hb := congrArg Prod.fst (bisect_at _ g u (scoreAt P b m) hs (k0_pay21 x0 x1 x2) (k0_pay22 x0 x1 x2))
  rw [pay22_at, hl] at hb
  rw [← hb]
  congr

end Cert.Proof.Ker

end
-- ==== Proof.KerValue.lean ====
/-
The kernel's results: the block of every grid point, read at a row and a column, is the common value of a result there, so the whole
array is.
-/
module

public import proofs.«01_k».proof.Proof.KerEntry
public import proofs.«01_k».proof.Proof.KerGrid
public import proofs.«01_k».proof.Proof.KerSelect

@[expose] public section

noncomputable section

namespace Cert.Proof.Ker

open Cert.KernelIdeal Cert.KernelIdeal.Gen Idealize.ShloMosaic Idealize.ShloMosaic.TcCoe Idealize.ShloMosaic.StableHlo Idealize.ShloMosaic.Pipeline

variable (m : (ℓ : Loc nD τ sig) → Buf (Elt Ideal) ℓ) (c : Dev nD)

/-! ### The arguments -/

/-- The arguments of a launch: pairs, features, last weights, last biases, and the network. -/
abbrev pts : Arr S4x1024x1024x3 := m ((c : Thread nD τ).loc main_arg0)
abbrev feat : Arr S4x1024x64 := m ((c : Thread nD τ).loc main_arg1)
abbrev wl : Arr S1024x64 := m ((c : Thread nD τ).loc main_arg9)
abbrev bl : Arr S64 := m ((c : Thread nD τ).loc main_arg10)
abbrev net : Net :=
  ⟨m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

/-- The network the host operations spread is the launched one. -/
theorem entry_net : netOf (entry m c) = net m c := by
  unfold netOf
  rw [entry_arg m c (by decide) (V_main_arg3 m c), entry_arg m c (by decide) (V_main_arg4 m c), entry_arg m c (by decide) (V_main_arg5 m c),
    entry_arg m c (by decide) (V_main_arg6 m c), entry_arg m c (by decide) (V_main_arg7 m c), entry_arg m c (by decide) (V_main_arg8 m c)]

/-! ### The blocks -/

theorem pairs_arg : entry m c (Proc.devRef .tc main_arg0) = pts m c := entry_arg m c (by decide) (V_main_arg0 m c)

/-- The first coordinates at a grid point are those of its query points' pairs; likewise the other two. -/
theorem x_block (t : Fin cfg0.N) (g : Fin 16) (u : Fin 8) (n : Fin 1024) :
    (iblk m c 0 t : Vec Ideal S1x16x8x1024 .f32) (ix4 0 g u n) = pair (pts m c) (batch t) (query (group8 t g) u) n 0 := by
  refine (x_read (V m c main_v11) t g u n).trans ?_
  rw [region]
  exact (x_at (entry m c) ..).trans (congrFun (pairs_arg m c) _)

theorem y_block (t : Fin cfg0.N) (g : Fin 16) (u : Fin 8) (n : Fin 1024) :
    (iblk m c 1 t : Vec Ideal S1x16x8x1024 .f32) (ix4 0 g u n) = pair (pts m c) (batch t) (query (group8 t g) u) n 1 := by
  refine (y_read (V m c main_v14) t g u n).trans ?_
  rw [region]
  exact (y_at (entry m c) ..).trans (congrFun (pairs_arg m c) _)

theorem z_block (t : Fin cfg0.N) (g : Fin 16) (u : Fin 8) (n : Fin 1024) :
    (iblk m c 2 t : Vec Ideal S1x16x8x1024 .f32) (ix4 0 g u n) = pair (pts m c) (batch t) (query (group8 t g) u) n 2 := by
  refine (z_read (V m c main_v17) t g u n).trans ?_
  rw [region]
  exact (z_at (entry m c) ..).trans (congrFun (pairs_arg m c) _)

/-- The noise at a grid point is the drawn array's. -/
theorem noise_block (t : Fin cfg0.N) (g : Fin 16) (u : Fin 8) (n : Fin 1024) :
    (iblk m c 3 t : Vec Ideal S1x16x8x1024 .f32) (ix4 0 g u n) = noiseArr (ix3 (batch t) (query (group8 t g) u) n) := by
  refine (noise_read (V m c main_v18) t g u n).trans ?_
  rw [region]
  exact (noise_at (entry m c) ..).trans (congrFun (entry_noise m c) _)

/-- The features at a grid point are its batch's. -/
theorem feat_block (t : Fin cfg0.N) (n : Fin 1024) (e : Fin 64) :
    (iblk m c 4 t : Vec Ideal S1x1024x64 .f32) (ix3 0 n e) = feat m c (ix3 (batch t) n e) :=
  (feat_read (V m c main_arg1) t n e).trans (congrFun (V_main_arg1 m c) _)

/-- The network's matrices, selection matrix and biases at a grid point are the ones the host made. -/
theorem w1_block (t : Fin cfg0.N) : (iblk m c 5 t : Vec Ideal S256x24 .f32) = after hostOps0_2 (entry m c) (Proc.devRef .tc main_v31) :=
  (w1_read (V m c main_v31) t).trans (region m c main_v31)

theorem w2_block (t : Fin cfg0.N) : (iblk m c 6 t : Vec Ideal S256x256 .f32) = after hostOps0_2 (entry m c) (Proc.devRef .tc main_v38) :=
  (w2_read (V m c main_v38) t).trans (region m c main_v38)

theorem w3_block (t : Fin cfg0.N) : (iblk m c 7 t : Vec Ideal S128x256 .f32) = after hostOps0_2 (entry m c) (Proc.devRef .tc main_v45) :=
  (w3_read (V m c main_v45) t).trans (region m c main_v45)

theorem e_block (t : Fin cfg0.N) : (iblk m c 8 t : Vec Ideal S128x8 .f32) = after hostOps0_2 (entry m c) (Proc.devRef .tc main_v48) :=
  (e_read (V m c main_v48) t).trans (region m c main_v48)

theorem b1_block (t : Fin cfg0.N) : (iblk m c 9 t : Vec Ideal S256x1 .f32) = after hostOps0_2 (entry m c) (Proc.devRef .tc main_v52) :=
  (b1_read (V m c main_v52) t).trans (region m c main_v52)

theorem b2_block (t : Fin cfg0.N) : (iblk m c 10 t : Vec Ideal S256x1 .f32) = after hostOps0_2 (entry m c) (Proc.devRef .tc main_v56) :=
  (b2_read (V m c main_v56) t).trans (region m c main_v56)

theorem b3_block (t : Fin cfg0.N) : (iblk m c 11 t : Vec Ideal S128x1 .f32) = after hostOps0_2 (entry m c) (Proc.devRef .tc main_v59) :=
  (b3_read (V m c main_v59) t).trans (region m c main_v59)

/-- The last weights at a grid point: sixteen matrices, one for each weight p. -/
theorem wl_block (t : Fin cfg0.N) (p : Fin 16) (e o : Fin 64) :
    (iblk m c 12 t : Vec Ideal S16x64x64 .f32) (ix3 p e o) = wl m c (ix2 ⟨e.val * 16 + p.val, by omega⟩ o) := by
  refine (congrFun (wl_read (V m c main_v61) t) (ix3 p e o)).trans ?_
  rw [region]
  exact (wl_at (entry m c) ..).trans (congrFun (entry_arg m c (by decide) (V_main_arg9 m c)) _)

/-- The last biases. -/
theorem bl_block (t : Fin cfg0.N) (o : Fin 64) : (iblk m c 13 t : Vec Ideal S1x64 .f32) (ix2 0 o) = bl m c (ix1 o) := by
  refine (congrFun (bl_read (V m c main_v62) t) (ix2 0 o)).trans ?_
  rw [region]
  exact (bl_at (entry m c) ..).trans (congrFun (entry_arg m c (by decide) (V_main_arg10 m c)) _)

/-- So the blocks hold the network, spread over eight rows. -/
theorem net_block (t : Fin cfg0.N) : Packed (net m c) (iblk m c 5 t : Vec Ideal S256x24 .f32) (iblk m c 6 t : Vec Ideal S256x256 .f32)
    (iblk m c 7 t : Vec Ideal S128x256 .f32) (iblk m c 8 t : Vec Ideal S128x8 .f32) (iblk m c 9 t : Vec Ideal S256x1 .f32)
    (iblk m c 10 t : Vec Ideal S256x1 .f32) (iblk m c 11 t : Vec Ideal S128x1 .f32) := by
  rw [w1_block, w2_block, w3_block, e_block, b1_block, b2_block, b3_block, ← entry_net]
  exact packed (entry m c)

end Cert.Proof.Ker

end
-- ==== Proof.KerOut.lean ====
/-
What the kernel leaves: at every row and column of every batch the common value of a result, whatever the row.
-/
module

public import proofs.«01_k».proof.Proof.KerValue

@[expose] public section

noncomputable section

namespace Cert.Proof.Ker

open Cert.KernelIdeal Cert.KernelIdeal.Gen Idealize.ShloMosaic Idealize.ShloMosaic.TcCoe Idealize.ShloMosaic.Pipeline

/-- A sum over the 1024 rows of the last weights, channel by channel and unit by unit. -/
theorem sum_last_rows (f : Fin 1024 → EReal) : ∑ p : Fin 16, ∑ e : Fin 64, f ⟨e.val * 16 + p.val, by omega⟩ = ∑ x, f x := by
  rw [Finset.sum_comm, ← Fintype.sum_prod_type', ← (finProdFinEquiv (m := 64) (n := 16)).sum_comp]
  refine Finset.sum_congr rfl fun x _ => congrArg f (Fin.ext ?_)
  show x.1.val * 16 + x.2.val = x.2.val + 16 * x.1.val
  omega

open scoped Classical in
/-- The kernel's sums for one result are the plain ones: the points not taken have weight nought in both. -/
theorem sums_eq (T : Fin 1024 → Prop) (w : Fin 1024 → Fin 16 → EReal) (v : Fin 1024 → Fin 64 → EReal) (Wl : Arr S1024x64) (bl : Arr S64) (o : Fin 64) :
    (∑ p : Fin 16, ∑ e : Fin 64, (∑ n, w n p * (if T n then 1 else 0) * v n e) * Wl (ix2 ⟨e.val * 16 + p.val, by omega⟩ o)) + bl (ix1 o)
      = result Wl bl v (fun n p => if T n then w n p else 0) o := by
  unfold result
  rw [← sum_last_rows]
  refine congrArg (· + _) (Finset.sum_congr rfl fun p _ => Finset.sum_congr rfl fun e _ => congrArg (· * _) (Finset.sum_congr rfl fun n _ => ?_))
  have he : (⟨(e.val * 16 + p.val) / 16, by omega⟩ : Fin 64) = e := Fin.ext (by show (e.val * 16 + p.val) / 16 = e.val; omega)
  have hp : (⟨(e.val * 16 + p.val) % 16, by omega⟩ : Fin 16) = p := Fin.ext (by show (e.val * 16 + p.val) % 16 = p.val; omega)
  show _ = v n ⟨(e.val * 16 + p.val) / 16, _⟩ * (if T n then w n ⟨(e.val * 16 + p.val) % 16, _⟩ else 0)
  rw [he, hp]
  split
  · rw [mul_one, mul_comm]
  · rw [mul_zero, zero_mul, mul_zero]

variable (m : (ℓ : Loc nD τ sig) → Buf (Elt Ideal) ℓ) (c : Dev nD)

/-- The partial sums of a grid point at weight p, row u of group g. -/
theorem group_row (t : Fin cfg0.N) (g : Fin 16) (p : Fin 16) (u : Fin 8) (e : Fin 64) :
    group (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) g (ix2 (row p u) e)
      = ∑ n, (net m c).weight (pair (pts m c) (batch t) (query (group8 t g) u) n) p
          * chosen (iblk m c 0 t) (iblk m c 1 t) (iblk m c 2 t) (iblk m c 3 t) (ix3 g u n) * (iblk m c 4 t : Vec Ideal S1x1024x64 .f32) (ix3 0 n e) :=
  group_at (net_block m c t) _ _ _ _ _ g p u e _ (x_block m c t g u) (y_block m c t g u) (z_block m c t g u)

open scoped Classical in
/-- The points chosen at row u of group g are the points taken. -/
theorem chosen_row (t : Fin cfg0.N) (g : Fin 16) (u : Fin 8) (n : Fin 1024) :
    chosen (iblk m c 0 t) (iblk m c 1 t) (iblk m c 2 t) (iblk m c 3 t) (ix3 g u n)
      = if Taken (pts m c) (batch t) (query (group8 t g) u) n then 1 else 0 :=
  chosen_at (pts m c) _ _ _ _ _ _ g u (x_block m c t g u) (y_block m c t g u) (z_block m c t g u) (noise_block m c t g u) n

/-- What a grid point leaves at row u of group g. -/
theorem point_at (t : Fin cfg0.N) (g : Fin 16) (u : Fin 8) (o : Fin 64) :
    outsAt0 m c t (ix3 0 ⟨g.val * 8 + u.val, by omega⟩ o)
      = target (pts m c) (feat m c) (net m c) (wl m c) (bl m c) (batch t) (query (group8 t g) u) o := by
  classical
  unfold outsAt0
  refine (block_at c _ _ _ _ _ _ _ _ _ _ _ _ _ _ _ _ _ _ _ _ _ _ _ _ _ _ _ _ _ _ _ _ _ _ _ _ _ _ _ _ _ _ _ _ _ _ _ _ _ g u o).trans ?_
  rw [bl_block m c t o]
  unfold target
  rw [← sums_eq]
  refine congrArg (· + _) (Finset.sum_congr rfl fun p _ => Finset.sum_congr rfl fun e _ => ?_)
  refine congrArg₂ (· * ·) ((group_row m c t g p u e).trans (Finset.sum_congr rfl fun n _ => ?_)) (wl_block m c t p e o)
  exact congrArg₂ (· * ·) (congrArg (_ * ·) (chosen_row m c t g u n)) (feat_block m c t n e)

/-- Every grid point writes its block back. -/
theorem flushes : ∀ t : Fin cfg0.N, (cfg0.win 14).flush t = true :=
  (by decide +kernel : ∀ t : Fin grid0.N, (cfg0.win 14).flush t = true)

/-- A block of results, read out of the array. -/
theorem place_at (A : FVec Ideal S4x1024x64 .f32) (t : Fin cfg0.N) (g : Fin 16) (u : Fin 8) (o : Fin 64) :
    ((cfg0.win 14).blk t).view.read (Elt Ideal) A (ix3 0 ⟨g.val * 8 + u.val, by omega⟩ o) = A (ix3 (batch t) (query (group8 t g) u) o) :=
  congrArg A (out_place t g u o)

/-- The array at the rows of a grid point. -/
theorem array_at (t : Fin cfg0.N) (g : Fin 16) (u : Fin 8) (o : Fin 64) :
    ((dats m 0 c).arrAt 14 cfg0.N : FVec Ideal S4x1024x64 .f32) (ix3 (batch t) (query (group8 t g) u) o)
      = target (pts m c) (feat m c) (net m c) (wl m c) (bl m c) (batch t) (query (group8 t g) u) o :=
  ((place_at _ t g u o).symm.trans (congrFun ((Value.blocks14 m c t (flushes t)).trans (Value.flushed14 m c t)) _)).trans (point_at m c t g u o)

/-- The kernel's array of results. -/
theorem value (b : Fin 4) (q : Fin 1024) (o : Fin 64) :
    ((dats m 0 c).arrAt 14 cfg0.N : FVec Ideal S4x1024x64 .f32) (ix3 b q o)
      = target (pts m c) (feat m c) (net m c) (wl m c) (bl m c) b q o := by
  have ht : b.val * 8 + q.val / 128 < cfg0.N := by rw [points]; omega
  have h := array_at m c ⟨b.val * 8 + q.val / 128, ht⟩ ⟨q.val % 128 / 8, by omega⟩ ⟨q.val % 8, by omega⟩ o
  have hb : batch ⟨b.val * 8 + q.val / 128, ht⟩ = b := Fin.ext (by show (b.val * 8 + q.val / 128) / 8 = b.val; omega)
  have hq : query (group8 ⟨b.val * 8 + q.val / 128, ht⟩ ⟨q.val % 128 / 8, by omega⟩) ⟨q.val % 8, by omega⟩ = q :=
    Fin.ext (by show ((b.val * 8 + q.val / 128) % 8 * 16 + q.val % 128 / 8) * 8 + q.val % 8 = q.val; omega)
  rwa [hb, hq] at h

end Cert.Proof.Ker

end
-- ==== Proof.RefNet.lean ====
/-
The reference's network and sums, read at an element.
-/
module

public import proofs.«01_k».proof.Proof.RefOps
public import proofs.«01_k».proof.Proof.Spec
public import Idealize.ShloMosaic.Lib.StableHlo.ReadAt

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal)) (b : Fin 4) (m : Fin 1024) (k : Fin 32)

theorem one_word : Ideal.ofBits .f32 0x3F800000#32 = 1 := by simp [Ideal.ofBits, Ideal.ieee, -EReal.coe_mul]; norm_num

set_option maxRecDepth 8192 in
theorem layerOne_v97 (i : Fin 32) : (after swishOneOps (after layerOneOps V) (Proc.devRef .tc main_v97) : Arr S4x1024x32x32) (ix4 b m k i)
    = layer (V (Proc.devRef .tc main_arg3)) (V (Proc.devRef .tc main_arg4))
        (fun d : Fin 3 => (V (Proc.devRef .tc main_v55) : Arr S4x1024x32x3) (ix4 b m k d)) i := by
  rw [← after_append]
  unfold layer act
  simp only [layerOneOps, swishOneOps, List.cons_append, List.nil_append]
  after_reads_at

set_option maxRecDepth 8192 in
theorem layerTwo_v108 (i : Fin 32) : (after layerTwoOps V (Proc.devRef .tc main_v108) : Arr S4x1024x32x32) (ix4 b m k i)
    = layer (V (Proc.devRef .tc main_arg5)) (V (Proc.devRef .tc main_arg6))
        (fun j : Fin 32 => (V (Proc.devRef .tc main_v97) : Arr S4x1024x32x32) (ix4 b m k j)) i := by
  unfold layer act
  simp only [layerTwoOps]
  after_reads_at

set_option maxRecDepth 8192 in
theorem layerThree_v119 (p : Fin 16) : (after layerThreeOps V (Proc.devRef .tc main_v119) : Arr S4x1024x32x16) (ix4 b m k p)
    = layer (V (Proc.devRef .tc main_arg7)) (V (Proc.devRef .tc main_arg8))
        (fun j : Fin 32 => (V (Proc.devRef .tc main_v108) : Arr S4x1024x32x32) (ix4 b m k j)) p := by
  unfold layer act
  simp only [layerThreeOps]
  after_reads_at

set_option maxRecDepth 8192 in
theorem mask_v122 (p : Fin 16) : (after maskOps V (Proc.devRef .tc main_v122) : Arr S4x1024x32x16) (ix4 b m k p)
    = Scalar.select ((V (Proc.devRef .tc main_v86) : S4x1024x32.Idx → BitVec 1) (ix3 b m k))
        ((V (Proc.devRef .tc main_v119) : Arr S4x1024x32x16) (ix4 b m k p)) (0 : EReal) := by
  simp only [maskOps, TRef.ternary, TRef.unary]
  after_reads_at

set_option maxRecDepth 8192 in
theorem mask_v125 (c : Fin 64) : (after maskOps V (Proc.devRef .tc main_v125) : Arr S4x1024x32x64) (ix4 b m k c)
    = Scalar.select ((V (Proc.devRef .tc main_v86) : S4x1024x32.Idx → BitVec 1) (ix3 b m k))
        ((V (Proc.devRef .tc main_v70) : Arr S4x1024x32x64) (ix4 b m k c)) (0 : EReal) := by
  simp only [maskOps, TRef.ternary, TRef.unary]
  after_reads_at

set_option maxRecDepth 8192 in
theorem out_v134 (o : Fin 64) : (after outOps V (Proc.devRef .tc main_v134) : Arr S4x1024x64) (ix3 b m o)
    = Scalar.select ((V (Proc.devRef .tc main_arg2) : S4x1024.Idx → BitVec 1) (ix2 b m))
        (result (V (Proc.devRef .tc main_arg9)) (V (Proc.devRef .tc main_arg10))
          (fun (k : Fin 32) c => (V (Proc.devRef .tc main_v125) : Arr S4x1024x32x64) (ix4 b m k c))
          (fun k p => (V (Proc.devRef .tc main_v122) : Arr S4x1024x32x16) (ix4 b m k p)) o) (0 : EReal) := by
  unfold result
  simp only [outOps, TRef.ternary, TRef.unary]
  after_reads_at

end Cert.Proof.Ref

end
-- ==== Proof.RefPick.lean ====
/-
The reference's look-ups, read at an element: with the chosen columns below 1024, the coordinates, features and mask bits of the
chosen points are those of the pair (b, m, chosen column).
-/
module

public import proofs.«01_k».proof.Proof.RefKept
public import proofs.«01_k».proof.Proof.Spec
public import Idealize.ShloMosaic.Lib.StableHlo.ReadAt

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- An array of 32-bit words, and one of bits. -/
abbrev Wds (s : Shape) : Type := s.Idx → BitVec 32
abbrev Bts (s : Shape) : Type := s.Idx → BitVec 1

/-! ### Words of small numbers -/

theorem toInt_small {n : ℕ} (h : n < 1024) : (BitVec.ofNat 32 n).toInt = n := by
  rw [BitVec.toInt_eq_toNat_of_lt (by rw [BitVec.toNat_ofNat]; omega), BitVec.toNat_ofNat, Nat.mod_eq_of_lt (by omega)]

/-- A small number's word is not negative, so the reference's wrap of a negative index leaves it. -/
theorem wrap_small {n : ℕ} (h : n < 1024) (c : BitVec 32) :
    Scalar.select (IntOp.cmpi CmpIPredicate.slt (BitVec.ofNat 32 n) 0#32) (IntOp.addi (BitVec.ofNat 32 n) c) (BitVec.ofNat 32 n)
      = BitVec.ofNat 32 n := by
  have : IntOp.cmpi CmpIPredicate.slt (BitVec.ofNat 32 n) 0#32 = 0#1 := by
    show BitVec.ofBool (BitVec.slt _ _) = _
    have : BitVec.slt (BitVec.ofNat 32 n) 0#32 = false := by
      rw [BitVec.slt, toInt_small h]
      simp
    rw [this]; rfl
  rw [this]; rfl

/-! ### The three look-ups -/

/-- Two small numbers at the places of an index pair of the look-ups below. -/
def Points2 (i : Wds S4x1024x32x2) (b : Fin 4) (m : Fin 1024) (k : Fin 32) (n : Fin 1024) : Prop :=
  i (ix4 b m k 0) = BitVec.ofNat 32 b.val ∧ i (ix4 b m k 1) = BitVec.ofNat 32 n.val

theorem gather_pairs (x : Arr S4x1024x1024x3) (i : Wds S4x1024x32x3) (b : Fin 4) (m : Fin 1024) (k : Fin 32) (d : Fin 3) (n : Fin 1024)
    (h0 : i (ix4 b m k 0) = BitVec.ofNat 32 b.val) (h1 : i (ix4 b m k 1) = BitVec.ofNat 32 m.val)
    (h2 : i (ix4 b m k 2) = BitVec.ofNat 32 n.val) :
    Host.gather gather_S4x1024x1024x3_S4x1024x32x3_S4x1024x32x3_3_012_n_n_012_3_1113 x i (ix4 b m k d) = x (ix4 b m n d) := by
  set D := gather_S4x1024x1024x3_S4x1024x32x3_S4x1024x32x3_3_012_n_n_012_3_1113
  have e : ∀ c : Fin 3, D.siIdx (ix4 b m k d) c = ix4 b m k c := fun c => by
    funext a; refine Fin.ext ?_
    match a with
    | ⟨0, _⟩ => rfl
    | ⟨1, _⟩ => rfl
    | ⟨2, _⟩ => rfl
    | ⟨3, _⟩ => rfl
  unfold Host.gather
  congr 1
  funext a; refine Fin.ext ?_
  show D.start (ix4 b m k d) i a + D.batchCoord (ix4 b m k d) a + D.offCoord (ix4 b m k d) a = _
  rw [D.batchCoord_eq_zero _ _ List.not_mem_nil, Nat.add_zero]
  match a with
  | ⟨0, _⟩ =>
    show min (i (D.siIdx (ix4 b m k d) (0 : Fin 3))).toInt.toNat (4 - 1) + 0 = b.val
    rw [e, h0, toInt_small (by omega)]; simp; omega
  | ⟨1, _⟩ =>
    show min (i (D.siIdx (ix4 b m k d) (1 : Fin 3))).toInt.toNat (1024 - 1) + 0 = m.val
    rw [e, h1, toInt_small (by omega)]; simp; omega
  | ⟨2, _⟩ =>
    show min (i (D.siIdx (ix4 b m k d) (2 : Fin 3))).toInt.toNat (1024 - 1) + 0 = n.val
    rw [e, h2, toInt_small (by omega)]; simp; omega
  | ⟨3, _⟩ =>
    show 0 + d.val = d.val
    omega

theorem gather_vals (x : Arr S4x1024x64) (i : Wds S4x1024x32x2) (b : Fin 4) (m : Fin 1024) (k : Fin 32) (c : Fin 64) (n : Fin 1024)
    (h : Points2 i b m k n) :
    Host.gather gather_S4x1024x64_S4x1024x32x2_S4x1024x32x64_3_01_n_n_01_3_1164 x i (ix4 b m k c) = x (ix3 b n c) := by
  set D := gather_S4x1024x64_S4x1024x32x2_S4x1024x32x64_3_01_n_n_01_3_1164
  have e : ∀ l : Fin 2, D.siIdx (ix4 b m k c) l = ix4 b m k l := fun l => by
    funext a; refine Fin.ext ?_
    match a with
    | ⟨0, _⟩ => rfl
    | ⟨1, _⟩ => rfl
    | ⟨2, _⟩ => rfl
    | ⟨3, _⟩ => rfl
  unfold Host.gather
  congr 1
  funext a; refine Fin.ext ?_
  show D.start (ix4 b m k c) i a + D.batchCoord (ix4 b m k c) a + D.offCoord (ix4 b m k c) a = _
  rw [D.batchCoord_eq_zero _ _ List.not_mem_nil, Nat.add_zero]
  match a with
  | ⟨0, _⟩ =>
    show min (i (D.siIdx (ix4 b m k c) (0 : Fin 2))).toInt.toNat (4 - 1) + 0 = b.val
    rw [e, h.1, toInt_small (by omega)]; simp; omega
  | ⟨1, _⟩ =>
    show min (i (D.siIdx (ix4 b m k c) (1 : Fin 2))).toInt.toNat (1024 - 1) + 0 = n.val
    rw [e, h.2, toInt_small (by omega)]; simp; omega
  | ⟨2, _⟩ =>
    show 0 + c.val = c.val
    omega

theorem gather_mask (x : Bts S4x1024) (i : Wds S4x1024x32x2) (b : Fin 4) (m : Fin 1024) (k : Fin 32) (n : Fin 1024)
    (h : Points2 i b m k n) :
    Host.gather gather_S4x1024_S4x1024x32x2_S4x1024x32_n_01_n_n_01_3_11 x i (ix3 b m k) = x (ix2 b n) := by
  set D := gather_S4x1024_S4x1024x32x2_S4x1024x32_n_01_n_n_01_3_11
  have e : ∀ l : Fin 2, D.siIdx (ix3 b m k) l = ix4 b m k l := fun l => by
    funext a; refine Fin.ext ?_
    match a with
    | ⟨0, _⟩ => rfl
    | ⟨1, _⟩ => rfl
    | ⟨2, _⟩ => rfl
    | ⟨3, _⟩ => rfl
  unfold Host.gather
  congr 1
  funext a; refine Fin.ext ?_
  show D.start (ix3 b m k) i a + D.batchCoord (ix3 b m k) a + D.offCoord (ix3 b m k) a = _
  rw [D.batchCoord_eq_zero _ _ List.not_mem_nil, Nat.add_zero]
  match a with
  | ⟨0, _⟩ =>
    show min (i (D.siIdx (ix3 b m k) (0 : Fin 2))).toInt.toNat (4 - 1) + 0 = b.val
    rw [e, h.1, toInt_small (by omega)]; simp; omega
  | ⟨1, _⟩ =>
    show min (i (D.siIdx (ix3 b m k) (1 : Fin 2))).toInt.toNat (1024 - 1) + 0 = n.val
    rw [e, h.2, toInt_small (by omega)]; simp; omega

/-! ### What the stretches leave -/

variable (V : Valuation τ sig (Elt Ideal)) (b : Fin 4) (m : Fin 1024) (k : Fin 32)

set_option maxRecDepth 8192 in
theorem grid_v31 : (after gridOps V (Proc.devRef .tc main_v31) : Wds S4x1x1) (ix3 b 0 0) = BitVec.ofNat 32 b.val := by
  simp only [gridOps]
  after_reads_at

set_option maxRecDepth 8192 in
theorem grid_v38 : (after gridOps V (Proc.devRef .tc main_v38) : Wds S4x1x1) (ix3 b 0 0) = BitVec.ofNat 32 b.val := by
  simp only [gridOps]
  after_reads_at
  exact wrap_small (by omega) _

set_option maxRecDepth 8192 in
theorem grid_v43 : Scalar.select ((after gridOps V (Proc.devRef .tc main_v40) : Bts S1x1024x1) (ix3 0 m 0))
    ((after gridOps V (Proc.devRef .tc main_v42) : Wds S1x1024x1) (ix3 0 m 0))
    ((after gridOps V (Proc.devRef .tc main_v33) : Wds S1x1024x1) (ix3 0 m 0)) = BitVec.ofNat 32 m.val := by
  simp only [gridOps]
  after_reads_at
  exact wrap_small (by omega) _

/-- The three columns of index triples, and then their look-up. -/
abbrev tripleOps : List (HloOp τ sig (Elt Ideal)) := pickPairsOps.drop 13

theorem pickPairs_split : pickPairsOps (F := Ideal) = pickPairsOps.take 13 ++ tripleOps := (List.take_append_drop 13 _).symm

theorem triple_v55 : (after tripleOps V (Proc.devRef .tc main_v55) : Arr S4x1024x32x3) =
    Host.gather gather_S4x1024x1024x3_S4x1024x32x3_S4x1024x32x3_3_012_n_n_012_3_1113 (V (Proc.devRef .tc main_arg0) : Arr S4x1024x1024x3)
      (concatenate S4x1024x32x3 3 [⟨S4x1024x32x1, (V (Proc.devRef .tc main_v51) : Wds S4x1024x32x1)⟩,
        ⟨S4x1024x32x1, (V (Proc.devRef .tc main_v52) : Wds S4x1024x32x1)⟩, ⟨S4x1024x32x1, (V (Proc.devRef .tc main_v53) : Wds S4x1024x32x1)⟩]
        concatenates_S4x1024x32x1_S4x1024x32x1_S4x1024x32x1_S4x1024x32x3_d3) := by
  simp only [tripleOps, pickPairsOps, List.drop, after]
  rw [binary_result', nary_result_ne' _ _ _ _ _ (by decide), nary_result']
  rfl

set_option maxRecDepth 8192 in
theorem pickPairs_v51 : (after (pickPairsOps.take 13) V (Proc.devRef .tc main_v51) : Wds S4x1024x32x1) (ix4 b m k 0)
    = (V (Proc.devRef .tc main_v38) : Wds S4x1x1) (ix3 b 0 0) := by
  simp only [pickPairsOps, List.take]
  after_reads_at

set_option maxRecDepth 8192 in
theorem pickPairs_v52 : (after (pickPairsOps.take 13) V (Proc.devRef .tc main_v52) : Wds S4x1024x32x1) (ix4 b m k 0)
    = Scalar.select ((V (Proc.devRef .tc main_v40) : Bts S1x1024x1) (ix3 0 m 0))
        ((V (Proc.devRef .tc main_v42) : Wds S1x1024x1) (ix3 0 m 0)) ((V (Proc.devRef .tc main_v33) : Wds S1x1024x1) (ix3 0 m 0)) := by
  simp only [pickPairsOps, List.take]
  after_reads_at

/-- The index pairs of the features, and their look-up. -/
abbrev pairOps : List (HloOp τ sig (Elt Ideal)) := pickValsOps.drop 17

theorem pickVals_split : pickValsOps (F := Ideal) = pickValsOps.take 17 ++ pairOps := (List.take_append_drop 17 _).symm

/-- The index pairs of the mask bits, and their look-up. -/
abbrev bitOps : List (HloOp τ sig (Elt Ideal)) := pickMaskOps.drop 17

theorem pickMask_split : pickMaskOps (F := Ideal) = pickMaskOps.take 17 ++ bitOps := (List.take_append_drop 17 _).symm

theorem pair_v70 : (after pairOps V (Proc.devRef .tc main_v70) : Arr S4x1024x32x64) =
    Host.gather gather_S4x1024x64_S4x1024x32x2_S4x1024x32x64_3_01_n_n_01_3_1164 (V (Proc.devRef .tc main_arg1) : Arr S4x1024x64)
      (concatenate S4x1024x32x2 3 [⟨S4x1024x32x1, (V (Proc.devRef .tc main_v67) : Wds S4x1024x32x1)⟩,
        ⟨S4x1024x32x1, (V (Proc.devRef .tc main_v68) : Wds S4x1024x32x1)⟩] concatenates_S4x1024x32x1_S4x1024x32x1_S4x1024x32x2_d3) := by
  simp only [pairOps, pickValsOps, List.drop, after]
  rw [binary_result', binary_result_ne' _ _ _ _ _ (by decide), binary_result']

theorem bit_v86 : (after bitOps V (Proc.devRef .tc main_v86) : Bts S4x1024x32) =
    andi (Host.gather gather_S4x1024_S4x1024x32x2_S4x1024x32_n_01_n_n_01_3_11 (V (Proc.devRef .tc main_arg2) : Bts S4x1024)
      (concatenate S4x1024x32x2 3 [⟨S4x1024x32x1, (V (Proc.devRef .tc main_v82) : Wds S4x1024x32x1)⟩,
        ⟨S4x1024x32x1, (V (Proc.devRef .tc main_v83) : Wds S4x1024x32x1)⟩] concatenates_S4x1024x32x1_S4x1024x32x1_S4x1024x32x2_d3))
      (V (Proc.devRef .tc main_v29) : Bts S4x1024x32) := by
  simp only [bitOps, pickMaskOps, List.drop, after]
  rw [binary_result', binary_result', binary_result_ne' _ _ _ _ _ (by decide), binary_result', binary_result_ne' _ _ _ _ _ (by decide),
    binary_result_ne' _ _ _ _ _ (by decide)]

variable {n : Fin 1024} (hn : (V (Proc.devRef .tc main_indices) : Wds S4x1024x32) (ix3 b m k) = BitVec.ofNat 32 n.val)
include hn

set_option maxRecDepth 8192 in
theorem pickPairs_v53 : (after (pickPairsOps.take 13) V (Proc.devRef .tc main_v53) : Wds S4x1024x32x1) (ix4 b m k 0)
    = BitVec.ofNat 32 n.val := by
  simp only [pickPairsOps, List.take]
  after_reads_at
  rw [hn]
  exact wrap_small (by omega) _

set_option maxRecDepth 8192 in
theorem pickPairs_v55 (d : Fin 3) (h38 : (V (Proc.devRef .tc main_v38) : Wds S4x1x1) (ix3 b 0 0) = BitVec.ofNat 32 b.val)
    (h43 : Scalar.select ((V (Proc.devRef .tc main_v40) : Bts S1x1024x1) (ix3 0 m 0))
      ((V (Proc.devRef .tc main_v42) : Wds S1x1024x1) (ix3 0 m 0)) ((V (Proc.devRef .tc main_v33) : Wds S1x1024x1) (ix3 0 m 0))
      = BitVec.ofNat 32 m.val) :
    (after pickPairsOps V (Proc.devRef .tc main_v55) : Arr S4x1024x32x3) (ix4 b m k d)
      = (V (Proc.devRef .tc main_arg0) : Arr S4x1024x1024x3) (ix4 b m n d) := by
  rw [pickPairs_split, after_append, triple_v55]
  have h0 : (after (pickPairsOps.take 13) V (Proc.devRef .tc main_arg0) : Arr S4x1024x1024x3) = V (Proc.devRef .tc main_arg0) := by
    simp only [pickPairsOps, List.take]
    after_results_simp
  rw [h0]
  refine gather_pairs _ _ b m k d n ?_ ?_ ?_
  · pointwise
    exact (pickPairs_v51 V b m k).trans h38
  · pointwise
    exact (pickPairs_v52 V b m k).trans h43
  · pointwise
    exact pickPairs_v53 V b m k hn

set_option maxRecDepth 8192 in
theorem pickVals_v68 : (after (pickValsOps.take 17) V (Proc.devRef .tc main_v68) : Wds S4x1024x32x1) (ix4 b m k 0) = BitVec.ofNat 32 n.val := by
  simp only [pickValsOps, List.take]
  after_reads_at
  rw [hn]
  exact wrap_small (by omega) _

set_option maxRecDepth 8192 in
theorem pickMask_v83 : (after (pickMaskOps.take 17) V (Proc.devRef .tc main_v83) : Wds S4x1024x32x1) (ix4 b m k 0) = BitVec.ofNat 32 n.val := by
  simp only [pickMaskOps, List.take]
  after_reads_at
  rw [hn]
  exact wrap_small (by omega) _

omit hn
variable (h31 : (V (Proc.devRef .tc main_v31) : Wds S4x1x1) (ix3 b 0 0) = BitVec.ofNat 32 b.val)
include h31

set_option maxRecDepth 8192 in
theorem pickVals_v67 : (after (pickValsOps.take 17) V (Proc.devRef .tc main_v67) : Wds S4x1024x32x1) (ix4 b m k 0) = BitVec.ofNat 32 b.val := by
  simp only [pickValsOps, List.take]
  after_reads_at
  rw [h31]
  exact wrap_small (by omega) _

set_option maxRecDepth 8192 in
theorem pickMask_v82 : (after (pickMaskOps.take 17) V (Proc.devRef .tc main_v82) : Wds S4x1024x32x1) (ix4 b m k 0) = BitVec.ofNat 32 b.val := by
  simp only [pickMaskOps, List.take]
  after_reads_at
  rw [h31]
  exact wrap_small (by omega) _

include hn

set_option maxRecDepth 8192 in
theorem pickVals_v70 (c : Fin 64) : (after pickValsOps V (Proc.devRef .tc main_v70) : Arr S4x1024x32x64) (ix4 b m k c)
    = (V (Proc.devRef .tc main_arg1) : Arr S4x1024x64) (ix3 b n c) := by
  rw [pickVals_split, after_append, pair_v70]
  have h0 : (after (pickValsOps.take 17) V (Proc.devRef .tc main_arg1) : Arr S4x1024x64) = V (Proc.devRef .tc main_arg1) := by
    simp only [pickValsOps, List.take]
    after_results_simp
  rw [h0]
  refine gather_vals _ _ b m k c n ⟨?_, ?_⟩
  · pointwise
    exact pickVals_v67 V b m k h31
  · pointwise
    exact pickVals_v68 V b m k hn

set_option maxRecDepth 8192 in
theorem pickMask_v86 : (after pickMaskOps V (Proc.devRef .tc main_v86) : Bts S4x1024x32) (ix3 b m k)
    = IntOp.andi ((V (Proc.devRef .tc main_arg2) : Bts S4x1024) (ix2 b n)) ((V (Proc.devRef .tc main_v29) : Bts S4x1024x32) (ix3 b m k)) := by
  rw [pickMask_split, after_append, bit_v86]
  have h0 : (after (pickMaskOps.take 17) V (Proc.devRef .tc main_arg2) : Bts S4x1024) = V (Proc.devRef .tc main_arg2) := by
    simp only [pickMaskOps, List.take]
    after_results_simp
  have h1 : (after (pickMaskOps.take 17) V (Proc.devRef .tc main_v29) : Bts S4x1024x32) = V (Proc.devRef .tc main_v29) := by
    simp only [pickMaskOps, List.take]
    after_results_simp
  rw [h0, h1]
  refine congrArg₂ IntOp.andi (gather_mask _ _ b m k n ⟨?_, ?_⟩) rfl
  · pointwise
    exact pickMask_v82 V b m k h31
  · pointwise
    exact pickMask_v83 V b m k hn

end Cert.Proof.Ref

end
-- ==== Proof.RefNoise.lean ====
/-
The noise of the reference is the drawn array of the predicate's own text: `On_decided.fn_uniform` of the key and the bounds. Read stretch by stretch
from the last one back: what a stretch leaves, fed to the rest of the draw, is the draw from that stretch on.
-/
module

public import proofs.«01_k».proof.Proof.RefOps
public import proofs.«01_k».proof.Proof.Draw

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The draw from stretch 0 of the mixing on. -/
abbrev from0 (V : Valuation τ sig (Elt F)) : FVec F S4x1024x1024 .f32 :=
  toUnit (V (Proc.devRef .tc main_call1_v2)) (V (Proc.devRef .tc main_call1_v3))
    (On_decided.fn_threefry2x32 (F := F) (V (Proc.devRef .tc main_call1_v5)) (V (Proc.devRef .tc main_call1_v7)) (V (Proc.devRef .tc main_call1_v22)) (V (Proc.devRef .tc main_call1_v21)))

/-- The draw from stretch 1 of the mixing on. -/
abbrev from1 (V : Valuation τ sig (Elt F)) : FVec F S4x1024x1024 .f32 :=
  toUnit (V (Proc.devRef .tc main_call1_v2)) (V (Proc.devRef .tc main_call1_v3))
    (On_decided.fn_threefry2x32_part1 (F := F) (V (Proc.devRef .tc main_call1_v5)) (V (Proc.devRef .tc main_call1_v7)) (V (Proc.devRef .tc main_call1_call0_v1)) (V (Proc.devRef .tc main_call1_call0_v13)) (V (Proc.devRef .tc main_call1_call0_v18)))

/-- The draw from stretch 2 of the mixing on. -/
abbrev from2 (V : Valuation τ sig (Elt F)) : FVec F S4x1024x1024 .f32 :=
  toUnit (V (Proc.devRef .tc main_call1_v2)) (V (Proc.devRef .tc main_call1_v3))
    (On_decided.fn_threefry2x32_part2 (F := F) (V (Proc.devRef .tc main_call1_v5)) (V (Proc.devRef .tc main_call1_v7)) (V (Proc.devRef .tc main_call1_call0_v1)) (V (Proc.devRef .tc main_call1_call0_v35)) (V (Proc.devRef .tc main_call1_call0_v37)) (V (Proc.devRef .tc main_call1_call0_c_8)))

/-- The draw from stretch 3 of the mixing on. -/
abbrev from3 (V : Valuation τ sig (Elt F)) : FVec F S4x1024x1024 .f32 :=
  toUnit (V (Proc.devRef .tc main_call1_v2)) (V (Proc.devRef .tc main_call1_v3))
    (On_decided.fn_threefry2x32_part3 (F := F) (V (Proc.devRef .tc main_call1_v5)) (V (Proc.devRef .tc main_call1_v7)) (V (Proc.devRef .tc main_call1_call0_v1)) (V (Proc.devRef .tc main_call1_call0_v53)) (V (Proc.devRef .tc main_call1_call0_v54)) (V (Proc.devRef .tc main_call1_call0_v56)))

/-- The draw from stretch 4 of the mixing on. -/
abbrev from4 (V : Valuation τ sig (Elt F)) : FVec F S4x1024x1024 .f32 :=
  toUnit (V (Proc.devRef .tc main_call1_v2)) (V (Proc.devRef .tc main_call1_v3))
    (On_decided.fn_threefry2x32_part4 (F := F) (V (Proc.devRef .tc main_call1_v5)) (V (Proc.devRef .tc main_call1_v7)) (V (Proc.devRef .tc main_call1_call0_v1)) (V (Proc.devRef .tc main_call1_call0_v73)) (V (Proc.devRef .tc main_call1_call0_v74)) (V (Proc.devRef .tc main_call1_call0_v75)))

/-- The draw from stretch 5 of the mixing on. -/
abbrev from5 (V : Valuation τ sig (Elt F)) : FVec F S4x1024x1024 .f32 :=
  toUnit (V (Proc.devRef .tc main_call1_v2)) (V (Proc.devRef .tc main_call1_v3))
    (On_decided.fn_threefry2x32_part5 (F := F) (V (Proc.devRef .tc main_call1_v5)) (V (Proc.devRef .tc main_call1_v7)) (V (Proc.devRef .tc main_call1_call0_v1)) (V (Proc.devRef .tc main_call1_call0_v88)) (V (Proc.devRef .tc main_call1_call0_v94)))

/-- The draw from stretch 6 of the mixing on. -/
abbrev from6 (V : Valuation τ sig (Elt F)) : FVec F S4x1024x1024 .f32 :=
  toUnit (V (Proc.devRef .tc main_call1_v2)) (V (Proc.devRef .tc main_call1_v3))
    (On_decided.fn_threefry2x32_part6 (F := F) (V (Proc.devRef .tc main_call1_v5)) (V (Proc.devRef .tc main_call1_v7)) (V (Proc.devRef .tc main_call1_call0_v1)) (V (Proc.devRef .tc main_call1_call0_v108)) (V (Proc.devRef .tc main_call1_call0_v113)))

/-- The draw from stretch 7 of the mixing on. -/
abbrev from7 (V : Valuation τ sig (Elt F)) : FVec F S4x1024x1024 .f32 :=
  toUnit (V (Proc.devRef .tc main_call1_v2)) (V (Proc.devRef .tc main_call1_v3))
    (On_decided.fn_threefry2x32_part7 (F := F) (V (Proc.devRef .tc main_call1_v5)) (V (Proc.devRef .tc main_call1_v7)) (V (Proc.devRef .tc main_call1_call0_v1)) (V (Proc.devRef .tc main_call1_call0_v128)) (V (Proc.devRef .tc main_call1_call0_v129)) (V (Proc.devRef .tc main_call1_call0_v131)) (V (Proc.devRef .tc main_call1_call0_c_34)))

/-- The draw from stretch 8 of the mixing on. -/
abbrev from8 (V : Valuation τ sig (Elt F)) : FVec F S4x1024x1024 .f32 :=
  toUnit (V (Proc.devRef .tc main_call1_v2)) (V (Proc.devRef .tc main_call1_v3))
    (On_decided.fn_threefry2x32_part8 (F := F) (V (Proc.devRef .tc main_call1_v5)) (V (Proc.devRef .tc main_call1_call0_v1)) (V (Proc.devRef .tc main_call1_call0_v148)) (V (Proc.devRef .tc main_call1_call0_v149)) (V (Proc.devRef .tc main_call1_call0_v151)))

/-- The draw from stretch 9 of the mixing on. -/
abbrev from9 (V : Valuation τ sig (Elt F)) : FVec F S4x1024x1024 .f32 :=
  toUnit (V (Proc.devRef .tc main_call1_v2)) (V (Proc.devRef .tc main_call1_v3))
    (On_decided.fn_threefry2x32_part9 (F := F) (V (Proc.devRef .tc main_call1_v5)) (V (Proc.devRef .tc main_call1_call0_v163)) (V (Proc.devRef .tc main_call1_call0_v169)) (V (Proc.devRef .tc main_call1_call0_v170)))

/-- The draw from the mixed words on. -/
abbrev fromMixed (V : Valuation τ sig (Elt F)) : FVec F S4x1024x1024 .f32 :=
  toUnit (V (Proc.devRef .tc main_call1_v2)) (V (Proc.devRef .tc main_call1_v3)) ((V (Proc.devRef .tc main_call1_v23_0)), (V (Proc.devRef .tc main_call1_v23_1)))

/-- The draw from the counters on. -/
abbrev fromLane (V : Valuation τ sig (Elt F)) : FVec F S4x1024x1024 .f32 :=
  On_decided.fn_uniform_part1 (F := F) (V (Proc.devRef .tc main_call1_v2)) (V (Proc.devRef .tc main_call1_v3)) (V (Proc.devRef .tc main_call1_v5)) (V (Proc.devRef .tc main_call1_v7)) (V (Proc.devRef .tc main_call1_v18)) (V (Proc.devRef .tc main_call1_v19))

set_option maxRecDepth 8192 in
theorem unit_step (V : Valuation τ sig (Elt F)) : after unitOps V (Proc.devRef .tc main_v25) = fromMixed V := by
  simp only [fromMixed, unitOps, TRef.ternary, TRef.binary, TRef.nullary, TRef.unary, TRef.reshape, TRef.toBuf, TRef.ofBuf, cast_eq]
  after_results_simp
  rfl

set_option maxRecDepth 8192 in
theorem mix9_step (V : Valuation τ sig (Elt F)) : fromMixed (after mix9Ops V) = from9 V := by
  simp only [fromMixed, from9, mix9Ops, TRef.ternary, TRef.binary, TRef.nullary, TRef.unary, TRef.reshape, TRef.toBuf, TRef.ofBuf, cast_eq]
  after_results_simp
  rfl

set_option maxRecDepth 8192 in
theorem mix8_step (V : Valuation τ sig (Elt F)) : from9 (after mix8Ops V) = from8 V := by
  simp only [from8, from9, mix8Ops, TRef.ternary, TRef.binary, TRef.nullary, TRef.unary, TRef.reshape, TRef.toBuf, TRef.ofBuf, cast_eq]
  after_results_simp
  rfl

set_option maxRecDepth 8192 in
theorem mix7_step (V : Valuation τ sig (Elt F)) : from8 (after mix7Ops V) = from7 V := by
  simp only [from7, from8, mix7Ops, TRef.ternary, TRef.binary, TRef.nullary, TRef.unary, TRef.reshape, TRef.toBuf, TRef.ofBuf, cast_eq]
  after_results_simp
  rfl

set_option maxRecDepth 8192 in
theorem mix6_step (V : Valuation τ sig (Elt F)) : from7 (after mix6Ops V) = from6 V := by
  simp only [from6, from7, mix6Ops, TRef.ternary, TRef.binary, TRef.nullary, TRef.unary, TRef.reshape, TRef.toBuf, TRef.ofBuf, cast_eq]
  after_results_simp
  rfl

set_option maxRecDepth 8192 in
theorem mix5_step (V : Valuation τ sig (Elt F)) : from6 (after mix5Ops V) = from5 V := by
  simp only [from5, from6, mix5Ops, TRef.ternary, TRef.binary, TRef.nullary, TRef.unary, TRef.reshape, TRef.toBuf, TRef.ofBuf, cast_eq]
  after_results_simp
  rfl

set_option maxRecDepth 8192 in
theorem mix4_step (V : Valuation τ sig (Elt F)) : from5 (after mix4Ops V) = from4 V := by
  simp only [from4, from5, mix4Ops, TRef.ternary, TRef.binary, TRef.nullary, TRef.unary, TRef.reshape, TRef.toBuf, TRef.ofBuf, cast_eq]
  after_results_simp
  rfl

set_option maxRecDepth 8192 in
theorem mix3_step (V : Valuation τ sig (Elt F)) : from4 (after mix3Ops V) = from3 V := by
  simp only [from3, from4, mix3Ops, TRef.ternary, TRef.binary, TRef.nullary, TRef.unary, TRef.reshape, TRef.toBuf, TRef.ofBuf, cast_eq]
  after_results_simp
  rfl

set_option maxRecDepth 8192 in
theorem mix2_step (V : Valuation τ sig (Elt F)) : from3 (after mix2Ops V) = from2 V := by
  simp only [from2, from3, mix2Ops, TRef.ternary, TRef.binary, TRef.nullary, TRef.unary, TRef.reshape, TRef.toBuf, TRef.ofBuf, cast_eq]
  after_results_simp
  rfl

set_option maxRecDepth 8192 in
theorem mix1_step (V : Valuation τ sig (Elt F)) : from2 (after mix1Ops V) = from1 V := by
  simp only [from1, from2, mix1Ops, TRef.ternary, TRef.binary, TRef.nullary, TRef.unary, TRef.reshape, TRef.toBuf, TRef.ofBuf, cast_eq]
  after_results_simp
  rfl

set_option maxRecDepth 8192 in
theorem mix0_step (V : Valuation τ sig (Elt F)) : from1 (after mix0Ops V) = from0 V := by
  simp only [from0, from1, mix0Ops, TRef.ternary, TRef.binary, TRef.nullary, TRef.unary, TRef.reshape, TRef.toBuf, TRef.ofBuf, cast_eq]
  after_results_simp
  rfl

set_option maxRecDepth 8192 in
theorem lane_step (V : Valuation τ sig (Elt F)) : from0 (after laneOps V) = fromLane V := by
  simp only [from0, fromLane, laneOps, TRef.ternary, TRef.binary, TRef.nullary, TRef.unary, TRef.reshape, TRef.toBuf, TRef.ofBuf, cast_eq]
  after_results_simp
  rfl

set_option maxRecDepth 8192 in
theorem draw_step (V : Valuation τ sig (Elt F)) : fromLane (after drawOps V) =
    On_decided.fn_uniform (F := F) (V (Proc.devRef .tc main_v24)) (V (Proc.devRef .tc main_cst_6)) (V (Proc.devRef .tc main_cst_7)) := by
  simp only [fromLane, drawOps, TRef.ternary, TRef.binary, TRef.nullary, TRef.unary, TRef.reshape, TRef.toBuf, TRef.ofBuf, cast_eq]
  after_results_simp
  rfl

/-- The noise is the draw from the key and the bounds. -/
theorem noise (V : Valuation τ sig (Elt F)) :
    after unitOps (after mix9Ops (after mix8Ops (after mix7Ops (after mix6Ops (after mix5Ops (after mix4Ops (after mix3Ops (after mix2Ops (after mix1Ops (after mix0Ops (after laneOps (after drawOps V)))))))))))) (Proc.devRef .tc main_v25) =
    On_decided.fn_uniform (F := F) (V (Proc.devRef .tc main_v24)) (V (Proc.devRef .tc main_cst_6)) (V (Proc.devRef .tc main_cst_7)) := by
  rw [unit_step, mix9_step, mix8_step, mix7_step, mix6_step, mix5_step, mix4_step, mix3_step, mix2_step, mix1_step, mix0_step, lane_step, draw_step]

end Cert.Proof.Ref

end
-- ==== Proof.RefValue.lean ====
/-
The reference's results on a selected row, from its arguments.
-/
module

public import proofs.«01_k».proof.Proof.Target
public import proofs.«01_k».proof.Proof.RefNet
public import proofs.«01_k».proof.Proof.RefPick
public import proofs.«01_k».proof.Proof.RefNoise

@[expose] public section

noncomputable section

namespace Cert.Proof.Ref

open Cert.ReferenceIdeal Cert.ReferenceIdeal.Gen Idealize.ShloMosaic Idealize.ShloMosaic.TcCoe Idealize.SL.Sem Idealize.ShloMosaic.StableHlo

/-- The arguments are those of the start. -/
def Carries (V V' : Valuation τ sig (Elt Ideal)) : Prop := ∀ r, IsArg r → V' (Proc.devRef .tc r) = V (Proc.devRef .tc r)

theorem Carries.step {V V' : Valuation τ sig (Elt Ideal)} {l : List (HloOp τ sig (Elt Ideal))} {W : List (Ref sig .tc)} (h : Carries V V')
    (hl : Writes l W) (hW : ∀ r, IsArg r → r ∉ W) : Carries V (after l V') := fun r hr => (hl.kept V' (hW r hr)).trans (h r hr)

theorem Carries.refl (V : Valuation τ sig (Elt Ideal)) : Carries V V := fun _ _ => rfl

/-- The points and the mask a run starts from. -/
abbrev pts (V : Valuation τ sig (Elt Ideal)) : Arr S4x1024x1024x3 := V (Proc.devRef .tc main_arg0)
abbrev msk (V : Valuation τ sig (Elt Ideal)) : Bts S4x1024 := V (Proc.devRef .tc main_arg2)

variable (V : Valuation τ sig (Elt Ideal)) (b : Fin 4) (m : Fin 1024)

/-! ### The scores -/

theorem key_v24 : (after keyOps V (Proc.devRef .tc main_v24) : Wds S2) = key := by
  simp only [keyOps]
  after_results_simp
  rfl

theorem key_cst6 : (after keyOps V (Proc.devRef .tc main_cst_6) : FVec Ideal S_ .f32) = (constant S_ .f32 0x00000000#32 : FVec Ideal S_ .f32) := by
  simp only [keyOps]
  after_results_simp

theorem key_cst7 : (after keyOps V (Proc.devRef .tc main_cst_7) : FVec Ideal S_ .f32) = (constant S_ .f32 0x3F800000#32 : FVec Ideal S_ .f32) := by
  simp only [keyOps]
  after_results_simp

set_option maxRecDepth 8192 in
theorem near_v17 (n : Fin 1024) : (after nearOps V (Proc.devRef .tc main_v17) : Bts S4x1024x1024) (ix3 b m n)
    = IntOp.andi (IntOp.andi (BitVec.ofBool (decide (Scalar.select (msk V (ix2 b n))
        (Ideal.sqrt ((∑ d, pts V (ix4 b m n d) * pts V (ix4 b m n d)) + Ideal.ofBits .f32 0x2B8CBCCC#32)) (Ideal.ofBits .f32 0x4CBEBC20#32)
        < Ideal.ofBits .f32 0x40000000#32))) (msk V (ix2 b n))) (msk V (ix2 b m)) := by
  simp only [nearOps, TRef.ternary, TRef.unary]
  after_reads_at

theorem far_far : ¬ Ideal.ofBits .f32 0x4CBEBC20#32 < Ideal.ofBits .f32 0x40000000#32 := by
  simp [Ideal.ofBits, Ideal.ieee, -EReal.coe_mul]
  norm_num

theorem near_selected (h : Selected (pts V) (msk V) b m) (n : Fin 1024) :
    (after nearOps V (Proc.devRef .tc main_v17) : Bts S4x1024x1024) (ix3 b m n) = BitVec.ofBool (decide (Near (pair (pts V) b m n))) := by
  rw [near_v17, h.self]
  rcases h.seen n with hn | hn
  · rw [hn]
    show IntOp.andi (IntOp.andi (BitVec.ofBool (decide (Near (pair (pts V) b m n)))) 1#1) 1#1 = _
    generalize BitVec.ofBool (decide (Near (pair (pts V) b m n))) = x
    revert x; decide
  · rw [decide_eq_false hn]
    generalize hx : msk V (ix2 b n) = x
    match x with
    | 0#1 => simp [IntOp.andi]
    | 1#1 =>
      show IntOp.andi (IntOp.andi (BitVec.ofBool (decide (Near (pair (pts V) b m n)))) 1#1) 1#1 = _
      rw [decide_eq_false hn]
      rfl

set_option maxRecDepth 8192 in
theorem score_indices (k : Fin 32) (s : FVec Ideal S4x1024x1024 .f32)
    (hs : ∀ n, FloatOps.uitofp (F := Ideal) .f32 ((V (Proc.devRef .tc main_v17) : Bts S4x1024x1024) (ix3 b m n))
      + (V (Proc.devRef .tc main_v25) : Arr S4x1024x1024) (ix3 b m n) = s (ix3 b m n)) :
    (after scoreOps V (Proc.devRef .tc main_indices) : Wds S4x1024x32) (ix3 b m k) = BitVec.ofNat 32 (chosen s b m k).val
    ∧ (after scoreOps V (Proc.devRef .tc main_v29) : Bts S4x1024x32) (ix3 b m k) = BitVec.ofBool (decide (1 < s (ix3 b m (chosen s b m k)))) := by
  have hc : ∀ n, addf (F := Ideal) (uitofp .f32 (V (Proc.devRef .tc main_v17) : Bts S4x1024x1024)) (V (Proc.devRef .tc main_v25)) (ix3 b m n) = s (ix3 b m n) := by
    intro n
    have := hs n
    pointwise
    exact this
  constructor
  · simp only [scoreOps]
    after_results_simp
    refine (topK_snd _ _ _ _ _).trans ?_
    rw [chosen_congr _ s b m hc]
  · simp only [scoreOps]
    after_reads_at
    rw [topK_fst, hc, chosen_congr _ s b m hc]

/-- The run up to the scores' sort. -/
def scored (V : Valuation τ sig (Elt Ideal)) : Valuation τ sig (Elt Ideal) :=
  after scoreOps (after unitOps (after mix9Ops (after mix8Ops (after mix7Ops (after mix6Ops (after mix5Ops (after mix4Ops (after mix3Ops (after mix2Ops (after mix1Ops (after mix0Ops (after laneOps (after drawOps (after keyOps (after nearOps V)))))))))))))))

theorem scored_carries : Carries V (scored V) :=
  (((((((((((((((((Carries.refl V).step nearOps_writes fun _ hr => hr.1).step keyOps_writes fun _ hr => hr.2.1).step drawOps_writes fun _ hr => hr.2.2.1).step laneOps_writes fun _ hr => hr.2.2.2.1).step mix0Ops_writes fun _ hr => hr.2.2.2.2.1).step mix1Ops_writes fun _ hr => hr.2.2.2.2.2.1).step mix2Ops_writes fun _ hr => hr.2.2.2.2.2.2.1).step mix3Ops_writes fun _ hr => hr.2.2.2.2.2.2.2.1).step mix4Ops_writes fun _ hr => hr.2.2.2.2.2.2.2.2.1).step mix5Ops_writes fun _ hr => hr.2.2.2.2.2.2.2.2.2.1).step mix6Ops_writes fun _ hr => hr.2.2.2.2.2.2.2.2.2.2.1).step mix7Ops_writes fun _ hr => hr.2.2.2.2.2.2.2.2.2.2.2.1).step mix8Ops_writes fun _ hr => hr.2.2.2.2.2.2.2.2.2.2.2.2.1).step mix9Ops_writes fun _ hr => hr.2.2.2.2.2.2.2.2.2.2.2.2.2.1).step unitOps_writes fun _ hr => hr.2.2.2.2.2.2.2.2.2.2.2.2.2.2.1).step scoreOps_writes fun _ hr => hr.2.2.2.2.2.2.2.2.2.2.2.2.2.2.2.1)

theorem scored_indices (h : Selected (pts V) (msk V) b m) (k : Fin 32) :
    (scored V (Proc.devRef .tc main_indices) : Wds S4x1024x32) (ix3 b m k) = BitVec.ofNat 32 (first (pts V) b m k).val
    ∧ (scored V (Proc.devRef .tc main_v29) : Bts S4x1024x32) (ix3 b m k)
      = BitVec.ofBool (decide (1 < (scoreAt (pts V) b m (first (pts V) b m k) : EReal))) := by
  refine score_indices _ b m k (scoreArr (pts V)) fun n => ?_
  rw [noise, unitOps_writes.kept _ (by decide : main_v17 ∉ unitOpsDst), mix9Ops_writes.kept _ (by decide : main_v17 ∉ mix9OpsDst), mix8Ops_writes.kept _ (by decide : main_v17 ∉ mix8OpsDst), mix7Ops_writes.kept _ (by decide : main_v17 ∉ mix7OpsDst), mix6Ops_writes.kept _ (by decide : main_v17 ∉ mix6OpsDst), mix5Ops_writes.kept _ (by decide : main_v17 ∉ mix5OpsDst), mix4Ops_writes.kept _ (by decide : main_v17 ∉ mix4OpsDst), mix3Ops_writes.kept _ (by decide : main_v17 ∉ mix3OpsDst), mix2Ops_writes.kept _ (by decide : main_v17 ∉ mix2OpsDst), mix1Ops_writes.kept _ (by decide : main_v17 ∉ mix1OpsDst), mix0Ops_writes.kept _ (by decide : main_v17 ∉ mix0OpsDst), laneOps_writes.kept _ (by decide : main_v17 ∉ laneOpsDst), drawOps_writes.kept _ (by decide : main_v17 ∉ drawOpsDst), key_v24, key_cst6, key_cst7, noise_eq,
    keyOps_writes.kept _ (by decide : main_v17 ∉ keyOpsDst), near_selected V b m h]
  exact score_eq _ (pts V) b m n rfl

/-- The run up to the network. -/
def picked (V : Valuation τ sig (Elt Ideal)) : Valuation τ sig (Elt Ideal) :=
  after pickMaskOps (after pickValsOps (after pickPairsOps (after gridOps V)))

theorem picked_carries {V V' : Valuation τ sig (Elt Ideal)} (h : Carries V V') : Carries V (picked V') :=
  ((((h.step gridOps_writes fun _ hr => hr.2.2.2.2.2.2.2.2.2.2.2.2.2.2.2.2.1).step pickPairsOps_writes fun _ hr => hr.2.2.2.2.2.2.2.2.2.2.2.2.2.2.2.2.2.1).step pickValsOps_writes fun _ hr => hr.2.2.2.2.2.2.2.2.2.2.2.2.2.2.2.2.2.2.1).step pickMaskOps_writes fun _ hr => hr.2.2.2.2.2.2.2.2.2.2.2.2.2.2.2.2.2.2.2.1)

section
variable (n : Fin 1024) (k : Fin 32) (hn : (V (Proc.devRef .tc main_indices) : Wds S4x1024x32) (ix3 b m k) = BitVec.ofNat 32 n.val)
include hn

theorem picked_v55 (d : Fin 3) : (picked V (Proc.devRef .tc main_v55) : Arr S4x1024x32x3) (ix4 b m k d) = pts V (ix4 b m n d) := by
  unfold picked
  rw [pickMaskOps_writes.kept _ (by decide : main_v55 ∉ pickMaskOpsDst), pickValsOps_writes.kept _ (by decide : main_v55 ∉ pickValsOpsDst)]
  rw [pickPairs_v55 _ b m k (n := n) (by rw [gridOps_writes.kept _ (by decide : main_indices ∉ gridOpsDst)]; exact hn) d (grid_v38 V b) (grid_v43 V m),
    gridOps_writes.kept _ (by decide : main_arg0 ∉ gridOpsDst)]

theorem picked_v70 (c : Fin 64) : (picked V (Proc.devRef .tc main_v70) : Arr S4x1024x32x64) (ix4 b m k c)
    = (V (Proc.devRef .tc main_arg1) : Arr S4x1024x64) (ix3 b n c) := by
  unfold picked
  rw [pickMaskOps_writes.kept _ (by decide : main_v70 ∉ pickMaskOpsDst)]
  rw [pickVals_v70 _ b m k (n := n) (by rw [pickPairsOps_writes.kept _ (by decide : main_indices ∉ pickPairsOpsDst), gridOps_writes.kept _ (by decide : main_indices ∉ gridOpsDst)]; exact hn)
    (by rw [pickPairsOps_writes.kept _ (by decide : main_v31 ∉ pickPairsOpsDst)]; exact grid_v31 V b) c, pickPairsOps_writes.kept _ (by decide : main_arg1 ∉ pickPairsOpsDst), gridOps_writes.kept _ (by decide : main_arg1 ∉ gridOpsDst)]

theorem picked_v86 : (picked V (Proc.devRef .tc main_v86) : Bts S4x1024x32) (ix3 b m k)
    = IntOp.andi (msk V (ix2 b n)) ((V (Proc.devRef .tc main_v29) : Bts S4x1024x32) (ix3 b m k)) := by
  unfold picked
  rw [pickMask_v86 _ b m k (n := n) (by rw [pickValsOps_writes.kept _ (by decide : main_indices ∉ pickValsOpsDst), pickPairsOps_writes.kept _ (by decide : main_indices ∉ pickPairsOpsDst), gridOps_writes.kept _ (by decide : main_indices ∉ gridOpsDst)]; exact hn)
    (by rw [pickValsOps_writes.kept _ (by decide : main_v31 ∉ pickValsOpsDst), pickPairsOps_writes.kept _ (by decide : main_v31 ∉ pickPairsOpsDst)]; exact grid_v31 V b), pickValsOps_writes.kept _ (by decide : main_arg2 ∉ pickValsOpsDst), pickPairsOps_writes.kept _ (by decide : main_arg2 ∉ pickPairsOpsDst), gridOps_writes.kept _ (by decide : main_arg2 ∉ gridOpsDst),
    pickValsOps_writes.kept _ (by decide : main_v29 ∉ pickValsOpsDst), pickPairsOps_writes.kept _ (by decide : main_v29 ∉ pickPairsOpsDst), gridOps_writes.kept _ (by decide : main_v29 ∉ gridOpsDst)]

end

/-- The network's parameters. -/
def net (V : Valuation τ sig (Elt Ideal)) : Net :=
  ⟨V (Proc.devRef .tc main_arg3), V (Proc.devRef .tc main_arg4), V (Proc.devRef .tc main_arg5), V (Proc.devRef .tc main_arg6),
    V (Proc.devRef .tc main_arg7), V (Proc.devRef .tc main_arg8)⟩

/-- The run through the network. -/
def weighed (V : Valuation τ sig (Elt Ideal)) : Valuation τ sig (Elt Ideal) :=
  after layerThreeOps (after layerTwoOps (after swishOneOps (after layerOneOps V)))

theorem weighed_carries {V V' : Valuation τ sig (Elt Ideal)} (h : Carries V V') : Carries V (weighed V') :=
  ((((h.step layerOneOps_writes fun _ hr => hr.2.2.2.2.2.2.2.2.2.2.2.2.2.2.2.2.2.2.2.2.1).step swishOneOps_writes fun _ hr => hr.2.2.2.2.2.2.2.2.2.2.2.2.2.2.2.2.2.2.2.2.2.1).step layerTwoOps_writes fun _ hr => hr.2.2.2.2.2.2.2.2.2.2.2.2.2.2.2.2.2.2.2.2.2.2.1).step layerThreeOps_writes fun _ hr => hr.2.2.2.2.2.2.2.2.2.2.2.2.2.2.2.2.2.2.2.2.2.2.2.1)

theorem weighed_v119 (k : Fin 32) (p : Fin 16) : (weighed V (Proc.devRef .tc main_v119) : Arr S4x1024x32x16) (ix4 b m k p)
    = (net V).weight (fun d => (V (Proc.devRef .tc main_v55) : Arr S4x1024x32x3) (ix4 b m k d)) p := by
  unfold weighed Net.weight net
  rw [layerThree_v119, layerTwoOps_writes.kept _ (by decide : main_arg7 ∉ layerTwoOpsDst), swishOneOps_writes.kept _ (by decide : main_arg7 ∉ swishOneOpsDst), layerOneOps_writes.kept _ (by decide : main_arg7 ∉ layerOneOpsDst), layerTwoOps_writes.kept _ (by decide : main_arg8 ∉ layerTwoOpsDst), swishOneOps_writes.kept _ (by decide : main_arg8 ∉ swishOneOpsDst), layerOneOps_writes.kept _ (by decide : main_arg8 ∉ layerOneOpsDst)]
  refine congrArg (fun f => layer _ _ f p) (funext fun i => ?_)
  rw [layerTwo_v108, swishOneOps_writes.kept _ (by decide : main_arg5 ∉ swishOneOpsDst), layerOneOps_writes.kept _ (by decide : main_arg5 ∉ layerOneOpsDst), swishOneOps_writes.kept _ (by decide : main_arg6 ∉ swishOneOpsDst), layerOneOps_writes.kept _ (by decide : main_arg6 ∉ layerOneOpsDst)]
  exact congrArg (fun f => layer _ _ f i) (funext fun j => layerOne_v97 V b m k j)

theorem weighed_kept {r : Ref sig .tc} (h : r ∉ layerOneOpsDst ∧ r ∉ swishOneOpsDst ∧ r ∉ layerTwoOpsDst ∧ r ∉ layerThreeOpsDst) :
    weighed V (Proc.devRef .tc r) = V (Proc.devRef .tc r) := by
  unfold weighed
  rw [layerThreeOps_writes.kept _ h.2.2.2, layerTwoOps_writes.kept _ h.2.2.1, swishOneOps_writes.kept _ h.2.1, layerOneOps_writes.kept _ h.1]

theorem ops_split : after ops V = after outOps (after maskOps (weighed (picked (scored V)))) := after_ops V

/-- A chosen point counts if its score is above 1; it is then near, so not masked out. -/
theorem counts (h : Selected (pts V) (msk V) b m) (n : Fin 1024) :
    IntOp.andi (msk V (ix2 b n)) (BitVec.ofBool (decide (1 < (scoreAt (pts V) b m n : EReal)))) = BitVec.ofBool (decide (1 < scoreAt (pts V) b m n)) := by
  have hc : (1 < (scoreAt (pts V) b m n : EReal)) ↔ 1 < scoreAt (pts V) b m n := by exact_mod_cast Iff.rfl
  by_cases hs : 1 < scoreAt (pts V) b m n
  · have hm : msk V (ix2 b n) = 1#1 := (h.seen n).resolve_right (not_not.mpr (((scores (pts V) b m).one_le n).mp hs.le))
    rw [hm, decide_eq_true (hc.mpr hs), decide_eq_true hs]
    rfl
  · rw [decide_eq_false (fun h => hs (hc.mp h)), decide_eq_false hs]
    generalize msk V (ix2 b n) = x
    revert x; decide

theorem select_bool (p : Prop) [Decidable p] (x y : EReal) : Scalar.select (BitVec.ofBool (decide p)) x y = if p then x else y := by
  by_cases h : p <;> simp [h, Scalar.select]

/-- A result of a selected row. -/
theorem value (o : Fin 64) (h : Selected (pts V) (msk V) b m) : (after ops V (Proc.devRef .tc main_v134) : Arr S4x1024x64) (ix3 b m o)
    = target (pts V) (V (Proc.devRef .tc main_arg1)) (net V) (V (Proc.devRef .tc main_arg9)) (V (Proc.devRef .tc main_arg10)) b m o := by
  have hS := scored_carries V
  have hP := picked_carries hS
  have hM : Carries V (after maskOps (weighed (picked (scored V)))) := (weighed_carries hP).step maskOps_writes fun _ hr => hr.2.2.2.2.2.2.2.2.2.2.2.2.2.2.2.2.2.2.2.2.2.2.2.2.1
  have hi := fun k => scored_indices V b m h k
  rw [ops_split, out_v134, hM _ arg2_isArg, hM _ arg9_isArg, hM _ arg10_isArg]
  have hb : ∀ k, (picked (scored V) (Proc.devRef .tc main_v86) : Bts S4x1024x32) (ix3 b m k)
      = BitVec.ofBool (decide (1 < scoreAt (pts V) b m (first (pts V) b m k))) := fun k => by
    rw [picked_v86 (scored V) b m (first (pts V) b m k) k (hi k).1, (hi k).2,
      show msk (scored V) = msk V from hS _ arg2_isArg]
    exact counts V b m h _
  have hs : Scalar.select (msk V (ix2 b m)) = fun (x _ : EReal) => x := by
    rw [h.self]; rfl
  rw [hs]
  refine result_chosen _ _ _ _ _ _ b m o h _ _ (fun k c => ?_) fun k p => ?_
  · rw [mask_v125, weighed_kept _ (by decide), weighed_kept _ (by decide), hb, select_bool,
      picked_v70 (scored V) b m (first (pts V) b m k) k (hi k).1, hS _ arg1_isArg]
  · rw [mask_v122, weighed_kept _ (by decide), hb, select_bool, weighed_v119]
    have hw : net (picked (scored V)) = net V := by
      unfold net
      rw [hP _ arg3_isArg, hP _ arg4_isArg, hP _ arg5_isArg, hP _ arg6_isArg, hP _ arg7_isArg, hP _ arg8_isArg]
    have hd : (fun d => (picked (scored V) (Proc.devRef .tc main_v55) : Arr S4x1024x32x3) (ix4 b m k d))
        = pair (pts V) b m (first (pts V) b m k) := funext fun d => by
      rw [picked_v55 (scored V) b m (first (pts V) b m k) k (hi k).1]
      exact congrFun (hS _ arg0_isArg) _
    rw [hw, hd]

end Cert.Proof.Ref

end
-- ==== Proof.Agree.lean ====
/-
The kernel and the reference agree on the rows the mask selects: both hold the common value of a result there.
-/
module

public import proofs.«01_k».proof.Defs
public import proofs.«01_k».proof.Proof.KerOut
public import proofs.«01_k».proof.Proof.RefValue
public import proofs.«01_k».proof.Proof.Gen.On_decided

@[expose] public section

noncomputable section

namespace Cert.Proof

open Idealize.ShloMosaic Idealize.ShloMosaic.TcCoe Idealize.ShloMosaic.StableHlo Idealize.SL.Sem

/-- An index of the results is its three coordinates. -/
theorem idx3 (i : (⟨3, ![4, 1024, 64]⟩ : Shape).Idx) : i = ix3 (i 0) (i 1) (i 2) := Ker.ext3 _ _ rfl rfl rfl

/-- The results of a launch, row by row. -/
def results (m : (ℓ : Loc KernelIdeal.nD KernelIdeal.τ KernelIdeal.sig) → Buf (Elt Ideal) ℓ) (c : Dev KernelIdeal.nD) : Arr On_decided.S4x1024x64 :=
  fun i => target (Ker.pts m c) (Ker.feat m c) (Ker.net m c) (Ker.wl m c) (Ker.bl m c) (i 0) (i 1) (i 2)

/-- The kernel's array is the results, at every index. -/
theorem kernel_results (m : (ℓ : Loc KernelIdeal.nD KernelIdeal.τ KernelIdeal.sig) → Buf (Elt Ideal) ℓ) (c : Dev KernelIdeal.nD)
    (i : (⟨3, ![4, 1024, 64]⟩ : Shape).Idx) :
    ((KernelIdeal.Gen.dats m 0 c).arrAt 14 KernelIdeal.cfg0.N : FVec Ideal On_decided.S4x1024x64 .f32) i = results m c i := by
  rw [idx3 i]
  exact Ker.value m c _ _ _

/-- The reference's value, its arguments being the kernel's. -/
theorem reference_results (m : (ℓ : Loc KernelIdeal.nD KernelIdeal.τ KernelIdeal.sig) → Buf (Elt Ideal) ℓ) (c : Dev KernelIdeal.nD)
    (mask : IVec On_decided.S4x1024 1) (V : Valuation ReferenceIdeal.τ ReferenceIdeal.sig (Elt Ideal))
    (h0 : V (Proc.devRef .tc ReferenceIdeal.main_arg0) = Ker.pts m c) (h1 : V (Proc.devRef .tc ReferenceIdeal.main_arg1) = Ker.feat m c)
    (h2 : V (Proc.devRef .tc ReferenceIdeal.main_arg2) = mask) (hn : Ref.net V = Ker.net m c)
    (h9 : V (Proc.devRef .tc ReferenceIdeal.main_arg9) = Ker.wl m c) (h10 : V (Proc.devRef .tc ReferenceIdeal.main_arg10) = Ker.bl m c)
    (i : (⟨3, ![4, 1024, 64]⟩ : Shape).Idx) (hs : Selected (Ker.pts m c) mask (i 0) (i 1)) :
    (after Ref.ops V (Proc.devRef .tc ReferenceIdeal.main_v134) : Arr On_decided.S4x1024x64) i = results m c i := by
  have hp : Ref.pts V = Ker.pts m c := h0
  have hm : Ref.msk V = mask := h2
  refine (congrArg (after Ref.ops V (Proc.devRef .tc ReferenceIdeal.main_v134) : Arr On_decided.S4x1024x64) (idx3 i)).trans ?_
  refine (Ref.value V (i 0) (i 1) (i 2) (by rw [hp, hm]; exact hs)).trans ?_
  rw [hp, h1, hn, h9, h10]
  rfl

/-- THE CLAIM: equal results on every selected row. -/
theorem agree : algebraic_KernelIdeal_ReferenceIdeal_on_decided (hKernelIdeal := KernelIdeal.Gen.facts) (hReferenceIdeal := ReferenceIdeal.Gen.facts)
    (hOn_decided := On_decided.Gen.facts) := by
  intro m g m' g' _ hargs
  refine ⟨results m, (θ_run _ _ _).mono (fun r h c => ⟨fun i _ => ?_, (h c).2⟩) (KernelIdeal.Value.run_blocks m g),
    (θ_run _ _ _).mono (fun r h c => ⟨fun i hi => ?_, (h c ReferenceIdeal.main_arg0).trans (Ref.arg_kept _ Ref.arg0_isArg), (h c ReferenceIdeal.main_arg1).trans (Ref.arg_kept _ Ref.arg1_isArg), (h c ReferenceIdeal.main_arg2).trans (Ref.arg_kept _ Ref.arg2_isArg), (h c ReferenceIdeal.main_arg3).trans (Ref.arg_kept _ Ref.arg3_isArg), (h c ReferenceIdeal.main_arg4).trans (Ref.arg_kept _ Ref.arg4_isArg), (h c ReferenceIdeal.main_arg5).trans (Ref.arg_kept _ Ref.arg5_isArg), (h c ReferenceIdeal.main_arg6).trans (Ref.arg_kept _ Ref.arg6_isArg), (h c ReferenceIdeal.main_arg7).trans (Ref.arg_kept _ Ref.arg7_isArg), (h c ReferenceIdeal.main_arg8).trans (Ref.arg_kept _ Ref.arg8_isArg), (h c ReferenceIdeal.main_arg9).trans (Ref.arg_kept _ Ref.arg9_isArg), (h c ReferenceIdeal.main_arg10).trans (Ref.arg_kept _ Ref.arg10_isArg)⟩) (Ref.run m' g')⟩
  · exact (congrFun (h c).1 i).trans (kernel_results m c i)
  · obtain ⟨e0, e1, e2, e3, e4, e5, e6, e7, e8, e9, e10⟩ := hargs c
    refine (congrFun (h c ReferenceIdeal.main_v134) i).trans (reference_results m c _ (launchContents m' c) e0 e1 e2 ?_ e9 e10 i ?_)
    · unfold Ref.net
      exact congr (congr (congr (congr (congr (congrArg Net.mk e3) e4) e5) e6) e7) e8
    · rw [idx3 i] at hi
      exact selected _ _ _ _ _ _ _ _ _ _ _ _ _ _ hi

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.On_decided
public import proofs.«01_k».proof.Proof.RefKept
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts, Cert.On_decided.Gen.facts,
  fun m ρ _ => Cert.Kernel.Gen.frame m ρ, fun m ρ _ => Cert.KernelIdeal.Gen.frame m ρ, fun m ρ _ => Cert.Proof.Ref.frame m ρ, trivial, agree⟩

end Cert.Proof

end
